-- ==== Defs.lean ====
def Pre_InS5 (m : (ℓ : Loc Cert.InS5.nD Cert.InS5.τ Cert.InS5.sig) → Buf (Elt Bits) ℓ) : Prop :=
  True

def Pre_InS5Ideal (m : (ℓ : Loc Cert.InS5Ideal.nD Cert.InS5Ideal.τ Cert.InS5Ideal.sig) → Buf (Elt Ideal) ℓ) : Prop :=
  True

def Pre_RefInS5Ideal (m : (ℓ : Loc Cert.RefInS5Ideal.nD Cert.RefInS5Ideal.τ Cert.RefInS5Ideal.sig) → Buf (Elt Ideal) ℓ) : Prop :=
  True

def Pre_InGm (m : (ℓ : Loc Cert.InGm.nD Cert.InGm.τ Cert.InGm.sig) → Buf (Elt Bits) ℓ) : Prop :=
  True

def Pre_InGmIdeal (m : (ℓ : Loc Cert.InGmIdeal.nD Cert.InGmIdeal.τ Cert.InGmIdeal.sig) → Buf (Elt Ideal) ℓ) : Prop :=
  True

def Pre_RefInGmIdeal (m : (ℓ : Loc Cert.RefInGmIdeal.nD Cert.RefInGmIdeal.τ Cert.RefInGmIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_RefQueryIdeal (m : (ℓ : Loc Cert.RefQueryIdeal.nD Cert.RefQueryIdeal.τ Cert.RefQueryIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_RefPeerIdeal (m : (ℓ : Loc Cert.RefPeerIdeal.nD Cert.RefPeerIdeal.τ Cert.RefPeerIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_RefLastIdeal (m : (ℓ : Loc Cert.RefLastIdeal.nD Cert.RefLastIdeal.τ Cert.RefLastIdeal.sig) → Buf (Elt Ideal) ℓ) : Prop :=
  True

def quiescent_InS5 [hInS5 : Cert.InS5.Facts] : Prop :=
  ∀ (m : (ℓ : Loc Cert.InS5.nD Cert.InS5.τ Cert.InS5.sig) → Buf (Elt Bits) ℓ) (g : Dev Cert.InS5.nD → PrngReg), Pre_InS5 m →
    θ_run (Cert.InS5.defs (F := Bits)) (onTc (τ := Cert.InS5.τ) (Cert.InS5.main (F := Bits))) ⟨m, fun _ => 0, g⟩ (fun r => (∀ c : Dev Cert.InS5.nD,
      r.2.mem ((c.tc : Thread Cert.InS5.nD Cert.InS5.τ).loc Cert.InS5.main_arg0) = m ((c.tc : Thread Cert.InS5.nD Cert.InS5.τ).loc Cert.InS5.main_arg0)
      ∧ r.2.mem ((c.tc : Thread Cert.InS5.nD Cert.InS5.τ).loc Cert.InS5.main_arg1) = m ((c.tc : Thread Cert.InS5.nD Cert.InS5.τ).loc Cert.InS5.main_arg1))
      ∧ r.2.sem = fun _ => 0)

def quiescent_InS5Ideal [hInS5Ideal : Cert.InS5Ideal.Facts] : Prop :=
  ∀ (m : (ℓ : Loc Cert.InS5Ideal.nD Cert.InS5Ideal.τ Cert.InS5Ideal.sig) → Buf (Elt Ideal) ℓ) (g : Dev Cert.InS5Ideal.nD → PrngReg), Pre_InS5Ideal m →
    θ_run (Cert.InS5Ideal.defs (F := Ideal)) (onTc (τ := Cert.InS5Ideal.τ) (Cert.InS5Ideal.main (F := Ideal))) ⟨m, fun _ => 0, g⟩ (fun r => (∀ c : Dev Cert.InS5Ideal.nD,
      r.2.mem ((c.tc : Thread Cert.InS5Ideal.nD Cert.InS5Ideal.τ).loc Cert.InS5Ideal.main_arg0) = m ((c.tc : Thread Cert.InS5Ideal.nD Cert.InS5Ideal.τ).loc Cert.InS5Ideal.main_arg0)
      ∧ r.2.mem ((c.tc : Thread Cert.InS5Ideal.nD Cert.InS5Ideal.τ).loc Cert.InS5Ideal.main_arg1) = m ((c.tc : Thread Cert.InS5Ideal.nD Cert.InS5Ideal.τ).loc Cert.InS5Ideal.main_arg1))
      ∧ r.2.sem = fun _ => 0)

def quiescent_RefInS5Ideal [hRefInS5Ideal : Cert.RefInS5Ideal.Facts] : Prop :=
  ∀ (m : (ℓ : Loc Cert.RefInS5Ideal.nD Cert.RefInS5Ideal.τ Cert.RefInS5Ideal.sig) → Buf (Elt Ideal) ℓ) (g : Dev Cert.RefInS5Ideal.nD → PrngReg), Pre_RefInS5Ideal m →
    θ_run (Cert.RefInS5Ideal.defs (F := Ideal)) (onTc (τ := Cert.RefInS5Ideal.τ) (Cert.RefInS5Ideal.main (F := Ideal))) ⟨m, fun _ => 0, g⟩ (fun r => (∀ c : Dev Cert.RefInS5Ideal.nD,
      r.2.mem ((c.tc : Thread Cert.RefInS5Ideal.nD Cert.RefInS5Ideal.τ).loc Cert.RefInS5Ideal.main_arg0) = m ((c.tc : Thread Cert.RefInS5Ideal.nD Cert.RefInS5Ideal.τ).loc Cert.RefInS5Ideal.main_arg0)
      ∧ r.2.mem ((c.tc : Thread Cert.RefInS5Ideal.nD Cert.RefInS5Ideal.τ).loc Cert.RefInS5Ideal.main_arg1) = m ((c.tc : Thread Cert.RefInS5Ideal.nD Cert.RefInS5Ideal.τ).loc Cert.RefInS5Ideal.main_arg1))
      ∧ r.2.sem = fun _ => 0)

def quiescent_InGm [hInGm : Cert.InGm.Facts] : Prop :=
  ∀ (m : (ℓ : Loc Cert.InGm.nD Cert.InGm.τ Cert.InGm.sig) → Buf (Elt Bits) ℓ) (g : Dev Cert.InGm.nD → PrngReg), Pre_InGm m →
    θ_run (Cert.InGm.defs (F := Bits)) (onTc (τ := Cert.InGm.τ) (Cert.InGm.main (F := Bits))) ⟨m, fun _ => 0, g⟩ (fun r => (∀ c : Dev Cert.InGm.nD,
      r.2.mem ((c.tc : Thread Cert.InGm.nD Cert.InGm.τ).loc Cert.InGm.main_arg0) = m ((c.tc : Thread Cert.InGm.nD Cert.InGm.τ).loc Cert.InGm.main_arg0)
      ∧ r.2.mem ((c.tc : Thread Cert.InGm.nD Cert.InGm.τ).loc Cert.InGm.main_arg1) = m ((c.tc : Thread Cert.InGm.nD Cert.InGm.τ).loc Cert.InGm.main_arg1))
      ∧ r.2.sem = fun _ => 0)

def quiescent_InGmIdeal [hInGmIdeal : Cert.InGmIdeal.Facts] : Prop :=
  ∀ (m : (ℓ : Loc Cert.InGmIdeal.nD Cert.InGmIdeal.τ Cert.InGmIdeal.sig) → Buf (Elt Ideal) ℓ) (g : Dev Cert.InGmIdeal.nD → PrngReg), Pre_InGmIdeal m →
    θ_run (Cert.InGmIdeal.defs (F := Ideal)) (onTc (τ := Cert.InGmIdeal.τ) (Cert.InGmIdeal.main (F := Ideal))) ⟨m, fun _ => 0, g⟩ (fun r => (∀ c : Dev Cert.InGmIdeal.nD,
      r.2.mem ((c.tc : Thread Cert.InGmIdeal.nD Cert.InGmIdeal.τ).loc Cert.InGmIdeal.main_arg0) = m ((c.tc : Thread Cert.InGmIdeal.nD Cert.InGmIdeal.τ).loc Cert.InGmIdeal.main_arg0)
      ∧ r.2.mem ((c.tc : Thread Cert.InGmIdeal.nD Cert.InGmIdeal.τ).loc Cert.InGmIdeal.main_arg1) = m ((c.tc : Thread Cert.InGmIdeal.nD Cert.InGmIdeal.τ).loc Cert.InGmIdeal.main_arg1))
      ∧ r.2.sem = fun _ => 0)

def quiescent_RefInGmIdeal [hRefInGmIdeal : Cert.RefInGmIdeal.Facts] : Prop :=
  ∀ (m : (ℓ : Loc Cert.RefInGmIdeal.nD Cert.RefInGmIdeal.τ Cert.RefInGmIdeal.sig) → Buf (Elt Ideal) ℓ) (g : Dev Cert.RefInGmIdeal.nD → PrngReg), Pre_RefInGmIdeal m →
    θ_run (Cert.RefInGmIdeal.defs (F := Ideal)) (onTc (τ := Cert.RefInGmIdeal.τ) (Cert.RefInGmIdeal.main (F := Ideal))) ⟨m, fun _ => 0, g⟩ (fun r => (∀ c : Dev Cert.RefInGmIdeal.nD,
      r.2.mem ((c.tc : Thread Cert.RefInGmIdeal.nD Cert.RefInGmIdeal.τ).loc Cert.RefInGmIdeal.main_arg0) = m ((c.tc : Thread Cert.RefInGmIdeal.nD Cert.RefInGmIdeal.τ).loc Cert.RefInGmIdeal.main_arg0)
      ∧ r.2.mem ((c.tc : Thread Cert.RefInGmIdeal.nD Cert.RefInGmIdeal.τ).loc Cert.RefInGmIdeal.main_arg1) = m ((c.tc : Thread Cert.RefInGmIdeal.nD Cert.RefInGmIdeal.τ).loc Cert.RefInGmIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_RefQueryIdeal [hRefQueryIdeal : Cert.RefQueryIdeal.Facts] : Prop :=
  ∀ (m : (ℓ : Loc Cert.RefQueryIdeal.nD Cert.RefQueryIdeal.τ Cert.RefQueryIdeal.sig) → Buf (Elt Ideal) ℓ) (g : Dev Cert.RefQueryIdeal.nD → PrngReg), Pre_RefQueryIdeal m →
    θ_run (Cert.RefQueryIdeal.defs (F := Ideal)) (onTc (τ := Cert.RefQueryIdeal.τ) (Cert.RefQueryIdeal.main (F := Ideal))) ⟨m, fun _ => 0, g⟩ (fun r => (∀ c : Dev Cert.RefQueryIdeal.nD,
      r.2.mem ((c.tc : Thread Cert.RefQueryIdeal.nD Cert.RefQueryIdeal.τ).loc Cert.RefQueryIdeal.main_arg0) = m ((c.tc : Thread Cert.RefQueryIdeal.nD Cert.RefQueryIdeal.τ).loc Cert.RefQueryIdeal.main_arg0)
      ∧ r.2.mem ((c.tc : Thread Cert.RefQueryIdeal.nD Cert.RefQueryIdeal.τ).loc Cert.RefQueryIdeal.main_arg1) = m ((c.tc : Thread Cert.RefQueryIdeal.nD Cert.RefQueryIdeal.τ).loc Cert.RefQueryIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ r.2.sem = fun _ => 0)

def quiescent_RefPeerIdeal [hRefPeerIdeal : Cert.RefPeerIdeal.Facts] : Prop :=
  ∀ (m : (ℓ : Loc Cert.RefPeerIdeal.nD Cert.RefPeerIdeal.τ Cert.RefPeerIdeal.sig) → Buf (Elt Ideal) ℓ) (g : Dev Cert.RefPeerIdeal.nD → PrngReg), Pre_RefPeerIdeal m →
    θ_run (Cert.RefPeerIdeal.defs (F := Ideal)) (onTc (τ := Cert.RefPeerIdeal.τ) (Cert.RefPeerIdeal.main (F := Ideal))) ⟨m, fun _ => 0, g⟩ (fun r => (∀ c : Dev Cert.RefPeerIdeal.nD,
      r.2.mem ((c.tc : Thread Cert.RefPeerIdeal.nD Cert.RefPeerIdeal.τ).loc Cert.RefPeerIdeal.main_arg0) = m ((c.tc : Thread Cert.RefPeerIdeal.nD Cert.RefPeerIdeal.τ).loc Cert.RefPeerIdeal.main_arg0)
      ∧ r.2.mem ((c.tc : Thread Cert.RefPeerIdeal.nD Cert.RefPeerIdeal.τ).loc Cert.RefPeerIdeal.main_arg1) = m ((c.tc : Thread Cert.RefPeerIdeal.nD Cert.RefPeerIdeal.τ).loc Cert.RefPeerIdeal.main_arg1)
      ∧ r.2.mem ((c.tc : Thread Cert.RefPeerIdeal.nD Cert.RefPeerIdeal.τ).loc Cert.RefPeerIdeal.main_arg2) = m ((c.tc : Thread Cert.RefPeerIdeal.nD Cert.RefPeerIdeal.τ).loc Cert.RefPeerIdeal.main_arg2)
      ∧ r.2.mem ((c.tc : Thread Cert.RefPeerIdeal.nD Cert.RefPeerIdeal.τ).loc Cert.RefPeerIdeal.main_arg3) = m ((c.tc : Thread Cert.RefPeerIdeal.nD Cert.RefPeerIdeal.τ).loc Cert.RefPeerIdeal.main_arg3)
      ∧ r.2.mem ((c.tc : Thread Cert.RefPeerIdeal.nD Cert.RefPeerIdeal.τ).loc Cert.RefPeerIdeal.main_arg4) = m ((c.tc : Thread Cert.RefPeerIdeal.nD Cert.RefPeerIdeal.τ).loc Cert.RefPeerIdeal.main_arg4)
      ∧ r.2.mem ((c.tc : Thread Cert.RefPeerIdeal.nD Cert.RefPeerIdeal.τ).loc Cert.RefPeerIdeal.main_arg5) = m ((c.tc : Thread Cert.RefPeerIdeal.nD Cert.RefPeerIdeal.τ).loc Cert.RefPeerIdeal.main_arg5)
      ∧ r.2.mem ((c.tc : Thread Cert.RefPeerIdeal.nD Cert.RefPeerIdeal.τ).loc Cert.RefPeerIdeal.main_arg6) = m ((c.tc : Thread Cert.RefPeerIdeal.nD Cert.RefPeerIdeal.τ).loc Cert.RefPeerIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_RefLastIdeal [hRefLastIdeal : Cert.RefLastIdeal.Facts] : Prop :=
  ∀ (m : (ℓ : Loc Cert.RefLastIdeal.nD Cert.RefLastIdeal.τ Cert.RefLastIdeal.sig) → Buf (Elt Ideal) ℓ) (g : Dev Cert.RefLastIdeal.nD → PrngReg), Pre_RefLastIdeal m →
    θ_run (Cert.RefLastIdeal.defs (F := Ideal)) (onTc (τ := Cert.RefLastIdeal.τ) (Cert.RefLastIdeal.main (F := Ideal))) ⟨m, fun _ => 0, g⟩ (fun r => (∀ c : Dev Cert.RefLastIdeal.nD,
      r.2.mem ((c.tc : Thread Cert.RefLastIdeal.nD Cert.RefLastIdeal.τ).loc Cert.RefLastIdeal.main_arg0) = m ((c.tc : Thread Cert.RefLastIdeal.nD Cert.RefLastIdeal.τ).loc Cert.RefLastIdeal.main_arg0)
      ∧ r.2.mem ((c.tc : Thread Cert.RefLastIdeal.nD Cert.RefLastIdeal.τ).loc Cert.RefLastIdeal.main_arg1) = m ((c.tc : Thread Cert.RefLastIdeal.nD Cert.RefLastIdeal.τ).loc Cert.RefLastIdeal.main_arg1)
      ∧ r.2.mem ((c.tc : Thread Cert.RefLastIdeal.nD Cert.RefLastIdeal.τ).loc Cert.RefLastIdeal.main_arg2) = m ((c.tc : Thread Cert.RefLastIdeal.nD Cert.RefLastIdeal.τ).loc Cert.RefLastIdeal.main_arg2))
      ∧ r.2.sem = fun _ => 0)

def preserves_InS5_InS5Ideal : Prop :=
  True

def algebraic_InS5Ideal_RefInS5Ideal [hInS5Ideal : Cert.InS5Ideal.Facts] [hRefInS5Ideal : Cert.RefInS5Ideal.Facts] : Prop :=
  ∀ (m : (ℓ : Loc Cert.InS5Ideal.nD Cert.InS5Ideal.τ Cert.InS5Ideal.sig) → Buf (Elt Ideal) ℓ) (g : Dev Cert.InS5Ideal.nD → PrngReg)
    (m' : (ℓ : Loc Cert.RefInS5Ideal.nD Cert.RefInS5Ideal.τ Cert.RefInS5Ideal.sig) → Buf (Elt Ideal) ℓ) (g' : Dev Cert.RefInS5Ideal.nD → PrngReg), Pre_InS5Ideal m →
    (∀ c : Dev Cert.InS5Ideal.nD,
      m' ((c.tc : Thread Cert.RefInS5Ideal.nD Cert.RefInS5Ideal.τ).loc Cert.RefInS5Ideal.main_arg0) = m ((c.tc : Thread Cert.InS5Ideal.nD Cert.InS5Ideal.τ).loc Cert.InS5Ideal.main_arg0)
      ∧ m' ((c.tc : Thread Cert.RefInS5Ideal.nD Cert.RefInS5Ideal.τ).loc Cert.RefInS5Ideal.main_arg1) = m ((c.tc : Thread Cert.InS5Ideal.nD Cert.InS5Ideal.τ).loc Cert.InS5Ideal.main_arg1)) →
    ∃ (v0 : (c : Dev Cert.InS5Ideal.nD) → Buf (Elt Ideal) ((c.tc : Thread Cert.InS5Ideal.nD Cert.InS5Ideal.τ).loc Cert.InS5Ideal.main_v1)),
      θ_run (Cert.InS5Ideal.defs (F := Ideal)) (onTc (τ := Cert.InS5Ideal.τ) (Cert.InS5Ideal.main (F := Ideal))) ⟨m, fun _ => 0, g⟩ (fun r => ∀ c : Dev Cert.InS5Ideal.nD,
          r.2.mem ((c.tc : Thread Cert.InS5Ideal.nD Cert.InS5Ideal.τ).loc Cert.InS5Ideal.main_v1) = v0 c
          ∧ r.2.mem ((c.tc : Thread Cert.InS5Ideal.nD Cert.InS5Ideal.τ).loc Cert.InS5Ideal.main_arg0) = m ((c.tc : Thread Cert.InS5Ideal.nD Cert.InS5Ideal.τ).loc Cert.InS5Ideal.main_arg0)
          ∧ r.2.mem ((c.tc : Thread Cert.InS5Ideal.nD Cert.InS5Ideal.τ).loc Cert.InS5Ideal.main_arg1) = m ((c.tc : Thread Cert.InS5Ideal.nD Cert.InS5Ideal.τ).loc Cert.InS5Ideal.main_arg1))
      ∧ θ_run (Cert.RefInS5Ideal.defs (F := Ideal)) (onTc (τ := Cert.RefInS5Ideal.τ) (Cert.RefInS5Ideal.main (F := Ideal))) ⟨m', fun _ => 0, g'⟩ (fun r => ∀ c : Dev Cert.RefInS5Ideal.nD,
          r.2.mem ((c.tc : Thread Cert.RefInS5Ideal.nD Cert.RefInS5Ideal.τ).loc Cert.RefInS5Ideal.main_v2) = v0 c
          ∧ r.2.mem ((c.tc : Thread Cert.RefInS5Ideal.nD Cert.RefInS5Ideal.τ).loc Cert.RefInS5Ideal.main_arg0) = m' ((c.tc : Thread Cert.RefInS5Ideal.nD Cert.RefInS5Ideal.τ).loc Cert.RefInS5Ideal.main_arg0)
          ∧ r.2.mem ((c.tc : Thread Cert.RefInS5Ideal.nD Cert.RefInS5Ideal.τ).loc Cert.RefInS5Ideal.main_arg1) = m' ((c.tc : Thread Cert.RefInS5Ideal.nD Cert.RefInS5Ideal.τ).loc Cert.RefInS5Ideal.main_arg1))

def preserves_InGm_InGmIdeal : Prop :=
  True

def algebraic_InGmIdeal_RefInGmIdeal [hInGmIdeal : Cert.InGmIdeal.Facts] [hRefInGmIdeal : Cert.RefInGmIdeal.Facts] : Prop :=
  ∀ (m : (ℓ : Loc Cert.InGmIdeal.nD Cert.InGmIdeal.τ Cert.InGmIdeal.sig) → Buf (Elt Ideal) ℓ) (g : Dev Cert.InGmIdeal.nD → PrngReg)
    (m' : (ℓ : Loc Cert.RefInGmIdeal.nD Cert.RefInGmIdeal.τ Cert.RefInGmIdeal.sig) → Buf (Elt Ideal) ℓ) (g' : Dev Cert.RefInGmIdeal.nD → PrngReg), Pre_InGmIdeal m →
    (∀ c : Dev Cert.InGmIdeal.nD,
      m' ((c.tc : Thread Cert.RefInGmIdeal.nD Cert.RefInGmIdeal.τ).loc Cert.RefInGmIdeal.main_arg0) = m ((c.tc : Thread Cert.InGmIdeal.nD Cert.InGmIdeal.τ).loc Cert.InGmIdeal.main_arg0)
      ∧ m' ((c.tc : Thread Cert.RefInGmIdeal.nD Cert.RefInGmIdeal.τ).loc Cert.RefInGmIdeal.main_arg1) = m ((c.tc : Thread Cert.InGmIdeal.nD Cert.InGmIdeal.τ).loc Cert.InGmIdeal.main_arg1)) →
    ∃ (v0 : (c : Dev Cert.InGmIdeal.nD) → Buf (Elt Ideal) ((c.tc : Thread Cert.InGmIdeal.nD Cert.InGmIdeal.τ).loc Cert.InGmIdeal.main_v1)),
      θ_run (Cert.InGmIdeal.defs (F := Ideal)) (onTc (τ := Cert.InGmIdeal.τ) (Cert.InGmIdeal.main (F := Ideal))) ⟨m, fun _ => 0, g⟩ (fun r => ∀ c : Dev Cert.InGmIdeal.nD,
          r.2.mem ((c.tc : Thread Cert.InGmIdeal.nD Cert.InGmIdeal.τ).loc Cert.InGmIdeal.main_v1) = v0 c
          ∧ r.2.mem ((c.tc : Thread Cert.InGmIdeal.nD Cert.InGmIdeal.τ).loc Cert.InGmIdeal.main_arg0) = m ((c.tc : Thread Cert.InGmIdeal.nD Cert.InGmIdeal.τ).loc Cert.InGmIdeal.main_arg0)
          ∧ r.2.mem ((c.tc : Thread Cert.InGmIdeal.nD Cert.InGmIdeal.τ).loc Cert.InGmIdeal.main_arg1) = m ((c.tc : Thread Cert.InGmIdeal.nD Cert.InGmIdeal.τ).loc Cert.InGmIdeal.main_arg1))
      ∧ θ_run (Cert.RefInGmIdeal.defs (F := Ideal)) (onTc (τ := Cert.RefInGmIdeal.τ) (Cert.RefInGmIdeal.main (F := Ideal))) ⟨m', fun _ => 0, g'⟩ (fun r => ∀ c : Dev Cert.RefInGmIdeal.nD,
          r.2.mem ((c.tc : Thread Cert.RefInGmIdeal.nD Cert.RefInGmIdeal.τ).loc Cert.RefInGmIdeal.main_v16) = v0 c
          ∧ r.2.mem ((c.tc : Thread Cert.RefInGmIdeal.nD Cert.RefInGmIdeal.τ).loc Cert.RefInGmIdeal.main_arg0) = m' ((c.tc : Thread Cert.RefInGmIdeal.nD Cert.RefInGmIdeal.τ).loc Cert.RefInGmIdeal.main_arg0)
          ∧ r.2.mem ((c.tc : Thread Cert.RefInGmIdeal.nD Cert.RefInGmIdeal.τ).loc Cert.RefInGmIdeal.main_arg1) = m' ((c.tc : Thread Cert.RefInGmIdeal.nD Cert.RefInGmIdeal.τ).loc Cert.RefInGmIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v4) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_Query_QueryIdeal : Prop :=
  True

def algebraic_QueryIdeal_RefQueryIdeal [hQueryIdeal : Cert.QueryIdeal.Facts] [hRefQueryIdeal : Cert.RefQueryIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.RefQueryIdeal.nD Cert.RefQueryIdeal.τ Cert.RefQueryIdeal.sig) → Buf (Elt Ideal) ℓ) (g' : Dev Cert.RefQueryIdeal.nD → PrngReg), Pre_QueryIdeal m →
    (∀ c : Dev Cert.QueryIdeal.nD,
      m' ((c.tc : Thread Cert.RefQueryIdeal.nD Cert.RefQueryIdeal.τ).loc Cert.RefQueryIdeal.main_arg0) = m ((c.tc : Thread Cert.QueryIdeal.nD Cert.QueryIdeal.τ).loc Cert.QueryIdeal.main_arg0)
      ∧ m' ((c.tc : Thread Cert.RefQueryIdeal.nD Cert.RefQueryIdeal.τ).loc Cert.RefQueryIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.RefQueryIdeal.defs (F := Ideal)) (onTc (τ := Cert.RefQueryIdeal.τ) (Cert.RefQueryIdeal.main (F := Ideal))) ⟨m', fun _ => 0, g'⟩ (fun r => ∀ c : Dev Cert.RefQueryIdeal.nD,
          r.2.mem ((c.tc : Thread Cert.RefQueryIdeal.nD Cert.RefQueryIdeal.τ).loc Cert.RefQueryIdeal.main_v1) = v0 c
          ∧ r.2.mem ((c.tc : Thread Cert.RefQueryIdeal.nD Cert.RefQueryIdeal.τ).loc Cert.RefQueryIdeal.main_arg0) = m' ((c.tc : Thread Cert.RefQueryIdeal.nD Cert.RefQueryIdeal.τ).loc Cert.RefQueryIdeal.main_arg0)
          ∧ r.2.mem ((c.tc : Thread Cert.RefQueryIdeal.nD Cert.RefQueryIdeal.τ).loc Cert.RefQueryIdeal.main_arg1) = m' ((c.tc : Thread Cert.RefQueryIdeal.nD Cert.RefQueryIdeal.τ).loc Cert.RefQueryIdeal.main_arg1))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v21) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2))

def preserves_Peer_PeerIdeal : Prop :=
  True

def algebraic_PeerIdeal_RefPeerIdeal [hPeerIdeal : Cert.PeerIdeal.Facts] [hRefPeerIdeal : Cert.RefPeerIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.RefPeerIdeal.nD Cert.RefPeerIdeal.τ Cert.RefPeerIdeal.sig) → Buf (Elt Ideal) ℓ) (g' : Dev Cert.RefPeerIdeal.nD → PrngReg), Pre_PeerIdeal m →
    (∀ c : Dev Cert.PeerIdeal.nD,
      m' ((c.tc : Thread Cert.RefPeerIdeal.nD Cert.RefPeerIdeal.τ).loc Cert.RefPeerIdeal.main_arg0) = m ((c.tc : Thread Cert.PeerIdeal.nD Cert.PeerIdeal.τ).loc Cert.PeerIdeal.main_arg0)
      ∧ m' ((c.tc : Thread Cert.RefPeerIdeal.nD Cert.RefPeerIdeal.τ).loc Cert.RefPeerIdeal.main_arg1) = m ((c.tc : Thread Cert.PeerIdeal.nD Cert.PeerIdeal.τ).loc Cert.PeerIdeal.main_arg1)
      ∧ m' ((c.tc : Thread Cert.RefPeerIdeal.nD Cert.RefPeerIdeal.τ).loc Cert.RefPeerIdeal.main_arg2) = m ((c.tc : Thread Cert.PeerIdeal.nD Cert.PeerIdeal.τ).loc Cert.PeerIdeal.main_arg2)
      ∧ m' ((c.tc : Thread Cert.RefPeerIdeal.nD Cert.RefPeerIdeal.τ).loc Cert.RefPeerIdeal.main_arg3) = m ((c.tc : Thread Cert.PeerIdeal.nD Cert.PeerIdeal.τ).loc Cert.PeerIdeal.main_arg3)
      ∧ m' ((c.tc : Thread Cert.RefPeerIdeal.nD Cert.RefPeerIdeal.τ).loc Cert.RefPeerIdeal.main_arg4) = m ((c.tc : Thread Cert.PeerIdeal.nD Cert.PeerIdeal.τ).loc Cert.PeerIdeal.main_arg4)
      ∧ m' ((c.tc : Thread Cert.RefPeerIdeal.nD Cert.RefPeerIdeal.τ).loc Cert.RefPeerIdeal.main_arg5) = m ((c.tc : Thread Cert.PeerIdeal.nD Cert.PeerIdeal.τ).loc Cert.PeerIdeal.main_arg5)
      ∧ m' ((c.tc : Thread Cert.RefPeerIdeal.nD Cert.RefPeerIdeal.τ).loc Cert.RefPeerIdeal.main_arg6) = m ((c.tc : Thread Cert.PeerIdeal.nD Cert.PeerIdeal.τ).loc Cert.PeerIdeal.main_arg6)) →
    ∃ (v0 : (c : Dev Cert.PeerIdeal.nD) → Buf (Elt Ideal) ((c.tc : Thread Cert.PeerIdeal.nD Cert.PeerIdeal.τ).loc Cert.PeerIdeal.main_v0)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ θ_run (Cert.RefPeerIdeal.defs (F := Ideal)) (onTc (τ := Cert.RefPeerIdeal.τ) (Cert.RefPeerIdeal.main (F := Ideal))) ⟨m', fun _ => 0, g'⟩ (fun r => ∀ c : Dev Cert.RefPeerIdeal.nD,
          r.2.mem ((c.tc : Thread Cert.RefPeerIdeal.nD Cert.RefPeerIdeal.τ).loc Cert.RefPeerIdeal.main_v12) = v0 c
          ∧ r.2.mem ((c.tc : Thread Cert.RefPeerIdeal.nD Cert.RefPeerIdeal.τ).loc Cert.RefPeerIdeal.main_arg0) = m' ((c.tc : Thread Cert.RefPeerIdeal.nD Cert.RefPeerIdeal.τ).loc Cert.RefPeerIdeal.main_arg0)
          ∧ r.2.mem ((c.tc : Thread Cert.RefPeerIdeal.nD Cert.RefPeerIdeal.τ).loc Cert.RefPeerIdeal.main_arg1) = m' ((c.tc : Thread Cert.RefPeerIdeal.nD Cert.RefPeerIdeal.τ).loc Cert.RefPeerIdeal.main_arg1)
          ∧ r.2.mem ((c.tc : Thread Cert.RefPeerIdeal.nD Cert.RefPeerIdeal.τ).loc Cert.RefPeerIdeal.main_arg2) = m' ((c.tc : Thread Cert.RefPeerIdeal.nD Cert.RefPeerIdeal.τ).loc Cert.RefPeerIdeal.main_arg2)
          ∧ r.2.mem ((c.tc : Thread Cert.RefPeerIdeal.nD Cert.RefPeerIdeal.τ).loc Cert.RefPeerIdeal.main_arg3) = m' ((c.tc : Thread Cert.RefPeerIdeal.nD Cert.RefPeerIdeal.τ).loc Cert.RefPeerIdeal.main_arg3)
          ∧ r.2.mem ((c.tc : Thread Cert.RefPeerIdeal.nD Cert.RefPeerIdeal.τ).loc Cert.RefPeerIdeal.main_arg4) = m' ((c.tc : Thread Cert.RefPeerIdeal.nD Cert.RefPeerIdeal.τ).loc Cert.RefPeerIdeal.main_arg4)
          ∧ r.2.mem ((c.tc : Thread Cert.RefPeerIdeal.nD Cert.RefPeerIdeal.τ).loc Cert.RefPeerIdeal.main_arg5) = m' ((c.tc : Thread Cert.RefPeerIdeal.nD Cert.RefPeerIdeal.τ).loc Cert.RefPeerIdeal.main_arg5)
          ∧ r.2.mem ((c.tc : Thread Cert.RefPeerIdeal.nD Cert.RefPeerIdeal.τ).loc Cert.RefPeerIdeal.main_arg6) = m' ((c.tc : Thread Cert.RefPeerIdeal.nD Cert.RefPeerIdeal.τ).loc Cert.RefPeerIdeal.main_arg6))

def preserves_Last_LastIdeal : Prop :=
  True

def algebraic_LastIdeal_RefLastIdeal [hLastIdeal : Cert.LastIdeal.Facts] [hRefLastIdeal : Cert.RefLastIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.RefLastIdeal.nD Cert.RefLastIdeal.τ Cert.RefLastIdeal.sig) → Buf (Elt Ideal) ℓ) (g' : Dev Cert.RefLastIdeal.nD → PrngReg), Pre_LastIdeal m →
    (∀ c : Dev Cert.LastIdeal.nD,
      m' ((c.tc : Thread Cert.RefLastIdeal.nD Cert.RefLastIdeal.τ).loc Cert.RefLastIdeal.main_arg0) = m ((c.tc : Thread Cert.LastIdeal.nD Cert.LastIdeal.τ).loc Cert.LastIdeal.main_arg0)
      ∧ m' ((c.tc : Thread Cert.RefLastIdeal.nD Cert.RefLastIdeal.τ).loc Cert.RefLastIdeal.main_arg1) = m ((c.tc : Thread Cert.LastIdeal.nD Cert.LastIdeal.τ).loc Cert.LastIdeal.main_arg1)
      ∧ m' ((c.tc : Thread Cert.RefLastIdeal.nD Cert.RefLastIdeal.τ).loc Cert.RefLastIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.RefLastIdeal.defs (F := Ideal)) (onTc (τ := Cert.RefLastIdeal.τ) (Cert.RefLastIdeal.main (F := Ideal))) ⟨m', fun _ => 0, g'⟩ (fun r => ∀ c : Dev Cert.RefLastIdeal.nD,
          r.2.mem ((c.tc : Thread Cert.RefLastIdeal.nD Cert.RefLastIdeal.τ).loc Cert.RefLastIdeal.main_v14) = v0 c
          ∧ r.2.mem ((c.tc : Thread Cert.RefLastIdeal.nD Cert.RefLastIdeal.τ).loc Cert.RefLastIdeal.main_arg0) = m' ((c.tc : Thread Cert.RefLastIdeal.nD Cert.RefLastIdeal.τ).loc Cert.RefLastIdeal.main_arg0)
          ∧ r.2.mem ((c.tc : Thread Cert.RefLastIdeal.nD Cert.RefLastIdeal.τ).loc Cert.RefLastIdeal.main_arg1) = m' ((c.tc : Thread Cert.RefLastIdeal.nD Cert.RefLastIdeal.τ).loc Cert.RefLastIdeal.main_arg1)
          ∧ r.2.mem ((c.tc : Thread Cert.RefLastIdeal.nD Cert.RefLastIdeal.τ).loc Cert.RefLastIdeal.main_arg2) = m' ((c.tc : Thread Cert.RefLastIdeal.nD Cert.RefLastIdeal.τ).loc Cert.RefLastIdeal.main_arg2))

def Claim : Prop :=
  ∃ (hInS5 : Cert.InS5.Facts) (hInS5Ideal : Cert.InS5Ideal.Facts) (hRefInS5Ideal : Cert.RefInS5Ideal.Facts) (hInGm : Cert.InGm.Facts) (hInGmIdeal : Cert.InGmIdeal.Facts) (hRefInGmIdeal : Cert.RefInGmIdeal.Facts) (hOut : Cert.Out.Facts) (hOutIdeal : Cert.OutIdeal.Facts) (hRefOutIdeal : Cert.RefOutIdeal.Facts) (hQuery : Cert.Query.Facts) (hQueryIdeal : Cert.QueryIdeal.Facts) (hRefQueryIdeal : Cert.RefQueryIdeal.Facts) (hGlu : Cert.Glu.Facts) (hGluIdeal : Cert.GluIdeal.Facts) (hRefGluIdeal : Cert.RefGluIdeal.Facts) (hPeer : Cert.Peer.Facts) (hPeerIdeal : Cert.PeerIdeal.Facts) (hRefPeerIdeal : Cert.RefPeerIdeal.Facts) (hLast : Cert.Last.Facts) (hLastIdeal : Cert.LastIdeal.Facts) (hRefLastIdeal : Cert.RefLastIdeal.Facts),
    quiescent_InS5 (hInS5 := hInS5)
    ∧ quiescent_InS5Ideal (hInS5Ideal := hInS5Ideal)
    ∧ quiescent_RefInS5Ideal (hRefInS5Ideal := hRefInS5Ideal)
    ∧ quiescent_InGm (hInGm := hInGm)
    ∧ quiescent_InGmIdeal (hInGmIdeal := hInGmIdeal)
    ∧ quiescent_RefInGmIdeal (hRefInGmIdeal := hRefInGmIdeal)
    ∧ quiescent_Out (hOut := hOut)
    ∧ quiescent_OutIdeal (hOutIdeal := hOutIdeal)
    ∧ quiescent_RefOutIdeal (hRefOutIdeal := hRefOutIdeal)
    ∧ quiescent_Query (hQuery := hQuery)
    ∧ quiescent_QueryIdeal (hQueryIdeal := hQueryIdeal)
    ∧ quiescent_RefQueryIdeal (hRefQueryIdeal := hRefQueryIdeal)
    ∧ quiescent_Glu (hGlu := hGlu)
    ∧ quiescent_GluIdeal (hGluIdeal := hGluIdeal)
    ∧ quiescent_RefGluIdeal (hRefGluIdeal := hRefGluIdeal)
    ∧ quiescent_Peer (hPeer := hPeer)
    ∧ quiescent_PeerIdeal (hPeerIdeal := hPeerIdeal)
    ∧ quiescent_RefPeerIdeal (hRefPeerIdeal := hRefPeerIdeal)
    ∧ quiescent_Last (hLast := hLast)
    ∧ quiescent_LastIdeal (hLastIdeal := hLastIdeal)
    ∧ quiescent_RefLastIdeal (hRefLastIdeal := hRefLastIdeal)
    ∧ preserves_InS5_InS5Ideal
    ∧ algebraic_InS5Ideal_RefInS5Ideal (hInS5Ideal := hInS5Ideal) (hRefInS5Ideal := hRefInS5Ideal)
    ∧ preserves_InGm_InGmIdeal
    ∧ algebraic_InGmIdeal_RefInGmIdeal (hInGmIdeal := hInGmIdeal) (hRefInGmIdeal := hRefInGmIdeal)
    ∧ preserves_Out_OutIdeal
    ∧ algebraic_OutIdeal_RefOutIdeal (hOutIdeal := hOutIdeal) (hRefOutIdeal := hRefOutIdeal)
    ∧ preserves_Query_QueryIdeal
    ∧ algebraic_QueryIdeal_RefQueryIdeal (hQueryIdeal := hQueryIdeal) (hRefQueryIdeal := hRefQueryIdeal)
    ∧ preserves_Glu_GluIdeal
    ∧ algebraic_GluIdeal_RefGluIdeal (hGluIdeal := hGluIdeal) (hRefGluIdeal := hRefGluIdeal)
    ∧ preserves_Peer_PeerIdeal
    ∧ algebraic_PeerIdeal_RefPeerIdeal (hPeerIdeal := hPeerIdeal) (hRefPeerIdeal := hRefPeerIdeal)
    ∧ preserves_Last_LastIdeal
    ∧ algebraic_LastIdeal_RefLastIdeal (hLastIdeal := hLastIdeal) (hRefLastIdeal := hRefLastIdeal)
-- ==== InS5.lean ====
abbrev S16384x4096 : Shape := ⟨2, ![16384, 4096]⟩
abbrev S4096x6144 : Shape := ⟨2, ![4096, 6144]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S4096x6144, .bf16⟩
  | .hbm, ⟨3, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInS5Ideal.lean ====
abbrev S16384x4096 : Shape := ⟨2, ![16384, 4096]⟩
abbrev S4096x6144 : Shape := ⟨2, ![4096, 6144]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S16384x4096, .f32⟩
  | .hbm, ⟨3, _⟩ => ⟨S4096x2048, .f32⟩
  | .hbm, ⟨4, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGm.lean ====
abbrev S16384x4096 : Shape := ⟨2, ![16384, 4096]⟩
abbrev S4096x6144 : Shape := ⟨2, ![4096, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S4096x6144, .bf16⟩
  | .hbm, ⟨3, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInGmIdeal.lean ====
abbrev S16384x4096 : Shape := ⟨2, ![16384, 4096]⟩
abbrev S4096x6144 : Shape := ⟨2, ![4096, 6144]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Out.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Query.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S4096x2048, .bf16⟩
  | .hbm, ⟨3, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefQueryIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x4096, .f32⟩
  | .hbm, ⟨3, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Glu.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefGluIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Peer.lean ====
abbrev S3 : Shape := ⟨1, ![3]⟩
abbrev S4096x16384 : Shape := ⟨2, ![4096, 16384]⟩
abbrev S16384x4096 : Shape := ⟨2, ![16384, 4096]⟩
abbrev S8x128x16384 : Shape := ⟨3, ![8, 128, 16384]⟩
abbrev S4096x512 : Shape := ⟨2, ![4096, 512]⟩
abbrev S8x128x512 : Shape := ⟨3, ![8, 128, 512]⟩
abbrev S512x4096 : Shape := ⟨2, ![512, 4096]⟩
abbrev S3x1024x4096 : Shape := ⟨3, ![3, 1024, 4096]⟩
abbrev S2x3 : Shape := ⟨2, ![2, 3]⟩
abbrev S1024x512 : Shape := ⟨2, ![1024, 512]⟩
abbrev S4x256x512 : Shape := ⟨3, ![4, 256, 512]⟩
abbrev S2x512x1024 : Shape := ⟨3, ![2, 512, 1024]⟩
abbrev S1x1 : Shape := ⟨2, ![1, 1]⟩
abbrev S_ : Shape := ⟨0, ![]⟩
abbrev S1x1024x4096 : Shape := ⟨3, ![1, 1024, 4096]⟩
abbrev S1024x4096 : Shape := ⟨2, ![1024, 4096]⟩
abbrev S1 : Shape := ⟨1, ![1]⟩
abbrev S512x1024 : Shape := ⟨2, ![512, 1024]⟩
abbrev S1x512x1024 : Shape := ⟨3, ![1, 512, 1024]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S1x256x4096 : Shape := ⟨3, ![1, 256, 4096]⟩
abbrev S256x4096 : Shape := ⟨2, ![256, 4096]⟩
abbrev S256x512 : Shape := ⟨2, ![256, 512]⟩
abbrev S1x256x512 : Shape := ⟨3, ![1, 256, 512]⟩
abbrev S512x256 : Shape := ⟨2, ![512, 256]⟩
abbrev S1x512x256 : Shape := ⟨3, ![1, 512, 256]⟩

abbrev nBuf : Space → Nat
  | .hbm => 8
  | .vmem => 16
  | .smem => 1
  | _ => 0

abbrev bufTy : (tb : Table) → Fin (tcTables nBuf tb) → BufTy
  | .hbm, ⟨0, _⟩ => ⟨S3, .f32⟩
  | .hbm, ⟨1, _⟩ => ⟨S4096x16384, .fp8e4m3⟩
  | .hbm, ⟨2, _⟩ => ⟨S16384x4096, .fp8e4m3⟩
  | .hbm, ⟨3, _⟩ => ⟨S16384x4096, .fp8e4m3⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x4096, .bf16⟩
  | .local _ .vmem, ⟨0, _⟩ => ⟨S4096x512, .fp8e4m3⟩
  | .local _ .vmem, ⟨1, _⟩ => ⟨S4096x512, .fp8e4m3⟩
  | .local _ .vmem, ⟨2, _⟩ => ⟨S8x128x512, .f32⟩
  | .local _ .vmem, ⟨3, _⟩ => ⟨S8x128x512, .f32⟩
  | .local _ .vmem, ⟨4, _⟩ => ⟨S8x128x512, .f32⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S512x4096, .bf16⟩
  | .local _ .vmem, ⟨9, _⟩ => ⟨S512x4096, .bf16⟩
  | .local _ .vmem, ⟨10, _⟩ => ⟨S3x1024x4096, .fp8e4m3⟩
  | .local _ .vmem, ⟨11, _⟩ => ⟨S3x1024x4096, .fp8e4m3⟩
  | .local _ .vmem, ⟨12, _⟩ => ⟨S512x4096, .f32⟩
  | .local _ .vmem, ⟨13, _⟩ => ⟨S1024x512, .f32⟩
  | .local _ .vmem, ⟨14, _⟩ => ⟨S4x256x512, .f32⟩
  | .local _ .vmem, ⟨15, _⟩ => ⟨S2x512x1024, .fp8e4m3⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![513], ![false]⟩

def k0_cond1 (i : grid0.Coords) : BitVec 1 :=
  let arg0 : BitVec 32 := BitVec.ofNat 32 (i 0).val
  let c0_i32_21 : BitVec 32 := 0#32
  let v42 : BitVec 1 := Scalar.cmpi .eq arg0 c0_i32_21
  let v43 : BitVec 32 := Scalar.extui v42
  let c0_i32_22 : BitVec 32 := 0#32
  let v44 : BitVec 1 := Scalar.cmpi .ne v43 c0_i32_22
  v44

def k0_mult1 : BitVec 32 :=
  let c0_i32_665 : BitVec 32 := 0#32
  c0_i32_665
def k0_mult2 : BitVec 32 :=
  let c15360_i32 : BitVec 32 := 15360#32
  c15360_i32
def k0_mult3 : BitVec 32 :=
  let c1024_i32_678 : BitVec 32 := 1024#32
  c1024_i32_678
def k0_mult4 : BitVec 32 :=
  let c0_i32_679 : BitVec 32 := 0#32
  c0_i32_679
def k0_cond2 (i : grid0.Coords) : BitVec 1 :=
  let arg0 : BitVec 32 := BitVec.ofNat 32 (i 0).val
  let c3_i32_23 : BitVec 32 := 3#32
  let v45 : BitVec 32 := Scalar.addi arg0 c3_i32_23
  let c1_i32_24 : BitVec 32 := 1#32
  let v46 : BitVec 32 := Scalar.subi v45 c1_i32_24
  let c513_i32 : BitVec 32 := 513#32
  let v47 : BitVec 1 := Scalar.cmpi .slt v46 c513_i32
  let v48 : BitVec 32 := Scalar.extui v47
  let c0_i32_25 : BitVec 32 := 0#32
  let v49 : BitVec 1 := Scalar.cmpi .ne v48 c0_i32_25
  v49

def k0_mult5 (i : grid0.Coords) : BitVec 32 :=
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c16_i32_673 : BitVec 32 := 16#32
  let c0_i32_674 : BitVec 32 := 0#32
  let v1387 : BitVec 1 := Scalar.cmpi .eq c16_i32_673 c0_i32_674
  let c1_i32_675 : BitVec 32 := 1#32
  let v1388 : BitVec 32 := Scalar.select v1387 c1_i32_675 c16_i32_673
  let v1389 : BitVec 32 := Scalar.remsi v1376 v1388
  let c0_i32_677 : BitVec 32 := 0#32
  let v1391 : BitVec 1 := Scalar.cmpi .slt v1389 c0_i32_677
  let c0_i32_678 : BitVec 32 := 0#32
  let v1392 : BitVec 1 := Scalar.cmpi .slt v1388 c0_i32_678
  let v1393 : BitVec 1 := Scalar.xori v1391 v1392
  let c0_i32_676 : BitVec 32 := 0#32
  let v1390 : BitVec 1 := Scalar.cmpi .ne v1389 c0_i32_676
  let v1394 : BitVec 1 := Scalar.andi v1393 v1390
  let v1395 : BitVec 32 := Scalar.addi v1389 v1388
  let v1396 : BitVec 32 := Scalar.select v1394 v1395 v1389
  let c1024_i32_679 : BitVec 32 := 1024#32
  let v1397 : BitVec 32 := Scalar.muli v1396 c1024_i32_679
  v1397
def k0_mult6 (i : grid0.Coords) : BitVec 32 :=
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c16_i32_680 : BitVec 32 := 16#32
  let v1399 : BitVec 32 := Scalar.addi v1376 c16_i32_680
  let c1_i32_681 : BitVec 32 := 1#32
  let v1400 : BitVec 32 := Scalar.subi v1399 c1_i32_681
  let c16_i32_682 : BitVec 32 := 16#32
  let c0_i32_683 : BitVec 32 := 0#32
  let v1401 : BitVec 1 := Scalar.cmpi .eq c16_i32_682 c0_i32_683
  let c1_i32_684 : BitVec 32 := 1#32
  let v1402 : BitVec 32 := Scalar.select v1401 c1_i32_684 c16_i32_682
  let v1403 : BitVec 32 := Scalar.remsi v1400 v1402
  let c0_i32_686 : BitVec 32 := 0#32
  let v1405 : BitVec 1 := Scalar.cmpi .slt v1403 c0_i32_686
  let c0_i32_687 : BitVec 32 := 0#32
  let v1406 : BitVec 1 := Scalar.cmpi .slt v1402 c0_i32_687
  let v1407 : BitVec 1 := Scalar.xori v1405 v1406
  let c0_i32_685 : BitVec 32 := 0#32
  let v1404 : BitVec 1 := Scalar.cmpi .ne v1403 c0_i32_685
  let v1408 : BitVec 1 := Scalar.andi v1407 v1404
  let v1409 : BitVec 32 := Scalar.addi v1403 v1402
  let v1410 : BitVec 32 := Scalar.select v1408 v1409 v1403
  let c1024_i32_688 : BitVec 32 := 1024#32
  let v1411 : BitVec 32 := Scalar.muli v1410 c1024_i32_688
  v1411
def k0_off1 (i : grid0.Coords) : Fin 2 → Nat :=
  let c0_i32_689 : BitVec 32 := 0#32
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c3_i32_667 : BitVec 32 := 3#32
  let c0_i32_668 : BitVec 32 := 0#32
  let v1377 : BitVec 1 := Scalar.cmpi .eq c3_i32_667 c0_i32_668
  let c1_i32_669 : BitVec 32 := 1#32
  let v1378 : BitVec 32 := Scalar.select v1377 c1_i32_669 c3_i32_667
  let v1379 : BitVec 32 := Scalar.remsi v1376 v1378
  let c0_i32_671 : BitVec 32 := 0#32
  let v1381 : BitVec 1 := Scalar.cmpi .slt v1379 c0_i32_671
  let c0_i32_672 : BitVec 32 := 0#32
  let v1382 : BitVec 1 := Scalar.cmpi .slt v1378 c0_i32_672
  let v1383 : BitVec 1 := Scalar.xori v1381 v1382
  let c0_i32_670 : BitVec 32 := 0#32
  let v1380 : BitVec 1 := Scalar.cmpi .ne v1379 c0_i32_670
  let v1384 : BitVec 1 := Scalar.andi v1383 v1380
  let v1385 : BitVec 32 := Scalar.addi v1379 v1378
  let v1386 : BitVec 32 := Scalar.select v1384 v1385 v1379
  ![0, v1386.toNat]
def k0_off2 (i : grid0.Coords) : Fin 3 → Nat :=
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c3_i32_667 : BitVec 32 := 3#32
  let c0_i32_668 : BitVec 32 := 0#32
  let v1377 : BitVec 1 := Scalar.cmpi .eq c3_i32_667 c0_i32_668
  let c1_i32_669 : BitVec 32 := 1#32
  let v1378 : BitVec 32 := Scalar.select v1377 c1_i32_669 c3_i32_667
  let v1379 : BitVec 32 := Scalar.remsi v1376 v1378
  let c0_i32_671 : BitVec 32 := 0#32
  let v1381 : BitVec 1 := Scalar.cmpi .slt v1379 c0_i32_671
  let c0_i32_672 : BitVec 32 := 0#32
  let v1382 : BitVec 1 := Scalar.cmpi .slt v1378 c0_i32_672
  let v1383 : BitVec 1 := Scalar.xori v1381 v1382
  let c0_i32_670 : BitVec 32 := 0#32
  let v1380 : BitVec 1 := Scalar.cmpi .ne v1379 c0_i32_670
  let v1384 : BitVec 1 := Scalar.andi v1383 v1380
  let v1385 : BitVec 32 := Scalar.addi v1379 v1378
  let v1386 : BitVec 32 := Scalar.select v1384 v1385 v1379
  let c0_i32_690 : BitVec 32 := 0#32
  let c0_i32_691 : BitVec 32 := 0#32
  ![v1386.toNat, 0, 0]
def k0_off3 (i : grid0.Coords) : Fin 2 → Nat :=
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c16_i32_673 : BitVec 32 := 16#32
  let c0_i32_674 : BitVec 32 := 0#32
  let v1387 : BitVec 1 := Scalar.cmpi .eq c16_i32_673 c0_i32_674
  let c1_i32_675 : BitVec 32 := 1#32
  let v1388 : BitVec 32 := Scalar.select v1387 c1_i32_675 c16_i32_673
  let v1389 : BitVec 32 := Scalar.remsi v1376 v1388
  let c0_i32_677 : BitVec 32 := 0#32
  let v1391 : BitVec 1 := Scalar.cmpi .slt v1389 c0_i32_677
  let c0_i32_678 : BitVec 32 := 0#32
  let v1392 : BitVec 1 := Scalar.cmpi .slt v1388 c0_i32_678
  let v1393 : BitVec 1 := Scalar.xori v1391 v1392
  let c0_i32_676 : BitVec 32 := 0#32
  let v1390 : BitVec 1 := Scalar.cmpi .ne v1389 c0_i32_676
  let v1394 : BitVec 1 := Scalar.andi v1393 v1390
  let v1395 : BitVec 32 := Scalar.addi v1389 v1388
  let v1396 : BitVec 32 := Scalar.select v1394 v1395 v1389
  let c1024_i32_679 : BitVec 32 := 1024#32
  let v1397 : BitVec 32 := Scalar.muli v1396 c1024_i32_679
  let v1398 : BitVec 32 := v1397
  let c0_i32_692 : BitVec 32 := 0#32
  ![v1398.toNat, 0]
def k0_off4 (i : grid0.Coords) : Fin 2 → Nat :=
  let c1_i32_693 : BitVec 32 := 1#32
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c3_i32_667 : BitVec 32 := 3#32
  let c0_i32_668 : BitVec 32 := 0#32
  let v1377 : BitVec 1 := Scalar.cmpi .eq c3_i32_667 c0_i32_668
  let c1_i32_669 : BitVec 32 := 1#32
  let v1378 : BitVec 32 := Scalar.select v1377 c1_i32_669 c3_i32_667
  let v1379 : BitVec 32 := Scalar.remsi v1376 v1378
  let c0_i32_671 : BitVec 32 := 0#32
  let v1381 : BitVec 1 := Scalar.cmpi .slt v1379 c0_i32_671
  let c0_i32_672 : BitVec 32 := 0#32
  let v1382 : BitVec 1 := Scalar.cmpi .slt v1378 c0_i32_672
  let v1383 : BitVec 1 := Scalar.xori v1381 v1382
  let c0_i32_670 : BitVec 32 := 0#32
  let v1380 : BitVec 1 := Scalar.cmpi .ne v1379 c0_i32_670
  let v1384 : BitVec 1 := Scalar.andi v1383 v1380
  let v1385 : BitVec 32 := Scalar.addi v1379 v1378
  let v1386 : BitVec 32 := Scalar.select v1384 v1385 v1379
  ![1, v1386.toNat]
def k0_off5 (i : grid0.Coords) : Fin 2 → Nat :=
  let arg0 : BitVec 32 := BitVec.ofNat 32 (i 0).val
  let c3_i32_665 : BitVec 32 := 3#32
  let v1375 : BitVec 32 := Scalar.addi arg0 c3_i32_665
  let c1_i32_666 : BitVec 32 := 1#32
  let v1376 : BitVec 32 := Scalar.subi v1375 c1_i32_666
  let c16_i32_680 : BitVec 32 := 16#32
  let v1399 : BitVec 32 := Scalar.addi v1376 c16_i32_680
  let c1_i32_681 : BitVec 32 := 1#32
  let v1400 : BitVec 32 := Scalar.subi v1399 c1_i32_681
  let c16_i32_682 : BitVec 32 := 16#32
  let c0_i32_683 : BitVec 32 := 0#32
  let v1401 : BitVec 1 := Scalar.cmpi .eq c16_i32_682 c0_i32_683
  let c1_i32_684 : BitVec 32 := 1#32
  let v1402 : BitVec 32 := Scalar.select v1401 c1_i32_684 c16_i32_682
  let v1403 : BitVec 32 := Scalar.remsi v1400 v1402
  let c0_i32_686 : BitVec 32 := 0#32
  let v1405 : BitVec 1 := Scalar.cmpi .slt v1403 c0_i32_686
  let c0_i32_687 : BitVec 32 := 0#32
  let v1406 : BitVec 1 := Scalar.cmpi .slt v1402 c0_i32_687
  let v1407 : BitVec 1 := Scalar.xori v1405 v1406
  let c0_i32_685 : BitVec 32 := 0#32
  let v1404 : BitVec 1 := Scalar.cmpi .ne v1403 c0_i32_685
  let v1408 : BitVec 1 := Scalar.andi v1407 v1404
  let v1409 : BitVec 32 := Scalar.addi v1403 v1402
  let v1410 : BitVec 32 := Scalar.select v1408 v1409 v1403
  let c1024_i32_688 : BitVec 32 := 1024#32
  let v1411 : BitVec 32 := Scalar.muli v1410 c1024_i32_688
  let v1412 : BitVec 32 := v1411
  let c0_i32_696 : BitVec 32 := 0#32
  ![v1412.toNat, 0]
def k0_mult7 (i : grid0.Coords) : BitVec 32 :=
  let arg0 : BitVec 32 := BitVec.ofNat 32 (i 0).val
  let c16_i32_32 : BitVec 32 := 16#32
  let c0_i32_33 : BitVec 32 := 0#32
  let v60 : BitVec 1 := Scalar.cmpi .eq c16_i32_32 c0_i32_33
  let c1_i32_34 : BitVec 32 := 1#32
  let v61 : BitVec 32 := Scalar.select v60 c1_i32_34 c16_i32_32
  let v62 : BitVec 32 := Scalar.remsi arg0 v61
  let c0_i32_36 : BitVec 32 := 0#32
  let v64 : BitVec 1 := Scalar.cmpi .slt v62 c0_i32_36
  let c0_i32_37 : BitVec 32 := 0#32
  let v65 : BitVec 1 := Scalar.cmpi .slt v61 c0_i32_37
  let v66 : BitVec 1 := Scalar.xori v64 v65
  let c0_i32_35 : BitVec 32 := 0#32
  let v63 : BitVec 1 := Scalar.cmpi .ne v62 c0_i32_35
  let v67 : BitVec 1 := Scalar.andi v66 v63
  let v68 : BitVec 32 := Scalar.addi v62 v61
  let v69 : BitVec 32 := Scalar.select v67 v68 v62
  let c1024_i32 : BitVec 32 := 1024#32
  let v70 : BitVec 32 := Scalar.muli v69 c1024_i32
  v70
def k0_mult8 (i : grid0.Coords) : BitVec 32 :=
  let arg0 : BitVec 32 := BitVec.ofNat 32 (i 0).val
  let c16_i32_38 : BitVec 32 := 16#32
  let v72 : BitVec 32 := Scalar.addi arg0 c16_i32_38
  let c1_i32_39 : BitVec 32 := 1#32
  let v73 : BitVec 32 := Scalar.subi v72 c1_i32_39
  let c16_i32_40 : BitVec 32 := 16#32
  let c0_i32_41 : BitVec 32 := 0#32
  let v74 : BitVec 1 := Scalar.cmpi .eq c16_i32_40 c0_i32_41
  let c1_i32_42 : BitVec 32 := 1#32
  let v75 : BitVec 32 := Scalar.select v74 c1_i32_42 c16_i32_40
  let v76 : BitVec 32 := Scalar.remsi v73 v75
  let c0_i32_44 : BitVec 32 := 0#32
  let v78 : BitVec 1 := Scalar.cmpi .slt v76 c0_i32_44
  let c0_i32_45 : BitVec 32 := 0#32
  let v79 : BitVec 1 := Scalar.cmpi .slt v75 c0_i32_45
  let v80 : BitVec 1 := Scalar.xori v78 v79
  let c0_i32_43 : BitVec 32 := 0#32
  let v77 : BitVec 1 := Scalar.cmpi .ne v76 c0_i32_43
  let v81 : BitVec 1 := Scalar.andi v80 v77
  let v82 : BitVec 32 := Scalar.addi v76 v75
  let v83 : BitVec 32 := Scalar.select v81 v82 v76
  let c1024_i32_46 : BitVec 32 := 1024#32
  let v84 : BitVec 32 := Scalar.muli v83 c1024_i32_46
  v84
def k0_off6 (i : grid0.Coords) : Fin 2 → Nat :=
  let c0_i32_47 : BitVec 32 := 0#32
  let arg0 : BitVec 32 := BitVec.ofNat 32 (i 0).val
  let c3_i32_26 : BitVec 32 := 3#32
  let c0_i32_27 : BitVec 32 := 0#32
  let v50 : BitVec 1 := Scalar.cmpi .eq c3_i32_26 c0_i32_27
  let c1_i32_28 : BitVec 32 := 1#32
  let v51 : BitVec 32 := Scalar.select v50 c1_i32_28 c3_i32_26
  let v52 : BitVec 32 := Scalar.remsi arg0 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  ![0, v59.toNat]
def k0_off7 (i : grid0.Coords) : Fin 3 → Nat :=
  let arg0 : BitVec 32 := BitVec.ofNat 32 (i 0).val
  let c3_i32_26 : BitVec 32 := 3#32
  let c0_i32_27 : BitVec 32 := 0#32
  let v50 : BitVec 1 := Scalar.cmpi .eq c3_i32_26 c0_i32_27
  let c1_i32_28 : BitVec 32 := 1#32
  let v51 : BitVec 32 := Scalar.select v50 c1_i32_28 c3_i32_26
  let v52 : BitVec 32 := Scalar.remsi arg0 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  let c0_i32_48 : BitVec 32 := 0#32
  let c0_i32_49 : BitVec 32 := 0#32
  ![v59.toNat, 0, 0]
def k0_off8 (i : grid0.Coords) : Fin 2 → Nat :=
  let arg0 : BitVec 32 := BitVec.ofNat 32 (i 0).val
  let c16_i32_32 : BitVec 32 := 16#32
  let c0_i32_33 : BitVec 32 := 0#32
  let v60 : BitVec 1 := Scalar.cmpi .eq c16_i32_32 c0_i32_33
  let c1_i32_34 : BitVec 32 := 1#32
  let v61 : BitVec 32 := Scalar.select v60 c1_i32_34 c16_i32_32
  let v62 : BitVec 32 := Scalar.remsi arg0 v61
  let c0_i32_36 : BitVec 32 := 0#32
  let v64 : BitVec 1 := Scalar.cmpi .slt v62 c0_i32_36
  let c0_i32_37 : BitVec 32 := 0#32
  let v65 : BitVec 1 := Scalar.cmpi .slt v61 c0_i32_37
  let v66 : BitVec 1 := Scalar.xori v64 v65
  let c0_i32_35 : BitVec 32 := 0#32
  let v63 : BitVec 1 := Scalar.cmpi .ne v62 c0_i32_35
  let v67 : BitVec 1 := Scalar.andi v66 v63
  let v68 : BitVec 32 := Scalar.addi v62 v61
  let v69 : BitVec 32 := Scalar.select v67 v68 v62
  let c1024_i32 : BitVec 32 := 1024#32
  let v70 : BitVec 32 := Scalar.muli v69 c1024_i32
  let v71 : BitVec 32 := v70
  let c0_i32_50 : BitVec 32 := 0#32
  ![v71.toNat, 0]
def k0_off9 (i : grid0.Coords) : Fin 2 → Nat :=
  let c1_i32_51 : BitVec 32 := 1#32
  let arg0 : BitVec 32 := BitVec.ofNat 32 (i 0).val
  let c3_i32_26 : BitVec 32 := 3#32
  let c0_i32_27 : BitVec 32 := 0#32
  let v50 : BitVec 1 := Scalar.cmpi .eq c3_i32_26 c0_i32_27
  let c1_i32_28 : BitVec 32 := 1#32
  let v51 : BitVec 32 := Scalar.select v50 c1_i32_28 c3_i32_26
  let v52 : BitVec 32 := Scalar.remsi arg0 v51
  let c0_i32_30 : BitVec 32 := 0#32
  let v54 : BitVec 1 := Scalar.cmpi .slt v52 c0_i32_30
  let c0_i32_31 : BitVec 32 := 0#32
  let v55 : BitVec 1 := Scalar.cmpi .slt v51 c0_i32_31
  let v56 : BitVec 1 := Scalar.xori v54 v55
  let c0_i32_29 : BitVec 32 := 0#32
  let v53 : BitVec 1 := Scalar.cmpi .ne v52 c0_i32_29
  let v57 : BitVec 1 := Scalar.andi v56 v53
  let v58 : BitVec 32 := Scalar.addi v52 v51
  let v59 : BitVec 32 := Scalar.select v57 v58 v52
  ![1, v59.toNat]
def k0_off10 (i : grid0.Coords) : Fin 2 → Nat :=
  let arg0 : BitVec 32 := BitVec.ofNat 32 (i 0).val
  let c16_i32_38 : BitVec 32 := 16#32
  let v72 : BitVec 32 := Scalar.addi arg0 c16_i32_38
  let c1_i32_39 : BitVec 32 := 1#32
  let v73 : BitVec 32 := Scalar.subi v72 c1_i32_39
  let c16_i32_40 : BitVec 32 := 16#32
  let c0_i32_41 : BitVec 32 := 0#32
  let v74 : BitVec 1 := Scalar.cmpi .eq c16_i32_40 c0_i32_41
  let c1_i32_42 : BitVec 32 := 1#32
  let v75 : BitVec 32 := Scalar.select v74 c1_i32_42 c16_i32_40
  let v76 : BitVec 32 := Scalar.remsi v73 v75
  let c0_i32_44 : BitVec 32 := 0#32
  let v78 : BitVec 1 := Scalar.cmpi .slt v76 c0_i32_44
  let c0_i32_45 : BitVec 32 := 0#32
  let v79 : BitVec 1 := Scalar.cmpi .slt v75 c0_i32_45
  let v80 : BitVec 1 := Scalar.xori v78 v79
  let c0_i32_43 : BitVec 32 := 0#32
  let v77 : BitVec 1 := Scalar.cmpi .ne v76 c0_i32_43
  let v81 : BitVec 1 := Scalar.andi v80 v77
  let v82 : BitVec 32 := Scalar.addi v76 v75
  let v83 : BitVec 32 := Scalar.select v81 v82 v76
  let c1024_i32_46 : BitVec 32 := 1024#32
  let v84 : BitVec 32 := Scalar.muli v83 c1024_i32_46
  let v85 : BitVec 32 := v84
  let c0_i32_54 : BitVec 32 := 0#32
  ![v85.toNat, 0]
def k0_off11 (i : grid0.Coords) (c0_i32_60 : BitVec 32) : Fin 3 → Nat :=
  let c0_61 : Index := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v109 : Index := Scalar.indexCast v108
  let c0_62 : Index := 0#32
  ![0, v109.toNat, 0]
def k0_off12 (i : grid0.Coords) (c0_i32_60 : BitVec 32) : Fin 3 → Nat :=
  let c1_68 : Index := 1#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v125 : Index := Scalar.indexCast v108
  let c0_69 : Index := 0#32
  ![1, v125.toNat, 0]
def k0_off13 (i : grid0.Coords) (c0_i32_60 : BitVec 32) : Fin 3 → Nat :=
  let c2_76 : Index := 2#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v142 : Index := Scalar.indexCast v108
  let c0_77 : Index := 0#32
  ![2, v142.toNat, 0]
def k0_off14 (i : grid0.Coords) (c0_i32_60 : BitVec 32) : Fin 3 → Nat :=
  let c3 : Index := 3#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v159 : Index := Scalar.indexCast v108
  let c0_84 : Index := 0#32
  ![3, v159.toNat, 0]
def k0_off15 (i : grid0.Coords) (c0_i32_60 : BitVec 32) : Fin 3 → Nat :=
  let c4 : Index := 4#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v176 : Index := Scalar.indexCast v108
  let c0_91 : Index := 0#32
  ![4, v176.toNat, 0]
def k0_off16 (i : grid0.Coords) (c0_i32_60 : BitVec 32) : Fin 3 → Nat :=
  let c5 : Index := 5#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v193 : Index := Scalar.indexCast v108
  let c0_98 : Index := 0#32
  ![5, v193.toNat, 0]
def k0_off17 (i : grid0.Coords) (c0_i32_60 : BitVec 32) : Fin 3 → Nat :=
  let c6 : Index := 6#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v210 : Index := Scalar.indexCast v108
  let c0_105 : Index := 0#32
  ![6, v210.toNat, 0]
def k0_off18 (i : grid0.Coords) (c0_i32_60 : BitVec 32) : Fin 3 → Nat :=
  let c7 : Index := 7#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v107 : BitVec 32 := Scalar.muli v9 c8_i32
  let v108 : BitVec 32 := Scalar.addi v107 c0_i32_60
  let v227 : Index := Scalar.indexCast v108
  let c0_112 : Index := 0#32
  ![7, v227.toNat, 0]
def k0_off19 (i : grid0.Coords) : Fin 3 → Nat :=
  let arg0 : BitVec 32 := BitVec.ofNat 32 (i 0).val
  let c3_i32 : BitVec 32 := 3#32
  let c0_i32_16 : BitVec 32 := 0#32
  let v32 : BitVec 1 := Scalar.cmpi .eq c3_i32 c0_i32_16
  let c1_i32_17 : BitVec 32 := 1#32
  let v33 : BitVec 32 := Scalar.select v32 c1_i32_17 c3_i32
  let v34 : BitVec 32 := Scalar.remsi arg0 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v1235 : Index := Scalar.indexCast v41
  let c0_586 : Index := 0#32
  let c0_587 : Index := 0#32
  ![v1235.toNat, 0, 0]
def k0_off20 (i : grid0.Coords) : Fin 3 → Nat :=
  let arg0 : BitVec 32 := BitVec.ofNat 32 (i 0).val
  let c3_i32 : BitVec 32 := 3#32
  let c0_i32_16 : BitVec 32 := 0#32
  let v32 : BitVec 1 := Scalar.cmpi .eq c3_i32 c0_i32_16
  let c1_i32_17 : BitVec 32 := 1#32
  let v33 : BitVec 32 := Scalar.select v32 c1_i32_17 c3_i32
  let v34 : BitVec 32 := Scalar.remsi arg0 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v1243 : Index := Scalar.indexCast v41
  let c256_594 : Index := 256#32
  let c0_595 : Index := 0#32
  ![v1243.toNat, 256, 0]
def k0_off21 (i : grid0.Coords) : Fin 3 → Nat :=
  let arg0 : BitVec 32 := BitVec.ofNat 32 (i 0).val
  let c3_i32 : BitVec 32 := 3#32
  let c0_i32_16 : BitVec 32 := 0#32
  let v32 : BitVec 1 := Scalar.cmpi .eq c3_i32 c0_i32_16
  let c1_i32_17 : BitVec 32 := 1#32
  let v33 : BitVec 32 := Scalar.select v32 c1_i32_17 c3_i32
  let v34 : BitVec 32 := Scalar.remsi arg0 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v1251 : Index := Scalar.indexCast v41
  let c512_602 : Index := 512#32
  let c0_603 : Index := 0#32
  ![v1251.toNat, 512, 0]
def k0_off22 (i : grid0.Coords) : Fin 3 → Nat :=
  let arg0 : BitVec 32 := BitVec.ofNat 32 (i 0).val
  let c3_i32 : BitVec 32 := 3#32
  let c0_i32_16 : BitVec 32 := 0#32
  let v32 : BitVec 1 := Scalar.cmpi .eq c3_i32 c0_i32_16
  let c1_i32_17 : BitVec 32 := 1#32
  let v33 : BitVec 32 := Scalar.select v32 c1_i32_17 c3_i32
  let v34 : BitVec 32 := Scalar.remsi arg0 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v1259 : Index := Scalar.indexCast v41
  let c768_610 : Index := 768#32
  let c0_611 : Index := 0#32
  ![v1259.toNat, 768, 0]
def k0_off23 (i : grid0.Coords) : Fin 3 → Nat :=
  let c1_i32_620 : BitVec 32 := 1#32
  let arg0 : BitVec 32 := BitVec.ofNat 32 (i 0).val
  let c2_i32 : BitVec 32 := 2#32
  let c0_i32_11 : BitVec 32 := 0#32
  let v22 : BitVec 1 := Scalar.cmpi .eq c2_i32 c0_i32_11
  let c1_i32_12 : BitVec 32 := 1#32
  let v23 : BitVec 32 := Scalar.select v22 c1_i32_12 c2_i32
  let v24 : BitVec 32 := Scalar.remsi arg0 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v1268 : BitVec 32 := Scalar.subi c1_i32_620 v31
  let v1269 : Index := Scalar.indexCast v1268
  let c0_621 : Index := 0#32
  let c0_622 : Index := 0#32
  ![v1269.toNat, 0, 0]
def k0_off24 (i : grid0.Coords) : Fin 3 → Nat :=
  let arg0 : BitVec 32 := BitVec.ofNat 32 (i 0).val
  let c3_i32 : BitVec 32 := 3#32
  let c0_i32_16 : BitVec 32 := 0#32
  let v32 : BitVec 1 := Scalar.cmpi .eq c3_i32 c0_i32_16
  let c1_i32_17 : BitVec 32 := 1#32
  let v33 : BitVec 32 := Scalar.select v32 c1_i32_17 c3_i32
  let v34 : BitVec 32 := Scalar.remsi arg0 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let v1272 : Index := Scalar.indexCast v41
  let c0_623 : Index := 0#32
  let c0_624 : Index := 0#32
  ![v1272.toNat, 0, 0]
def k0_off25 (i : grid0.Coords) : Fin 3 → Nat :=
  let arg0 : BitVec 32 := BitVec.ofNat 32 (i 0).val
  let c2_i32 : BitVec 32 := 2#32
  let c0_i32_11 : BitVec 32 := 0#32
  let v22 : BitVec 1 := Scalar.cmpi .eq c2_i32 c0_i32_11
  let c1_i32_12 : BitVec 32 := 1#32
  let v23 : BitVec 32 := Scalar.select v22 c1_i32_12 c2_i32
  let v24 : BitVec 32 := Scalar.remsi arg0 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v1299 : Index := Scalar.indexCast v31
  let c0_635 : Index := 0#32
  let c0_636 : Index := 0#32
  ![v1299.toNat, 0, 0]
def k0_off26 (i : grid0.Coords) : Fin 3 → Nat :=
  let arg0 : BitVec 32 := BitVec.ofNat 32 (i 0).val
  let c2_i32 : BitVec 32 := 2#32
  let c0_i32_11 : BitVec 32 := 0#32
  let v22 : BitVec 1 := Scalar.cmpi .eq c2_i32 c0_i32_11
  let c1_i32_12 : BitVec 32 := 1#32
  let v23 : BitVec 32 := Scalar.select v22 c1_i32_12 c2_i32
  let v24 : BitVec 32 := Scalar.remsi arg0 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v1322 : Index := Scalar.indexCast v31
  let c0_644 : Index := 0#32
  let c256_645 : Index := 256#32
  ![v1322.toNat, 0, 256]
def k0_off27 (i : grid0.Coords) : Fin 3 → Nat :=
  let arg0 : BitVec 32 := BitVec.ofNat 32 (i 0).val
  let c2_i32 : BitVec 32 := 2#32
  let c0_i32_11 : BitVec 32 := 0#32
  let v22 : BitVec 1 := Scalar.cmpi .eq c2_i32 c0_i32_11
  let c1_i32_12 : BitVec 32 := 1#32
  let v23 : BitVec 32 := Scalar.select v22 c1_i32_12 c2_i32
  let v24 : BitVec 32 := Scalar.remsi arg0 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v1345 : Index := Scalar.indexCast v31
  let c0_653 : Index := 0#32
  let c512_654 : Index := 512#32
  ![v1345.toNat, 0, 512]
def k0_off28 (i : grid0.Coords) : Fin 3 → Nat :=
  let arg0 : BitVec 32 := BitVec.ofNat 32 (i 0).val
  let c2_i32 : BitVec 32 := 2#32
  let c0_i32_11 : BitVec 32 := 0#32
  let v22 : BitVec 1 := Scalar.cmpi .eq c2_i32 c0_i32_11
  let c1_i32_12 : BitVec 32 := 1#32
  let v23 : BitVec 32 := Scalar.select v22 c1_i32_12 c2_i32
  let v24 : BitVec 32 := Scalar.remsi arg0 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v1368 : Index := Scalar.indexCast v31
  let c0_662 : Index := 0#32
  let c768_663 : Index := 768#32
  ![v1368.toNat, 0, 768]
def k0_cond5 (i : grid0.Coords) : BitVec 1 :=
  let arg0 : BitVec 32 := BitVec.ofNat 32 (i 0).val
  let c16_i32_3 : BitVec 32 := 16#32
  let v10 : BitVec 32 := Scalar.addi arg0 c16_i32_3
  let c1_i32_4 : BitVec 32 := 1#32
  let v11 : BitVec 32 := Scalar.subi v10 c1_i32_4
  let c16_i32_5 : BitVec 32 := 16#32
  let c0_i32_6 : BitVec 32 := 0#32
  let v12 : BitVec 1 := Scalar.cmpi .eq c16_i32_5 c0_i32_6
  let c1_i32_7 : BitVec 32 := 1#32
  let v13 : BitVec 32 := Scalar.select v12 c1_i32_7 c16_i32_5
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c15_i32 : BitVec 32 := 15#32
  let v1372 : BitVec 1 := Scalar.cmpi .eq v21 c15_i32
  let v1373 : BitVec 32 := Scalar.extui v1372
  let c0_i32_664 : BitVec 32 := 0#32
  let v1374 : BitVec 1 := Scalar.cmpi .ne v1373 c0_i32_664
  v1374

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  ![c0_i32_4.toNat, v17.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  let c0_i32_6 : BitVec 32 := 0#32
  ![c0_i32_4.toNat, c0_i32_5.toNat, v17.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  let c0_i32_6 : BitVec 32 := 0#32
  ![c0_i32_4.toNat, c0_i32_5.toNat, v17.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  let c0_i32_6 : BitVec 32 := 0#32
  ![c0_i32_4.toNat, c0_i32_5.toNat, v17.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefPeerIdeal.lean ====
abbrev S3 : Shape := ⟨1, ![3]⟩
abbrev S4096x16384 : Shape := ⟨2, ![4096, 16384]⟩
abbrev S16384x4096 : Shape := ⟨2, ![16384, 4096]⟩
abbrev S8x128x16384 : Shape := ⟨3, ![8, 128, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S1 : Shape := ⟨1, ![1]⟩

abbrev nBuf : Space → Nat
  | .hbm => 25
  | .vmem => 5
  | .smem => 1
  | _ => 0

abbrev bufTy : (tb : Table) → Fin (tcTables nBuf tb) → BufTy
  | .hbm, ⟨0, _⟩ => ⟨S3, .f32⟩
  | .hbm, ⟨1, _⟩ => ⟨S4096x16384, .fp8e4m3⟩
  | .hbm, ⟨2, _⟩ => ⟨S16384x4096, .fp8e4m3⟩
  | .hbm, ⟨3, _⟩ => ⟨S16384x4096, .fp8e4m3⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S8x1x128x16384, .f32⟩
  | .hbm, ⟨8, _⟩ => ⟨S8x128x1x16384, .f32⟩
  | .hbm, ⟨9, _⟩ => ⟨S8x128x128x16384, .f32⟩
  | .hbm, ⟨10, _⟩ => ⟨S8x128x128x16384, .f32⟩
  | .hbm, ⟨11, _⟩ => ⟨S8x128x128x16384, .i1⟩
  | .hbm, ⟨12, _⟩ => ⟨S8x1x128x16384, .f32⟩
  | .hbm, ⟨13, _⟩ => ⟨S_, .f32⟩
  | .hbm, ⟨14, _⟩ => ⟨S_, .f32⟩
  | .hbm, ⟨15, _⟩ => ⟨S8x128x128x16384, .f32⟩
  | .hbm, ⟨16, _⟩ => ⟨S8x128x128x16384, .f32⟩
  | .hbm, ⟨17, _⟩ => ⟨S8x128x128x16384, .f32⟩
  | .hbm, ⟨18, _⟩ => ⟨S8x128x1x16384, .f32⟩
  | .hbm, ⟨19, _⟩ => ⟨S8x128x128x16384, .f32⟩
  | .hbm, ⟨20, _⟩ => ⟨S8x128x128x16384, .f32⟩
  | .hbm, ⟨21, _⟩ => ⟨S_, .f32⟩
  | .hbm, ⟨22, _⟩ => ⟨S128x128x16384, .f32⟩
  | .hbm, ⟨23, _⟩ => ⟨S16384x16384, .f32⟩
  | .hbm, ⟨24, _⟩ => ⟨S16384x4096, .bf16⟩
  | .local _ .vmem, ⟨0, _⟩ => ⟨S4096x16384, .fp8e4m3⟩
  | .local _ .vmem, ⟨1, _⟩ => ⟨S16384x4096, .fp8e4m3⟩
  | .local _ .vmem, ⟨2, _⟩ => ⟨S16384x4096, .fp8e4m3⟩
  | .local _ .vmem, ⟨3, _⟩ => ⟨S16384x16384, .f32⟩
  | .local _ .vmem, ⟨4, _⟩ => ⟨S16384x4096, .bf16⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Last.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefLastIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.ExpertsSame.lean ====
/- No rule rewrites the expert kernel: the two programs are one text. -/
module

public import proofs.«01_k».proof.Proof.Gen.PeerIdeal.Frame
public import proofs.«01_k».proof.Proof.Gen.Peer.Frame

@[expose] public section
set_option maxRecDepth 16384
noncomputable section
namespace Cert.Experts

open Idealize.ShloMosaic Idealize.ShloMosaic.TcCoe

/-- The program and its reading over the extended reals have the same text. -/
theorem same_main {F : FTy → Type} [FloatOps F] : Cert.Peer.main (F := F) = Cert.PeerIdeal.main (F := F) := rfl

/-- So do their called parts. -/
theorem same_defs {F : FTy → Type} [FloatOps F] : Cert.Peer.defs (F := F) = Cert.PeerIdeal.defs (F := F) := by chain_rfl

end Cert.Experts

end

end
-- ==== Proof.ExpertsRing.lean ====
module

public import proofs.«01_k».proof.Proof.Gen.PeerIdeal.Frame
public import proofs.«01_k».proof.Proof.Gen.PeerIdeal.Skeleton
public import Idealize.ShloMosaic.Lib.Pipeline.FrameBody
public import Idealize.ShloMosaic.Lib.Ring
public import Idealize.ShloMosaic.Lib.Tactic
public import Idealize.ShloMosaic.Lib.WordCmp

/-! The two transfer rings of the expert call, as one definition over the table streamed, the scratch buffer its tiles
land in, the row of semaphores, and the tile the ring starts at; the body's slice offsets and branch conditions at a
grid point in plain arithmetic. -/

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance gridPos : NeZero grid0.N := ⟨by rw [N_0]; decide⟩

/-- The table of the down projections, left in main memory. -/
abbrev downT : Memref sig .tc .hbm S16384x4096 .fp8e4m3 := Memref.whole main_arg2
/-- The table of the up projections, left in main memory. -/
abbrev upT : Memref sig .tc .hbm S16384x4096 .fp8e4m3 := Memref.whole main_arg3
/-- The three slots the down tiles land in. -/
abbrev downB : Memref sig .tc .vmem S3x1024x4096 .fp8e4m3 := Memref.whole cc0_scratch0
/-- The three slots the up tiles land in. -/
abbrev upB : Memref sig .tc .vmem S3x1024x4096 .fp8e4m3 := Memref.whole cc0_scratch1
/-- The running sum over the experts. -/
abbrev accB : Memref sig .tc .vmem S512x4096 .f32 := Memref.whole cc0_scratch3
/-- The gates of one tile of experts. -/
abbrev gateB : Memref sig .tc .vmem S1024x512 .f32 := Memref.whole cc0_scratch4
/-- The hidden units of one tile of experts. -/
abbrev hidB : Memref sig .tc .vmem S4x256x512 .f32 := Memref.whole cc0_scratch5
/-- The activations of this step and of the step before. -/
abbrev actB : Memref sig .tc .vmem S2x512x1024 .fp8e4m3 := Memref.whole cc0_scratch6

/-- The contents of a memref's buffer on a core. -/
abbrev Cont (c : Dev nD) {sp : Space} {S : Shape} {e : EltTy} (M : Memref sig .tc sp S e) : Type := Buf (Elt F) (M.view.loc (c : Thread nD τ))
/-- A memref's buffer held whole. -/
abbrev held (c : Dev nD) {sp : Space} {S : Shape} {e : EltTy} (M : Memref sig .tc sp S e) (f : Cont (F := F) c M) : sProp 𝕄 :=
  M.view.loc (c : Thread nD τ) ↦{fullShare} f

/-! ### Slots, tiles and semaphores -/

/-- A slot lies inside its buffer. -/
theorem slot_fits (s : Fin 3) : ∀ a, (![s.val, 0, 0] : Fin 3 → Nat) a + S1x1024x4096.size a ≤ S3x1024x4096.size a := by
  have := s.isLt; intro a; fin_cases a <;> simp <;> omega

/-- A tile lies inside its table. -/
theorem tile_fits (d : ℕ) (b : Fin 513) : ∀ a, (![1024 * ((b.val + d) % 16), 0] : Fin 2 → Nat) a + S1024x4096.size a ≤ S16384x4096.size a := by
  have := b.isLt; intro a; fin_cases a <;> simp <;> omega

/-- A counter lies inside the counters. -/
theorem sem_fits (r : Fin 2) (s : Fin 3) : ∀ a, (![r.val, s.val] : Fin 2 → Nat) a + S1x1.size a ≤ S2x3.size a := by
  have := s.isLt; have := r.isLt; intro a; fin_cases a <;> simp <;> omega

/-- Slot `s` of a ring buffer. -/
def slotM (S : Memref sig .tc .vmem S3x1024x4096 .fp8e4m3) (s : Fin 3) : Memref sig .tc .vmem S1024x4096 .fp8e4m3 :=
  (S.slice (Rect.unit (s := S3x1024x4096) ![s.val, 0, 0] S1x1024x4096.size (slot_fits s)) (fun _ => rfl)).squeeze S1024x4096 squeezes_S1x1024x4096_S1024x4096
/-- The tile of a table that step `b` uses, the table's tiles taken round and round from tile `d`. -/
def tileM (T : Memref sig .tc .hbm S16384x4096 .fp8e4m3) (d : ℕ) (b : Fin 513) : Memref sig .tc .hbm S1024x4096 .fp8e4m3 :=
  T.slice (Rect.unit (s := S16384x4096) ![1024 * ((b.val + d) % 16), 0] S1024x4096.size (tile_fits d b)) (fun _ => rfl)
/-- The semaphore of slot `s` in row `r`. -/
def semA (r : Fin 2) (s : Fin 3) : DmaSems sig S_ :=
  (cc0_scratch2.slice (Rect.unit (s := S2x3) ![r.val, s.val] S1x1.size (sem_fits r s))).squeeze S_ squeezes_S1x1_S_
/-- Its place in the pool. -/
abbrev semL (r : Fin 2) (s : Fin 3) : SemLoc sig := SemLoc.dma (semA r s).sem

/-- One share of the table per slot: a half and two quarters. -/
abbrev part3 (s : Fin 3) : PosShare TreeShare := if s.val = 0 then fullShare.left else if s.val = 1 then fullShare.right.left else fullShare.right.right

section Families
variable (c : Dev nD) (T : Memref sig .tc .hbm S16384x4096 .fp8e4m3) (S : Memref sig .tc .vmem S3x1024x4096 .fp8e4m3) (r : Fin 2) (d : ℕ)
  (W : Cont (F := F) c T)
/-- Slot `s` held. -/
abbrev slotP (s : Fin 3) (f : Cont (F := F) c (slotM S s)) : sProp 𝕄 := (slotM S s).view.loc (c : Thread nD τ) ↦[(slotM S s).view.set]{fullShare} f
/-- Slot `s`'s semaphore at zero. -/
abbrev semP (s : Fin 3) : sProp 𝕄 := semVal ((c : Thread nD τ), semL r s) 0
/-- The elements of tile `b`, of slot `s`'s share of the table. -/
abbrev tileP (s : Fin 3) (b : Fin 513) : sProp 𝕄 := (tileM T d b).view.loc (c : Thread nD τ) ↦[(tileM T d b).view.set]{part3 s} W
/-- The elements outside tile `b`, of slot `s`'s share of the table. -/
def restP (s : Fin 3) (b : Fin 513) : sProp 𝕄 := T.view.loc (c : Thread nD τ) ↦[Finset.univ \ (tileM T d b).view.set]{part3 s} W
/-- Slot `s`'s share of the table. -/
abbrev shareP (s : Fin 3) : sProp 𝕄 := T.view.loc (c : Thread nD τ) ↦[Finset.univ]{part3 s} W
/-- Slot `s` after tile `b` has landed. -/
abbrev landed (s : Fin 3) (b : Fin 513) (f : Cont (F := F) c (slotM S s)) : Cont (F := F) c (slotM S s) :=
  (slotM S s).view.writes (Elt F) f [⟨Rect.whole S1024x4096, ReadAs.same.apply ((tileM T d b).view.read (Elt F) W)⟩]
/-- Tile `b` under way to slot `s`. -/
abbrev underway (s : Fin 3) (b : Fin 513) (f : Cont (F := F) c (slotM S s)) : sProp 𝕄 :=
  Transfers.Flight countersEmb (c : Thread nD τ) (semL r s) default ((slotM S s).view.amount (semL r s))
    iprop(slotP c S s (landed c T S d W s b f) ∗ tileP c T d W s b)
/-- A free slot with its share of the table. -/
abbrev slotF (s : Fin 3) (f : Cont (F := F) c (slotM S s)) : sProp 𝕄 := iprop(slotP c S s f ∗ shareP c T W s)
/-- A transfer with the rest of the share it reads from. -/
abbrev flightF (s : Fin 3) (b : Fin 513) (f : Cont (F := F) c (slotM S s)) : sProp 𝕄 := iprop(underway c T S r d W s b f ∗ restP c T d W s b)
/-- Nothing of a tile is held apart. -/
abbrev noneF (b : Fin 513) : sProp 𝕄 := iprop(emp)
/-- The ring before step `k`: every slot free at first, then tiles `k` and `k + 1` under way and one slot free. -/
def ringAt (k : ℕ) : sProp 𝕄 :=
  if k = 0 then Ring.At₀ (semP c r) (slotF c T S W) noneF
  else Ring.At 2 (semP c r) (slotF c T S W) noneF (flightF c T S r d W) k

/-- A share of the table is a tile and the rest. -/
theorem share_split (s : Fin 3) (b : Fin 513) : shareP (F := F) c T W s ⊣⊢ iprop(tileP c T d W s b ∗ restP c T d W s b) := by
  unfold restP; exact pointsTo_split_subset (Finset.subset_univ _)
/-- The table is its three shares. -/
theorem table_split : (held c T W : sProp 𝕄) ⊣⊢ iprop(shareP c T W 0 ∗ shareP c T W 1 ∗ shareP c T W 2) := by
  refine ⟨?_, ?_⟩
  · iintro H
    ihave H' := (pointsTo_share (PosShare.mem_left_op_right fullShare)).1 $$ H
    icases H' with ⟨Ha, Hb⟩
    ihave H'' := (pointsTo_share (PosShare.mem_left_op_right fullShare.right)).1 $$ Hb
    icases H'' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- The ring's slots, each at something. -/
abbrev slotsP : sProp 𝕄 := iprop((∃ f, slotP (F := F) c S 0 f) ∗ (∃ f, slotP (F := F) c S 1 f) ∗ ∃ f, slotP (F := F) c S 2 f)

/-- Before the first step the ring is the slots, the semaphores and the table. -/
theorem ring_in : iprop(slotsP (F := F) c S ∗ (semP (F := F) c r 0 ∗ semP (F := F) c r 1 ∗ semP (F := F) c r 2) ∗ held c T W) ⊢ ringAt c T S r d W 0 := by
  unfold ringAt; rw [if_pos rfl]; unfold Ring.At₀
  rw [Ring.bigSep_fin3]
  simp only [Ring.free]
  iintro ⟨⟨⟨%f0, HS0⟩, ⟨%f1, HS1⟩, ⟨%f2, HS2⟩⟩, ⟨H0, H1, H2⟩, HW⟩
  iapply Ring.with_homes₀
  ihave HW' := (table_split (F := F) c T W).1 $$ HW
  icases HW' with ⟨HW0, HW1, HW2⟩
  isplitl [H0 HS0 HW0]
  · isplitl [H0]; · iexact H0
    iexists f0; isplitl [HS0]; · iexact HS0
    iexact HW0
  isplitl [H1 HS1 HW1]
  · isplitl [H1]; · iexact H1
    iexists f1; isplitl [HS1]; · iexact HS1
    iexact HW1
  · isplitl [H2]; · iexact H2
    iexists f2; isplitl [HS2]; · iexact HS2
    iexact HW2
/-- After the last step it is those again. -/
theorem ring_out : ringAt c T S r d W 513 ⊢ iprop(slotsP (F := F) c S ∗ (semP (F := F) c r 0 ∗ semP (F := F) c r 1 ∗ semP (F := F) c r 2) ∗ held c T W) := by
  unfold ringAt; rw [if_neg (by decide)]
  iintro H
  ihave H' := (Ring.free3_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (table_split (F := F) c T W).2; isplitl [HW0]; · iexact HW0
    isplitl [HW1]; · iexact HW1
    iexact HW2
end Families

/-! ### The slots fill the ring buffer -/

/-- The elements of slot `s`. -/
abbrev slotSet (s : Fin 3) : Finset S3x1024x4096.Idx := (Rect.unit (s := S3x1024x4096) ![s.val, 0, 0] S1x1024x4096.size (slot_fits s)).set

/-- Two slots share no place. -/
theorem slots_apart (s s' : Fin 3) (h : s ≠ s') : Disjoint (slotSet s) (slotSet s') :=
  Ring.lead_disjoint (s := S3x1024x4096) (0 : Fin 3) 1 (fun s : Fin 3 => (![s.val, 0, 0] : Fin 3 → Nat)) S1x1024x4096.size slot_fits (fun s => by simp) rfl s s' h

/-- The three slots are the whole buffer. -/
theorem slots_fill : Finset.univ.biUnion slotSet = Finset.univ :=
  Ring.lead_cover (s := S3x1024x4096) (0 : Fin 3) 1 (fun s : Fin 3 => (![s.val, 0, 0] : Fin 3 → Nat)) S1x1024x4096.size slot_fits (fun s => by simp)
    (fun s a ha => by fin_cases a <;> first | exact absurd rfl ha | rfl) rfl (fun a ha => by fin_cases a <;> first | exact absurd rfl ha | rfl) rfl

/-- The places of a slot of the down buffer. -/
theorem downSlot_set (s : Fin 3) : (slotM downB s).view.set = slotSet s := by
  simp only [slotM, Memref.view_squeeze, View.set_reshape]; exact View.set_slice_whole _ _

/-- The places of a slot of the up buffer. -/
theorem upSlot_set (s : Fin 3) : (slotM upB s).view.set = slotSet s := by
  simp only [slotM, Memref.view_squeeze, View.set_reshape]; exact View.set_slice_whole _ _

section Slots
variable (c : Dev nD)

/-- A slot of the down buffer held at given contents. -/
theorem downSlot_eq (s : Fin 3) (f) : slotP (F := F) c downB s f = (((c : Thread nD τ).loc cc0_scratch0) ↦[slotSet s]{fullShare} f : sProp 𝕄) := by
  unfold slotP; rw [downSlot_set]; rfl

/-- A slot of the up buffer held at given contents. -/
theorem upSlot_eq (s : Fin 3) (f) : slotP (F := F) c upB s f = (((c : Thread nD τ).loc cc0_scratch1) ↦[slotSet s]{fullShare} f : sProp 𝕄) := by
  unfold slotP; rw [upSlot_set]; rfl
set_option maxHeartbeats 1000000 in
/-- The buffer of the down tiles is its slots, and back. -/
theorem downSlots : (iprop(∃ d, owns (c : Thread nD τ) downB fullShare d) ⊢ slotsP (F := F) c downB) ∧ (slotsP (F := F) c downB ⊢ iprop(∃ d, owns (c : Thread nD τ) downB fullShare d)) := by
  simp only [downB, owns_whole]
  exact ⟨Ring.slots3_split (U := Pipeline.UD sig nD τ) (ℓ := (c : Thread nD τ).loc cc0_scratch0) (q := fullShare) slotSet slots_apart slots_fill
    (slotP c downB 0) (slotP c downB 1) (slotP c downB 2) (downSlot_eq c 0) (downSlot_eq c 1) (downSlot_eq c 2),
    Ring.slots3_join (U := Pipeline.UD sig nD τ) (ℓ := (c : Thread nD τ).loc cc0_scratch0) (q := fullShare) slotSet slots_apart slots_fill
    (slotP c downB 0) (slotP c downB 1) (slotP c downB 2) (downSlot_eq c 0) (downSlot_eq c 1) (downSlot_eq c 2)⟩
set_option maxHeartbeats 1000000 in
/-- The buffer of the up tiles is its slots, and back. -/
theorem upSlots : (iprop(∃ d, owns (c : Thread nD τ) upB fullShare d) ⊢ slotsP (F := F) c upB) ∧ (slotsP (F := F) c upB ⊢ iprop(∃ d, owns (c : Thread nD τ) upB fullShare d)) := by
  simp only [upB, owns_whole]
  exact ⟨Ring.slots3_split (U := Pipeline.UD sig nD τ) (ℓ := (c : Thread nD τ).loc cc0_scratch1) (q := fullShare) slotSet slots_apart slots_fill
    (slotP c upB 0) (slotP c upB 1) (slotP c upB 2) (upSlot_eq c 0) (upSlot_eq c 1) (upSlot_eq c 2),
    Ring.slots3_join (U := Pipeline.UD sig nD τ) (ℓ := (c : Thread nD τ).loc cc0_scratch1) (q := fullShare) slotSet slots_apart slots_fill
    (slotP c upB 0) (slotP c upB 1) (slotP c upB 2) (upSlot_eq c 0) (upSlot_eq c 1) (upSlot_eq c 2)⟩
end Slots

/-! ### The semaphores of the two rings -/

/-- The six semaphores of the two rings. -/
abbrev ownSem : Fin 6 → SemLoc sig := fun j => (![SemLoc.dma 11, SemLoc.dma 12, SemLoc.dma 13, SemLoc.dma 14, SemLoc.dma 15, SemLoc.dma 16] : Fin 6 → SemLoc sig) j

/-- The kernel's own counters are six, none of them a window's. -/
theorem ownSem_facts : Pipeline.OwnSemFacts spec0 ownSem := by decide

/-- A counter by its row and its slot. -/
theorem semL_eq (r : Fin 2) (s : Fin 3) : semL r s = ownSem ⟨3 * r.val + s.val, by omega⟩ := by
  revert r s; decide
/-- The six semaphores at zero are those of the two rings. -/
theorem sems_eq (c : Dev nD) :
    (Pipeline.ownSems0 (Ix := Unit) (Name := ℕ) (U := Pipeline.UD sig nD τ) (Lvl := ℕ) (Val := Elt F) (τ := τ) ownSem c : sProp 𝕄)
      = iprop(semP c 0 0 ∗ semP c 0 1 ∗ semP c 0 2 ∗ semP c 1 0 ∗ semP c 1 1 ∗ semP c 1 2) := by
  rw [Pipeline.ownSems0_eq_of_list c ownSem [0, 1, 2, 3, 4, 5] (by decide) (by decide)]
  simp only [semP, semL_eq]; rfl

/-! ### The branch conditions -/

/-- The tile number of the step before, as the kernel computes it. -/
def prevTile (i : grid0.Coords) : BitVec 32 :=
  let v13 : BitVec 32 := Scalar.select (Scalar.cmpi .eq 16#32 0#32) 1#32 16#32
  let v14 : BitVec 32 := Scalar.remsi (Scalar.subi (Scalar.addi (BitVec.ofNat 32 (i 0).val) 16#32) 1#32) v13
  Scalar.select (Scalar.andi (Scalar.xori (Scalar.cmpi .slt v14 0#32) (Scalar.cmpi .slt v13 0#32)) (Scalar.cmpi .ne v14 0#32)) (Scalar.addi v14 v13) v14
/-- The first two tiles are started. -/
abbrev starts (i : grid0.Coords) : Prop := k0_cond1 i = 1#1
/-- The tile two steps ahead is started. -/
abbrev ahead (i : grid0.Coords) : Prop := k0_cond2 i = 1#1
/-- The activations of the step before the first are zeroed. -/
abbrev clears (i : grid0.Coords) : Prop := Scalar.cmpi .ne (Scalar.extui (Scalar.cmpi .eq (BitVec.ofNat 32 (i 0).val) 0#32) : BitVec 32) 0#32 = 1#1
/-- The running sum is reset. -/
abbrev resets (i : grid0.Coords) : Prop :=
  Scalar.cmpi .ne (Scalar.extui (Scalar.ori (Scalar.cmpi .eq (BitVec.ofNat 32 (i 0).val) 0#32) (Scalar.cmpi .eq (prevTile i) 0#32)) : BitVec 32) 0#32 = 1#1
/-- The running sum is written out. -/
abbrev emits (i : grid0.Coords) : Prop := k0_cond5 i = 1#1

/-- The opening transfers start at the first point only. -/
theorem starts_iff : ∀ t : Fin grid0.N, starts (grid0.coords t) ↔ t.val = 0 := by decide +kernel

/-- A transfer two points ahead starts while there is such a point. -/
theorem ahead_iff : ∀ t : Fin grid0.N, ahead (grid0.coords t) ↔ t.val < 511 := by decide +kernel

/-- The kept activation is cleared at the first point only. -/
theorem clears_iff : ∀ t : Fin grid0.N, clears (grid0.coords t) ↔ t.val = 0 := by decide +kernel

/-- The sum starts again at the first point and after each token block. -/
theorem resets_iff : ∀ t : Fin grid0.N, resets (grid0.coords t) ↔ t.val = 0 ∨ t.val % 16 = 1 := by decide +kernel

/-- The result is stored once per token block. -/
theorem emits_iff : ∀ t : Fin grid0.N, emits (grid0.coords t) ↔ t.val % 16 = 0 := by decide +kernel

/-! ### The slices at a point -/

section Names
omit [FloatOps F]
/-- The first grid point. -/
def first : Fin grid0.N := ⟨0, by rw [N_0]; decide⟩

/-- The counter of the down tile two points ahead. -/
theorem off1_eq : ∀ t : Fin grid0.N, k0_off1 (grid0.coords t) = ![(0 : Fin 2).val, (Ring.sl 3 (t.val + 2)).val] := by decide +kernel

/-- The slot of the down tile two points ahead. -/
theorem off2_eq : ∀ t : Fin grid0.N, k0_off2 (grid0.coords t) = ![(Ring.sl 3 (t.val + 2)).val, 0, 0] := by decide +kernel

/-- The down tile two points ahead. -/
theorem off3_eq : ∀ t : Fin grid0.N, ahead (grid0.coords t) → k0_off3 (grid0.coords t) = ![1024 * (((Ring.bk 513 (t.val + 2)).val + 0) % 16), 0] := by decide +kernel

/-- The counter of the up tile two points ahead. -/
theorem off4_eq : ∀ t : Fin grid0.N, k0_off4 (grid0.coords t) = ![(1 : Fin 2).val, (Ring.sl 3 (t.val + 2)).val] := by decide +kernel

/-- The up tile two points ahead. -/
theorem off5_eq : ∀ t : Fin grid0.N, ahead (grid0.coords t) → k0_off5 (grid0.coords t) = ![1024 * (((Ring.bk 513 (t.val + 2)).val + 15) % 16), 0] := by decide +kernel

/-- The counter of this point's down tile. -/
theorem off6_eq : ∀ t : Fin grid0.N, k0_off6 (grid0.coords t) = ![(0 : Fin 2).val, (Ring.sl 3 t.val).val] := by decide +kernel

/-- The slot of this point's down tile. -/
theorem off7_eq : ∀ t : Fin grid0.N, k0_off7 (grid0.coords t) = ![(Ring.sl 3 t.val).val, 0, 0] := by decide +kernel

/-- This point's down tile. -/
theorem off8_eq : ∀ t : Fin grid0.N, k0_off8 (grid0.coords t) = ![1024 * (((Ring.bk 513 t.val).val + 0) % 16), 0] := by decide +kernel

/-- The counter of this point's up tile. -/
theorem off9_eq : ∀ t : Fin grid0.N, k0_off9 (grid0.coords t) = ![(1 : Fin 2).val, (Ring.sl 3 t.val).val] := by decide +kernel

/-- This point's up tile. -/
theorem off10_eq : ∀ t : Fin grid0.N, k0_off10 (grid0.coords t) = ![1024 * (((Ring.bk 513 t.val).val + 15) % 16), 0] := by decide +kernel

/-- Where the first quarter of the down tile is read. -/
theorem off19_eq : ∀ t : Fin grid0.N, k0_off19 (grid0.coords t) = ![(Ring.sl 3 t.val).val, 0, 0] := by decide +kernel

/-- Where the second quarter of the down tile is read. -/
theorem off20_eq : ∀ t : Fin grid0.N, k0_off20 (grid0.coords t) = ![(Ring.sl 3 t.val).val, 256, 0] := by decide +kernel

/-- Where the third quarter of the down tile is read. -/
theorem off21_eq : ∀ t : Fin grid0.N, k0_off21 (grid0.coords t) = ![(Ring.sl 3 t.val).val, 512, 0] := by decide +kernel

/-- Where the last quarter of the down tile is read. -/
theorem off22_eq : ∀ t : Fin grid0.N, k0_off22 (grid0.coords t) = ![(Ring.sl 3 t.val).val, 768, 0] := by decide +kernel

/-- Where the activation of the point before is read. -/
theorem off23_eq : ∀ t : Fin grid0.N, k0_off23 (grid0.coords t) = ![1 - t.val % 2, 0, 0] := by decide +kernel

/-- Where the up tile is read. -/
theorem off24_eq : ∀ t : Fin grid0.N, k0_off24 (grid0.coords t) = ![(Ring.sl 3 t.val).val, 0, 0] := by decide +kernel

/-- Where the first quarter of the activation is kept. -/
theorem off25_eq : ∀ t : Fin grid0.N, k0_off25 (grid0.coords t) = ![t.val % 2, 0, 0] := by decide +kernel

/-- Where the second quarter of the activation is kept. -/
theorem off26_eq : ∀ t : Fin grid0.N, k0_off26 (grid0.coords t) = ![t.val % 2, 0, 256] := by decide +kernel

/-- Where the third quarter of the activation is kept. -/
theorem off27_eq : ∀ t : Fin grid0.N, k0_off27 (grid0.coords t) = ![t.val % 2, 0, 512] := by decide +kernel

/-- Where the last quarter of the activation is kept. -/
theorem off28_eq : ∀ t : Fin grid0.N, k0_off28 (grid0.coords t) = ![t.val % 2, 0, 768] := by decide +kernel

instance (priority := high) closed19 (t : Fin grid0.N) : ClosedOff (k0_off19 (grid0.coords t)) := ⟨_, off19_eq t⟩
instance (priority := high) closed20 (t : Fin grid0.N) : ClosedOff (k0_off20 (grid0.coords t)) := ⟨_, off20_eq t⟩
instance (priority := high) closed21 (t : Fin grid0.N) : ClosedOff (k0_off21 (grid0.coords t)) := ⟨_, off21_eq t⟩
instance (priority := high) closed22 (t : Fin grid0.N) : ClosedOff (k0_off22 (grid0.coords t)) := ⟨_, off22_eq t⟩
instance (priority := high) closed23 (t : Fin grid0.N) : ClosedOff (k0_off23 (grid0.coords t)) := ⟨_, off23_eq t⟩
instance (priority := high) closed24 (t : Fin grid0.N) : ClosedOff (k0_off24 (grid0.coords t)) := ⟨_, off24_eq t⟩
instance (priority := high) closed25 (t : Fin grid0.N) : ClosedOff (k0_off25 (grid0.coords t)) := ⟨_, off25_eq t⟩
instance (priority := high) closed26 (t : Fin grid0.N) : ClosedOff (k0_off26 (grid0.coords t)) := ⟨_, off26_eq t⟩
instance (priority := high) closed27 (t : Fin grid0.N) : ClosedOff (k0_off27 (grid0.coords t)) := ⟨_, off27_eq t⟩
instance (priority := high) closed28 (t : Fin grid0.N) : ClosedOff (k0_off28 (grid0.coords t)) := ⟨_, off28_eq t⟩

/-- A slot's slice, at an offset known in closed form, is that slot. -/
theorem slot_named (S : Memref sig .tc .vmem S3x1024x4096 .fp8e4m3) (s : Fin 3) {o : Fin 3 → Nat} (h : o = ![s.val, 0, 0]) (ho) :
    (S.slice (Rect.unit (s := S3x1024x4096) o S1x1024x4096.size ho) (fun _ => rfl)).squeeze S1024x4096 squeezes_S1x1024x4096_S1024x4096 = slotM S s := by
  subst h; rfl
/-- A tile's slice, at an offset known in closed form, is that tile. -/
theorem tile_named (T : Memref sig .tc .hbm S16384x4096 .fp8e4m3) (d : ℕ) (b : Fin 513) {o : Fin 2 → Nat} (h : o = ![1024 * ((b.val + d) % 16), 0]) (ho) :
    T.slice (Rect.unit (s := S16384x4096) o S1024x4096.size ho) (fun _ => rfl) = tileM T d b := by
  subst h; rfl
/-- A semaphore's slice, at an offset known in closed form, is that semaphore. -/
theorem sem_named (r : Fin 2) (s : Fin 3) {o : Fin 2 → Nat} (h : o = ![r.val, s.val]) (ho) :
    (cc0_scratch2.slice (Rect.unit (s := S2x3) o S1x1.size ho)).squeeze S_ squeezes_S1x1_S_ = semA r s := by
  subst h; rfl

variable (S : Memref sig .tc .vmem S3x1024x4096 .fp8e4m3) (T : Memref sig .tc .hbm S16384x4096 .fp8e4m3) (t : Fin grid0.N)
@[sl_canon] theorem at1 (ho) : (cc0_scratch2.slice (Rect.unit (s := S2x3) (k0_off1 (grid0.coords t)) S1x1.size ho)).squeeze S_ squeezes_S1x1_S_ = semA 0 (Ring.sl 3 (t.val + 2)) :=
  sem_named _ _ (off1_eq t) _
@[sl_canon] theorem at2 (ho) : (S.slice (Rect.unit (s := S3x1024x4096) (k0_off2 (grid0.coords t)) S1x1024x4096.size ho) (fun _ => rfl)).squeeze S1024x4096 squeezes_S1x1024x4096_S1024x4096 = slotM S (Ring.sl 3 (t.val + 2)) :=
  slot_named _ _ (off2_eq t) _
@[sl_canon] theorem at3 (h : ahead (grid0.coords t)) : T.slice (Rect.unit (s := S16384x4096) (k0_off3 (grid0.coords t)) S1024x4096.size (k0_off3_inb (grid0.coords t) h)) (fun _ => rfl) = tileM T 0 (Ring.bk 513 (t.val + 2)) :=
  tile_named _ _ _ (off3_eq t h) _
@[sl_canon] theorem at4 (ho) : (cc0_scratch2.slice (Rect.unit (s := S2x3) (k0_off4 (grid0.coords t)) S1x1.size ho)).squeeze S_ squeezes_S1x1_S_ = semA 1 (Ring.sl 3 (t.val + 2)) :=
  sem_named _ _ (off4_eq t) _
@[sl_canon] theorem at5 (h : ahead (grid0.coords t)) : T.slice (Rect.unit (s := S16384x4096) (k0_off5 (grid0.coords t)) S1024x4096.size (k0_off5_inb (grid0.coords t) h)) (fun _ => rfl) = tileM T 15 (Ring.bk 513 (t.val + 2)) :=
  tile_named _ _ _ (off5_eq t h) _
@[sl_canon] theorem at6 (ho) : (cc0_scratch2.slice (Rect.unit (s := S2x3) (k0_off6 (grid0.coords t)) S1x1.size ho)).squeeze S_ squeezes_S1x1_S_ = semA 0 (Ring.sl 3 t.val) :=
  sem_named _ _ (off6_eq t) _
@[sl_canon] theorem at7 (ho) : (S.slice (Rect.unit (s := S3x1024x4096) (k0_off7 (grid0.coords t)) S1x1024x4096.size ho) (fun _ => rfl)).squeeze S1024x4096 squeezes_S1x1024x4096_S1024x4096 = slotM S (Ring.sl 3 t.val) :=
  slot_named _ _ (off7_eq t) _
@[sl_canon] theorem at8 (ho) : T.slice (Rect.unit (s := S16384x4096) (k0_off8 (grid0.coords t)) S1024x4096.size ho) (fun _ => rfl) = tileM T 0 (Ring.bk 513 t.val) :=
  tile_named _ _ _ (off8_eq t) _
@[sl_canon] theorem at9 (ho) : (cc0_scratch2.slice (Rect.unit (s := S2x3) (k0_off9 (grid0.coords t)) S1x1.size ho)).squeeze S_ squeezes_S1x1_S_ = semA 1 (Ring.sl 3 t.val) :=
  sem_named _ _ (off9_eq t) _
@[sl_canon] theorem at10 (ho) : T.slice (Rect.unit (s := S16384x4096) (k0_off10 (grid0.coords t)) S1024x4096.size ho) (fun _ => rfl) = tileM T 15 (Ring.bk 513 t.val) :=
  tile_named _ _ _ (off10_eq t) _

/-! The two tiles started at the first point, named as that point's. -/
@[sl_canon] theorem atSlot0 (ho) : (S.slice (Rect.unit (s := S3x1024x4096) ![0, 0, 0] S1x1024x4096.size ho) (fun _ => rfl)).squeeze S1024x4096 squeezes_S1x1024x4096_S1024x4096 = slotM S (Ring.sl 3 first.val) := rfl
@[sl_canon] theorem atSlot1 (ho) : (S.slice (Rect.unit (s := S3x1024x4096) ![1, 0, 0] S1x1024x4096.size ho) (fun _ => rfl)).squeeze S1024x4096 squeezes_S1x1024x4096_S1024x4096 = slotM S (Ring.sl 3 (first.val + 1)) := rfl
@[sl_canon] theorem atDown0 (ho) : downT.slice (Rect.unit (s := S16384x4096) ![0, 0] S1024x4096.size ho) (fun _ => rfl) = tileM downT 0 (Ring.bk 513 first.val) := rfl
@[sl_canon] theorem atDown1 (ho) : downT.slice (Rect.unit (s := S16384x4096) ![1024, 0] S1024x4096.size ho) (fun _ => rfl) = tileM downT 0 (Ring.bk 513 (first.val + 1)) := rfl
@[sl_canon] theorem atUp0 (ho) : upT.slice (Rect.unit (s := S16384x4096) ![15360, 0] S1024x4096.size ho) (fun _ => rfl) = tileM upT 15 (Ring.bk 513 first.val) := rfl
@[sl_canon] theorem atUp1 (ho) : upT.slice (Rect.unit (s := S16384x4096) ![0, 0] S1024x4096.size ho) (fun _ => rfl) = tileM upT 15 (Ring.bk 513 (first.val + 1)) := rfl
@[sl_canon] theorem atSem00 (ho) : (cc0_scratch2.slice (Rect.unit (s := S2x3) ![0, 0] S1x1.size ho)).squeeze S_ squeezes_S1x1_S_ = semA 0 (Ring.sl 3 first.val) := rfl
@[sl_canon] theorem atSem01 (ho) : (cc0_scratch2.slice (Rect.unit (s := S2x3) ![0, 1] S1x1.size ho)).squeeze S_ squeezes_S1x1_S_ = semA 0 (Ring.sl 3 (first.val + 1)) := rfl
@[sl_canon] theorem atSem10 (ho) : (cc0_scratch2.slice (Rect.unit (s := S2x3) ![1, 0] S1x1.size ho)).squeeze S_ squeezes_S1x1_S_ = semA 1 (Ring.sl 3 first.val) := rfl
@[sl_canon] theorem atSem11 (ho) : (cc0_scratch2.slice (Rect.unit (s := S2x3) ![1, 1] S1x1.size ho)).squeeze S_ squeezes_S1x1_S_ = semA 1 (Ring.sl 3 (first.val + 1)) := rfl
end Names

end Cert.Experts

end
-- ==== Proof.ExpertsMid.lean ====
module

public import proofs.«01_k».proof.Proof.ExpertsRing

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x4096 .bf16) (harg8 : arg8.IsWhole)

/-- The call's body on given staging buffers. -/
abbrev bodyOn : Prog (TpuEff nD τ sig (Elt F) Λ₀ .tc) PUnit :=
  cc0_peer_experts (grid0.coords t) arg1 harg1 arg2 harg2 downT (Memref.isWhole_whole _) upT (Memref.isWhole_whole _) arg5 harg5 arg6 harg6 arg7 harg7 arg8 harg8 downB (Memref.isWhole_whole _) upB (Memref.isWhole_whole _) cc0_scratch2 accB (Memref.isWhole_whole _) gateB (Memref.isWhole_whole _) hidB (Memref.isWhole_whole _) actB (Memref.isWhole_whole _)

/-- The five inputs' staging buffers at given contents. -/
abbrev insP (x0 : Vec F S3 .f32) (x1 : Vec F S4096x512 .fp8e4m3) (x2 x3 x4 : Vec F S8x128x512 .f32) : sProp 𝕄 :=
  iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4)
end

set_option maxHeartbeats 4000000 in
/-- The middle of a step, after its transfers have landed: the gates, the hidden units, the activation, the sum, and the result. -/
noncomputable def mid (c : Dev nD) (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x4096 .bf16) (harg8 : arg8.IsWhole)
    (h1 : ¬starts (grid0.coords t)) (h2 : ahead (grid0.coords t)) (h3 : ¬clears (grid0.coords t)) (h4 : ¬resets (grid0.coords t)) (h5 : ¬emits (grid0.coords t))
    (x0 : Vec F S3 .f32) (x1 : Vec F S4096x512 .fp8e4m3) (x2 x3 x4 : Vec F S8x128x512 .f32) (Wd : Cont (F := F) c downT) (Wu : Cont (F := F) c upT)
    : { L : List (View.Piece (Elt F) S2x512x1024 .fp8e4m3) //
    ∀ (a : Cont (F := F) c accB) (b : Cont (F := F) c actB) (W : Waits sig Unit) (K : PUnit → sProp 𝕄),
    iprop(insP c arg1 arg2 arg5 arg6 arg7 x0 x1 x2 x3 x4
      ∗ held c accB a ∗ (∃ f, held c gateB f) ∗ (∃ f, held c hidB f) ∗ held c actB b
      ∗ Ring.inflight (flightF c downT downB 0 0 Wd) (Ring.sl 3 t.val) (Ring.bk 513 t.val)
      ∗ Ring.inflight (flightF c upT upB 1 15 Wu) (Ring.sl 3 t.val) (Ring.bk 513 t.val)
      ∗ Ring.free (semP c 0) (slotF c downT downB Wd) (Ring.sl 3 (t.val + 2))
      ∗ Ring.free (semP c 1) (slotF c upT upB Wu) (Ring.sl 3 (t.val + 2))
      ∗ owes (c : Thread nD τ) 0 W
      ∗ (iprop(insP c arg1 arg2 arg5 arg6 arg7 x0 x1 x2 x3 x4
        ∗ (∃ a', held c accB a') ∗ (∃ f, held c gateB f) ∗ (∃ f, held c hidB f) ∗ held c actB (actB.view.writes (Elt F) b L)
        ∗ Ring.free (semP c 0) (slotF c downT downB Wd) (Ring.sl 3 t.val)
        ∗ Ring.free (semP c 1) (slotF c upT upB Wu) (Ring.sl 3 t.val)
        ∗ Ring.inflight (flightF c downT downB 0 0 Wd) (Ring.sl 3 (t.val + 2)) (Ring.bk 513 (t.val + 2))
        ∗ Ring.inflight (flightF c upT upB 1 15 Wu) (Ring.sl 3 (t.val + 2)) (Ring.bk 513 (t.val + 2))
        ∗ (∃ W', owes (c : Thread nD τ) 0 W')) -∗ K ⟨⟩))
    ⊢ wp frame (wpE (defs₀ (F := F)) Variants.none c none) Set.univ (bodyOn t arg1 harg1 arg2 harg2 arg5 harg5 arg6 harg6 arg7 harg7 arg8 harg8) K } := by
  refine ⟨?L, fun a b W K => ?run⟩
  case run =>
    haveI : Fact (¬starts (grid0.coords t)) := ⟨h1⟩
    haveI : Fact (ahead (grid0.coords t)) := ⟨h2⟩
    haveI : Fact (¬clears (grid0.coords t)) := ⟨h3⟩
    haveI : Fact (¬resets (grid0.coords t)) := ⟨h4⟩
    haveI : Fact (¬emits (grid0.coords t)) := ⟨h5⟩
    unfold bodyOn insP
    simp only [cc0_peer_experts_eq_skeleton]; unfold cc0_peer_experts_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns Ring.free Ring.inflight
    iintro ⟨⟨⟨%f0, %hf0, H0⟩, ⟨%f1, %hf1, H1⟩, ⟨%f2, %hf2, H2⟩, ⟨%f3, %hf3, H3⟩, ⟨%f4, %hf4, H4⟩⟩, HA, ⟨%fg, HG⟩, ⟨%fh, HH⟩, HB, ⟨%fd, Hfd, Hrd⟩, ⟨%fu, Hfu, Hru⟩, ⟨Hcd, ⟨%gd, Hsd, Hwd⟩⟩, ⟨Hcu, ⟨%gu, Hsu, Hwu⟩⟩, HW, Hk⟩
    ihave Hd := (share_split c downT 0 Wd (Ring.sl 3 (t.val + 2)) (Ring.bk 513 (t.val + 2))).1 $$ Hwd
    icases Hd with ⟨Hhd, Hqd⟩
    ihave Hu := (share_split c upT 15 Wu (Ring.sl 3 (t.val + 2)) (Ring.bk 513 (t.val + 2))).1 $$ Hwu
    icases Hu with ⟨Hhu, Hqu⟩
    obtain rfl := harg1.eq_unread hf0; obtain rfl := harg2.eq_unread hf1; obtain rfl := harg5.eq_unread hf2; obtain rfl := harg6.eq_unread hf3; obtain rfl := harg7.eq_unread hf4
    sl_exec (disch := first | sl_exact h1 | sl_exact h2 | sl_exact h3 | sl_exact h4 | sl_exact h5)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg5.read_unread _
        iexact H2
      isplitl [H3]
      · iexists _; isplitr; · ipureintro; exact harg6.read_unread _
        iexact H3
      iexists _; isplitr; · ipureintro; exact harg7.read_unread _
      iexact H4
    isplitl [HA]; · iexists _; iexact HA
    isplitl [HG]; · iexists _; iexact HG
    isplitl [HH]; · iexists _; iexact HH
    isplitl [HB]; · iexact HB
    isplitl [Hfd Hfd_dst Hfd_src Hrd]
    · isplitl [Hfd]; · iexact Hfd
      iexists _; isplitl [Hfd_dst]; · iexact Hfd_dst
      iapply (share_split c downT 0 Wd (Ring.sl 3 t.val) (Ring.bk 513 t.val)).2; isplitl [Hfd_src]; · iexact Hfd_src
      iexact Hrd
    isplitl [Hfu Hfu_dst Hfu_src Hru]
    · isplitl [Hfu]; · iexact Hfu
      iexists _; isplitl [Hfu_dst]; · iexact Hfu_dst
      iapply (share_split c upT 15 Wu (Ring.sl 3 t.val) (Ring.bk 513 t.val)).2; isplitl [Hfu_src]; · iexact Hfu_src
      iexact Hru
    isplitl [Hcd Hqd]
    · iexists _; isplitl [Hcd]; · iexact Hcd
      iexact Hqd
    isplitl [Hcu Hqu]
    · iexists _; isplitl [Hcu]; · iexact Hcu
      iexact Hqu
    iexists _; iexact HW

end Cert.Experts

end
-- ==== Proof.ExpertsRun.lean ====
module

public import proofs.«01_k».proof.Proof.ExpertsMid
public import Idealize.ShloMosaic.Lib.VecWindow

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole)
    (x0 : Vec F S3 .f32) (x1 : Vec F S4096x512 .fp8e4m3) (x2 x3 x4 : Vec F S8x128x512 .f32) (Wd : Cont (F := F) c downT) (Wu : Cont (F := F) c upT)

/-- What the step stores of its activations: four blocks of columns of the step's slot. -/
def actL : List (View.Piece (Elt F) S2x512x1024 .fp8e4m3) :=
  [⟨Rect.unit (s := S2x512x1024) (k0_off28 (grid0.coords t)) S1x512x256.size (k0_off28_inb (grid0.coords t)),
      k0_pay1 (mid.sl.r c arg1 harg1 x0) (k0_pay88 (mid.sl.v1349 c t arg2 harg2 x1 Wd))
        (k0_pay89 (mid.sl.v1349 c t arg2 harg2 x1 Wd) (mid.sl.v1351 c t arg5 harg5 arg6 harg6 arg7 harg7 x2 x3 x4))
        (k0_pay90 (mid.sl.v1349 c t arg2 harg2 x1 Wd)) (k0_pay91 (mid.sl.r_1 c arg1 harg1 x0))⟩,
    ⟨Rect.unit (s := S2x512x1024) (k0_off27 (grid0.coords t)) S1x512x256.size (k0_off27_inb (grid0.coords t)),
      k0_pay87 (k0_pay86 (mid.sl.r c arg1 harg1 x0) (mid.sl.r_1 c arg1 harg1 x0) (mid.sl.v1326 c t arg2 harg2 x1 Wd) (mid.sl.v1328 c t arg5 harg5 arg6 harg6 arg7 harg7 x2 x3 x4))⟩,
    ⟨Rect.unit (s := S2x512x1024) (k0_off26 (grid0.coords t)) S1x512x256.size (k0_off26_inb (grid0.coords t)),
      k0_pay85 (mid.sl.r c arg1 harg1 x0) (mid.sl.r_1 c arg1 harg1 x0) (mid.sl.v1303 c t arg2 harg2 x1 Wd) (mid.sl.v1305 c t arg5 harg5 arg6 harg6 arg7 harg7 x2 x3 x4)⟩,
    ⟨Rect.unit (s := S2x512x1024) (k0_off25 (grid0.coords t)) S1x512x256.size (k0_off25_inb (grid0.coords t)),
      k0_pay84 (k0_pay83 (mid.sl.r c arg1 harg1 x0) (mid.sl.r_1 c arg1 harg1 x0) (mid.sl.v1280 c t arg2 harg2 x1 Wd) (mid.sl.v1282 c t arg5 harg5 arg6 harg6 arg7 harg7 x2 x3 x4))⟩]

/-- The activations of the step before, as the step loads them. -/
abbrev loadAct (b : Cont (F := F) c actB) : Vec F S1x512x1024 .fp8e4m3 :=
  View.readAt (Elt F) actB.view (Rect.unit (s := S2x512x1024) (k0_off23 (grid0.coords t)) S1x512x1024.size (k0_off23_inb (grid0.coords t))).toLoadRect b
/-- The up tile as the step loads it. -/
abbrev loadUp : Vec F S1x1024x4096 .fp8e4m3 := mid.sl.v1273 c t Wu
/-- The third scale, as the step loads it. -/
def outScale : Elt F .f32 :=
  View.readAt (Elt F) arg1.view (Rect.unit (s := S3) ![2] S1.size inb_S3_S1_2).toLoadRect (harg1.unread x0)
    (Shape.Idx.first (smemLoad._proof_2 (Rect.unit (s := S3) ![2] S1.size inb_S3_S1_2) numel1_S1))
end

set_option maxHeartbeats 1000000 in
/-- A step after the first: from the tiles of this step under way, it leaves the sum and the activations at their next values,
    and writes the sum out where it is complete. -/
theorem run (c : Dev nD) (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x4096 .bf16) (harg8 : arg8.IsWhole)
    (h1 : ¬starts (grid0.coords t)) (h3 : ¬clears (grid0.coords t)) (h45 : ¬(resets (grid0.coords t) ∧ emits (grid0.coords t))) (h24 : ¬(¬ahead (grid0.coords t) ∧ resets (grid0.coords t)))
    (x0 : Vec F S3 .f32) (x1 : Vec F S4096x512 .fp8e4m3) (x2 x3 x4 : Vec F S8x128x512 .f32) (x5 : Vec F S512x4096 .bf16) (Wd : Cont (F := F) c downT) (Wu : Cont (F := F) c upT)
    (a : Cont (F := F) c accB) (b : Cont (F := F) c actB) (W : Waits sig Unit) (K : PUnit → sProp 𝕄) :
    iprop(insP c arg1 arg2 arg5 arg6 arg7 x0 x1 x2 x3 x4 ∗ owns (c : Thread nD τ) arg8 fullShare x5
      ∗ held c accB a ∗ (∃ f, held c gateB f) ∗ (∃ f, held c hidB f) ∗ held c actB b
      ∗ Ring.inflight (flightF c downT downB 0 0 Wd) (Ring.sl 3 t.val) (Ring.bk 513 t.val)
      ∗ Ring.inflight (flightF c upT upB 1 15 Wu) (Ring.sl 3 t.val) (Ring.bk 513 t.val)
      ∗ Ring.free (semP c 0) (slotF c downT downB Wd) (Ring.sl 3 (t.val + 2))
      ∗ Ring.free (semP c 1) (slotF c upT upB Wu) (Ring.sl 3 (t.val + 2))
      ∗ owes (c : Thread nD τ) 0 W
      ∗ (iprop(insP c arg1 arg2 arg5 arg6 arg7 x0 x1 x2 x3 x4
        ∗ owns (c : Thread nD τ) arg8 fullShare (if emits (grid0.coords t) then k0_pay2 (outScale arg1 harg1 x0) (k0_pay82 (accB.view.read (Elt F) a) (loadAct c t b) (loadUp c t Wu)) else x5)
        ∗ (∃ a', ⌜accB.view.read (Elt F) a' = k0_pay82 (if resets (grid0.coords t) then k0_pay4 else accB.view.read (Elt F) a) (loadAct c t b) (loadUp c t Wu)⌝ ∗ held c accB a')
        ∗ (∃ f, held c gateB f) ∗ (∃ f, held c hidB f)
        ∗ (∃ b₀, held c actB (actB.view.writes (Elt F) b₀ (actL c t arg1 harg1 arg2 harg2 arg5 harg5 arg6 harg6 arg7 harg7 x0 x1 x2 x3 x4 Wd)))
        ∗ Ring.free (semP c 0) (slotF c downT downB Wd) (Ring.sl 3 t.val)
        ∗ Ring.free (semP c 1) (slotF c upT upB Wu) (Ring.sl 3 t.val)
        ∗ (if ahead (grid0.coords t) then Ring.inflight (flightF c downT downB 0 0 Wd) (Ring.sl 3 (t.val + 2)) (Ring.bk 513 (t.val + 2)) else Ring.free (semP c 0) (slotF c downT downB Wd) (Ring.sl 3 (t.val + 2)))
        ∗ (if ahead (grid0.coords t) then Ring.inflight (flightF c upT upB 1 15 Wu) (Ring.sl 3 (t.val + 2)) (Ring.bk 513 (t.val + 2)) else Ring.free (semP c 1) (slotF c upT upB Wu) (Ring.sl 3 (t.val + 2)))
        ∗ (∃ W', owes (c : Thread nD τ) 0 W')) -∗ K ⟨⟩))
    ⊢ wp frame (wpE (defs₀ (F := F)) Variants.none c none) Set.univ (bodyOn t arg1 harg1 arg2 harg2 arg5 harg5 arg6 harg6 arg7 harg7 arg8 harg8) K := by
  haveI : Fact (¬starts (grid0.coords t)) := ⟨h1⟩
  haveI : Fact (¬clears (grid0.coords t)) := ⟨h3⟩
  have cases : (ahead (grid0.coords t) ∧ resets (grid0.coords t) ∧ ¬emits (grid0.coords t))
      ∨ (ahead (grid0.coords t) ∧ ¬resets (grid0.coords t) ∧ emits (grid0.coords t))
      ∨ (ahead (grid0.coords t) ∧ ¬resets (grid0.coords t) ∧ ¬emits (grid0.coords t))
      ∨ (¬ahead (grid0.coords t) ∧ ¬resets (grid0.coords t) ∧ emits (grid0.coords t))
      ∨ (¬ahead (grid0.coords t) ∧ ¬resets (grid0.coords t) ∧ ¬emits (grid0.coords t)) := by
    generalize resets (grid0.coords t) = R at h45 h24 ⊢
    generalize emits (grid0.coords t) = E at h45 ⊢
    generalize ahead (grid0.coords t) = A at h24 ⊢
    clear h1 h3
    by_cases hR : R
    · exact Or.inl ⟨Classical.byContradiction fun h => h24 ⟨h, hR⟩, hR, fun h => h45 ⟨hR, h⟩⟩
    · by_cases hA : A
      · by_cases hE : E
        · exact Or.inr (Or.inl ⟨hA, hR, hE⟩)
        · exact Or.inr (Or.inr (Or.inl ⟨hA, hR, hE⟩))
      · by_cases hE : E
        · exact Or.inr (Or.inr (Or.inr (Or.inl ⟨hA, hR, hE⟩)))
        · exact Or.inr (Or.inr (Or.inr (Or.inr ⟨hA, hR, hE⟩)))
  rcases cases with ⟨h2, h4, h5⟩ | ⟨h2, h4, h5⟩ | ⟨h2, h4, h5⟩ | ⟨h2, h4, h5⟩ | ⟨h2, h4, h5⟩
  all_goals
    haveI := Fact.mk h2
    haveI := Fact.mk h4
    haveI := Fact.mk h5
    first
      | rw [if_pos h2, if_pos h2]
      | rw [if_neg h2, if_neg h2]
    first
      | rw [if_pos h4]
      | rw [if_neg h4]
    first
      | rw [if_pos h5]
      | rw [if_neg h5]
    unfold bodyOn insP
    simp only [cc0_peer_experts_eq_skeleton]; unfold cc0_peer_experts_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns Ring.free Ring.inflight
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, HA, ⟨%fg, HG⟩, ⟨%fh, HH⟩, HB, ⟨%fd, Hfd, Hrd⟩, ⟨%fu, Hfu, Hru⟩, ⟨Hcd, ⟨%gd, Hsd, Hwd⟩⟩, ⟨Hcu, ⟨%gu, Hsu, Hwu⟩⟩, HW, Hk⟩
    ihave Hd := (share_split c downT 0 Wd (Ring.sl 3 (t.val + 2)) (Ring.bk 513 (t.val + 2))).1 $$ Hwd
    icases Hd with ⟨Hhd, Hqd⟩
    ihave Hu := (share_split c upT 15 Wu (Ring.sl 3 (t.val + 2)) (Ring.bk 513 (t.val + 2))).1 $$ Hwu
    icases Hu with ⟨Hhu, Hqu⟩
    obtain rfl := harg1.eq_unread hf0; obtain rfl := harg2.eq_unread hf1; obtain rfl := harg5.eq_unread hf2; obtain rfl := harg6.eq_unread hf3; obtain rfl := harg7.eq_unread hf4; obtain rfl := harg8.eq_unread hf5
    sl_exec (disch := first | sl_exact h1 | sl_exact h2 | sl_exact h3 | sl_exact h4 | sl_exact h5)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg5.read_unread _
        iexact H2
      isplitl [H3]
      · iexists _; isplitr; · ipureintro; exact harg6.read_unread _
        iexact H3
      iexists _; isplitr; · ipureintro; exact harg7.read_unread _
      iexact H4
    isplitl [H5]
    · iexists _; isplitr; swap
      · iexact H5
      ipureintro
      first
        | (have he : emits (grid0.coords t) := h5
           refine (View.read_writes_full _ _ _ _ _).trans ?_
           refine congr (congrArg k0_pay2 rfl) ?_
           refine (View.readCov_full _ _ _ _ _).trans ?_
           exact congr (congr (congrArg k0_pay82 (View.readAt_full _ _ _)) rfl) rfl)
        | exact harg8.read_unread _
    isplitl [HA]
    · iexists _; isplitr; swap
      · iexact HA
      ipureintro
      refine (View.read_writes_full _ _ _ _ _).trans ?_
      refine congr (congr (congrArg k0_pay82 ?_) ?_) ?_
      · first
          | (have he : resets (grid0.coords t) := h4
             exact View.readCov_full _ _ _ _ _)
          | exact View.readAt_full _ _ _
      · exact rfl
      · exact rfl
    isplitl [HG]; · iexists _; iexact HG
    isplitl [HH]; · iexists _; iexact HH
    isplitl [HB]; · iexists b; iexact HB
    isplitl [Hfd Hfd_dst Hfd_src Hrd]
    · isplitl [Hfd]; · iexact Hfd
      iexists _; isplitl [Hfd_dst]; · iexact Hfd_dst
      iapply (share_split c downT 0 Wd (Ring.sl 3 t.val) (Ring.bk 513 t.val)).2; isplitl [Hfd_src]; · iexact Hfd_src
      iexact Hrd
    isplitl [Hfu Hfu_dst Hfu_src Hru]
    · isplitl [Hfu]; · iexact Hfu
      iexists _; isplitl [Hfu_dst]; · iexact Hfu_dst
      iapply (share_split c upT 15 Wu (Ring.sl 3 t.val) (Ring.bk 513 t.val)).2; isplitl [Hfu_src]; · iexact Hfu_src
      iexact Hru
    first
      | (isplitl [Hcd Hqd]
         · iexists _; isplitl [Hcd]; · iexact Hcd
           iexact Hqd
         isplitl [Hcu Hqu]
         · iexists _; isplitl [Hcu]; · iexact Hcu
           iexact Hqu
         iexists _; iexact HW)
      | (isplitl [Hcd Hsd Hhd Hqd]
         · isplitl [Hcd]; · iexact Hcd
           iexists _; isplitl [Hsd]; · iexact Hsd
           iapply (share_split c downT 0 Wd (Ring.sl 3 (t.val + 2)) (Ring.bk 513 (t.val + 2))).2; isplitl [Hhd]; · iexact Hhd
           iexact Hqd
         isplitl [Hcu Hsu Hhu Hqu]
         · isplitl [Hcu]; · iexact Hcu
           iexists _; isplitl [Hsu]; · iexact Hsu
           iapply (share_split c upT 15 Wu (Ring.sl 3 (t.val + 2)) (Ring.bk 513 (t.val + 2))).2; isplitl [Hhu]; · iexact Hhu
           iexact Hqu
         iexists _; iexact HW)

end Cert.Experts

end
-- ==== Proof.ExpertsFirst.lean ====
module

public import proofs.«01_k».proof.Proof.ExpertsRun

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first step loads the zeroed slot. -/
theorem loaded_first (o : Fin 3 → ℕ) (ho : ∀ a, o a + S1x512x1024.size a ≤ S2x512x1024.size a) (h : o = ![1, 0, 0]) (w : Vec F S1x512x1024 .fp8e4m3) :
    actB.view.readCov (Val := Elt F) [⟨Rect.unit (s := S2x512x1024) ![1, 0, 0] S1x512x1024.size inb_S2x512x1024_S1x512x1024_1_0_0, w⟩] (Rect.unit (s := S2x512x1024) o S1x512x1024.size ho).toLoadRect = w := by
  subst h
  exact View.readCov_cons_toLoadRect _ _ _ _

set_option maxHeartbeats 400000 in
/-- The first step: it starts the first three tiles, clears the sum and the step before's activations, and goes on as every step does. -/
theorem runFirst (c : Dev nD) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S512x4096 .bf16) (harg8 : arg8.IsWhole)
    (x0 : Vec F S3 .f32) (x1 : Vec F S4096x512 .fp8e4m3) (x2 x3 x4 : Vec F S8x128x512 .f32) (x5 : Vec F S512x4096 .bf16) (Wd : Cont (F := F) c downT) (Wu : Cont (F := F) c upT)
    (a : Cont (F := F) c accB) (b : Cont (F := F) c actB) (W : Waits sig Unit) (K : PUnit → sProp 𝕄) :
    iprop(insP c arg1 arg2 arg5 arg6 arg7 x0 x1 x2 x3 x4 ∗ owns (c : Thread nD τ) arg8 fullShare x5
      ∗ held c accB a ∗ (∃ f, held c gateB f) ∗ (∃ f, held c hidB f) ∗ held c actB b
      ∗ Ring.free (semP c 0) (slotF c downT downB Wd) (Ring.sl 3 first.val)
      ∗ Ring.free (semP c 1) (slotF c upT upB Wu) (Ring.sl 3 first.val)
      ∗ Ring.free (semP c 0) (slotF c downT downB Wd) (Ring.sl 3 (first.val + 1))
      ∗ Ring.free (semP c 1) (slotF c upT upB Wu) (Ring.sl 3 (first.val + 1))
      ∗ Ring.free (semP c 0) (slotF c downT downB Wd) (Ring.sl 3 (first.val + 2))
      ∗ Ring.free (semP c 1) (slotF c upT upB Wu) (Ring.sl 3 (first.val + 2))
      ∗ owes (c : Thread nD τ) 0 W
      ∗ (iprop(insP c arg1 arg2 arg5 arg6 arg7 x0 x1 x2 x3 x4
        ∗ owns (c : Thread nD τ) arg8 fullShare (k0_pay2 (outScale arg1 harg1 x0) (k0_pay82 k0_pay4 k0_pay3 (loadUp c first Wu)))
        ∗ (∃ a', ⌜accB.view.read (Elt F) a' = k0_pay82 k0_pay4 k0_pay3 (loadUp c first Wu)⌝ ∗ held c accB a')
        ∗ (∃ f, held c gateB f) ∗ (∃ f, held c hidB f)
        ∗ (∃ b₀, held c actB (actB.view.writes (Elt F) b₀ (actL c first arg1 harg1 arg2 harg2 arg5 harg5 arg6 harg6 arg7 harg7 x0 x1 x2 x3 x4 Wd)))
        ∗ Ring.free (semP c 0) (slotF c downT downB Wd) (Ring.sl 3 first.val)
        ∗ Ring.free (semP c 1) (slotF c upT upB Wu) (Ring.sl 3 first.val)
        ∗ Ring.inflight (flightF c downT downB 0 0 Wd) (Ring.sl 3 (first.val + 1)) (Ring.bk 513 (first.val + 1))
        ∗ Ring.inflight (flightF c upT upB 1 15 Wu) (Ring.sl 3 (first.val + 1)) (Ring.bk 513 (first.val + 1))
        ∗ Ring.inflight (flightF c downT downB 0 0 Wd) (Ring.sl 3 (first.val + 2)) (Ring.bk 513 (first.val + 2))
        ∗ Ring.inflight (flightF c upT upB 1 15 Wu) (Ring.sl 3 (first.val + 2)) (Ring.bk 513 (first.val + 2))
        ∗ (∃ W', owes (c : Thread nD τ) 0 W')) -∗ K ⟨⟩))
    ⊢ wp frame (wpE (defs₀ (F := F)) Variants.none c none) Set.univ (bodyOn first arg1 harg1 arg2 harg2 arg5 harg5 arg6 harg6 arg7 harg7 arg8 harg8) K := by
  have h1 : starts (grid0.coords first) := (starts_iff first).2 rfl
  have h2 : ahead (grid0.coords first) := (ahead_iff first).2 (by decide)
  have h3 : clears (grid0.coords first) := (clears_iff first).2 rfl
  have h4 : resets (grid0.coords first) := (resets_iff first).2 (Or.inl rfl)
  have h5 : emits (grid0.coords first) := (emits_iff first).2 rfl
  haveI := Fact.mk h1
  haveI := Fact.mk h2
  haveI := Fact.mk h3
  haveI := Fact.mk h4
  haveI := Fact.mk h5
  unfold bodyOn insP
  simp only [cc0_peer_experts_eq_skeleton]; unfold cc0_peer_experts_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns Ring.free Ring.inflight
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, HA, ⟨%fg, HG⟩, ⟨%fh, HH⟩, HB, ⟨Had, ⟨%d0, Hsd0, Hwd0⟩⟩, ⟨Hau, ⟨%u0, Hsu0, Hwu0⟩⟩, ⟨Hbd, ⟨%d1, Hsd1, Hwd1⟩⟩, ⟨Hbu, ⟨%u1, Hsu1, Hwu1⟩⟩, ⟨Hcd, ⟨%gd, Hsd, Hwd⟩⟩, ⟨Hcu, ⟨%gu, Hsu, Hwu⟩⟩, HW, Hk⟩
  ihave Hd := (share_split c downT 0 Wd (Ring.sl 3 first.val) (Ring.bk 513 first.val)).1 $$ Hwd0
  icases Hd with ⟨Hhd0, Hqd0⟩
  ihave Hu := (share_split c upT 15 Wu (Ring.sl 3 first.val) (Ring.bk 513 first.val)).1 $$ Hwu0
  icases Hu with ⟨Hhu0, Hqu0⟩
  ihave Hd := (share_split c downT 0 Wd (Ring.sl 3 (first.val + 1)) (Ring.bk 513 (first.val + 1))).1 $$ Hwd1
  icases Hd with ⟨Hhd1, Hqd1⟩
  ihave Hu := (share_split c upT 15 Wu (Ring.sl 3 (first.val + 1)) (Ring.bk 513 (first.val + 1))).1 $$ Hwu1
  icases Hu with ⟨Hhu1, Hqu1⟩
  ihave Hd := (share_split c downT 0 Wd (Ring.sl 3 (first.val + 2)) (Ring.bk 513 (first.val + 2))).1 $$ Hwd
  icases Hd with ⟨Hhd, Hqd⟩
  ihave Hu := (share_split c upT 15 Wu (Ring.sl 3 (first.val + 2)) (Ring.bk 513 (first.val + 2))).1 $$ Hwu
  icases Hu with ⟨Hhu, Hqu⟩
  obtain rfl := harg1.eq_unread hf0; obtain rfl := harg2.eq_unread hf1; obtain rfl := harg5.eq_unread hf2; obtain rfl := harg6.eq_unread hf3; obtain rfl := harg7.eq_unread hf4; obtain rfl := harg8.eq_unread hf5
  sl_exec (disch := first | sl_exact h1 | sl_exact h2 | sl_exact h3 | sl_exact h4 | sl_exact h5)
  sl_step
  iapply Hk
  isplitl [H0 H1 H2 H3 H4]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    iexists _; isplitr; · ipureintro; exact harg7.read_unread _
    iexact H4
  isplitl [H5]
  · iexists _; isplitr; swap
    · iexact H5
    ipureintro
    refine (View.read_writes_full _ _ _ _ _).trans ?_
    refine congr (congrArg k0_pay2 rfl) ?_
    refine (View.readCov_full _ _ _ _ _).trans ?_
    refine congr (congr (congrArg k0_pay82 ?_) ?_) ?_
    · exact View.readCov_full _ _ _ _ _
    · exact loaded_first _ _ (off23_eq first) _
    · exact rfl
  isplitl [HA]
  · iexists _; isplitr; swap
    · iexact HA
    ipureintro
    refine (View.read_writes_full _ _ _ _ _).trans ?_
    refine congr (congr (congrArg k0_pay82 ?_) ?_) ?_
    · exact View.readCov_full _ _ _ _ _
    · exact loaded_first _ _ (off23_eq first) _
    · exact rfl
  isplitl [HG]; · iexists _; iexact HG
  isplitl [HH]; · iexists _; iexact HH
  isplitl [HB]; · iexists actB.view.writes (Elt F) b [⟨Rect.unit (s := S2x512x1024) ![1, 0, 0] S1x512x1024.size inb_S2x512x1024_S1x512x1024_1_0_0, k0_pay3⟩]; rw [← View.writes_append]; iexact HB
  isplitl [Had Hsd0 Hhd0 Hqd0]
  · isplitl [Had]; · iexact Had
    iexists _; isplitl [Hsd0]; · iexact Hsd0
    iapply (share_split c downT 0 Wd (Ring.sl 3 first.val) (Ring.bk 513 first.val)).2; isplitl [Hhd0]; · iexact Hhd0
    iexact Hqd0
  isplitl [Hau Hsu0 Hhu0 Hqu0]
  · isplitl [Hau]; · iexact Hau
    iexists _; isplitl [Hsu0]; · iexact Hsu0
    iapply (share_split c upT 15 Wu (Ring.sl 3 first.val) (Ring.bk 513 first.val)).2; isplitl [Hhu0]; · iexact Hhu0
    iexact Hqu0
  isplitl [Hbd Hqd1]
  · iexists _; isplitl [Hbd]; · iexact Hbd
    iexact Hqd1
  isplitl [Hbu Hqu1]
  · iexists _; isplitl [Hbu]; · iexact Hbu
    iexact Hqu1
  isplitl [Hcd Hqd]
  · iexists _; isplitl [Hcd]; · iexact Hcd
    iexact Hqd
  isplitl [Hcu Hqu]
  · iexists _; isplitl [Hcu]; · iexact Hcu
    iexact Hqu
  iexists _; iexact HW

end Cert.Experts

end
-- ==== Proof.ExpertsInv.lean ====
module

public import proofs.«01_k».proof.Proof.ExpertsFirst
public import Idealize.ShloMosaic.Lib.Claim

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### A ring from one step to the next -/

section Steps
variable (c : Dev nD) (T : Memref sig .tc .hbm S16384x4096 .fp8e4m3) (S : Memref sig .tc .vmem S3x1024x4096 .fp8e4m3) (r : Fin 2) (d : ℕ) (W : Cont (F := F) c T)

/-- The role of the slot of the tile after the step's own: under way, or free at the end. -/
abbrev between (t : ℕ) : sProp 𝕄 := Ring.slotAt 2 (semP c r) (slotF c T S W) (flightF c T S r d W) t 1

/-- Before a step after the first: the step's tile under way, the slot two ahead free. -/
theorem ring_here (t : ℕ) (h0 : t ≠ 0) (ht : t < 513) : ringAt c T S r d W t
    ⊢ iprop(Ring.inflight (flightF c T S r d W) (Ring.sl 3 t) (Ring.bk 513 t) ∗ between c T S r d W t ∗ Ring.free (semP c r) (slotF c T S W) (Ring.sl 3 (t + 2))) := by
  unfold ringAt; rw [if_neg h0]
  by_cases h : t + 2 < 513
  · rw [Ring.At3_here _ _ _ _ t h, between, Ring.slotAt3_here1 _ _ _ t (by omega)]
    iintro ⟨-, A, B, C⟩
    isplitl [A]; · iexact A
    isplitl [B]; · iexact B
    iexact C
  · rw [Ring.At3_here_tail _ _ _ _ t ht]
    iintro ⟨-, A, B, C⟩
    isplitl [A]; · iexact A
    isplitl [B]; · iexact B
    iexact C

/-- After it: the tile two ahead under way where there is one, and the step's own slot free. -/
theorem ring_next (t : ℕ) (ht : t < 513) (A : Prop) [Decidable A] (hA : A ↔ t < 511) :
    iprop((if A then Ring.inflight (flightF c T S r d W) (Ring.sl 3 (t + 2)) (Ring.bk 513 (t + 2)) else Ring.free (semP c r) (slotF c T S W) (Ring.sl 3 (t + 2)))
      ∗ Ring.free (semP c r) (slotF c T S W) (Ring.sl 3 t) ∗ between c T S r d W t) ⊢ ringAt c T S r d W (t + 1) := by
  unfold ringAt; rw [if_neg (Nat.succ_ne_zero t)]
  by_cases h : t < 511
  · rw [if_pos (hA.2 h), Ring.At3_next _ _ _ _ t (by omega), Ring.slotAt3_tail_role, Ring.slotAt3_next1 _ _ _ t (by omega)]
    iintro ⟨A, B, C⟩
    iapply (Ring.with_homes (Entails.refl _))
    isplitl [C]; · iexact C
    isplitl [A]; · iexact A
    iexact B
  · rw [if_neg (fun a => h (hA.1 a)), Ring.At3_next_tail _ _ _ _ t (by omega) ht, Ring.slotAt3_tail_role]
    iintro ⟨A, B, C⟩
    iapply (Ring.with_homes (Entails.refl _))
    isplitl [C]; · iexact C
    isplitl [A]; · iexact A
    iexact B

/-- Before the first step the three slots are free. -/
theorem ring_start : ringAt c T S r d W first.val ⊢ iprop(Ring.free (semP c r) (slotF c T S W) (Ring.sl 3 first.val)
    ∗ Ring.free (semP c r) (slotF c T S W) (Ring.sl 3 (first.val + 1)) ∗ Ring.free (semP c r) (slotF c T S W) (Ring.sl 3 (first.val + 2))) := by
  unfold ringAt; rw [if_pos (show (first : Fin cfg0.N).val = 0 from by rfl), Ring.At₀_eq3' _ _ _ first.val rfl (by decide : 3 ≤ 513)]
  iintro ⟨-, A, B, C⟩
  isplitl [A]; · iexact A
  isplitl [B]; · iexact B
  iexact C

/-- After it two tiles are under way. -/
theorem ring_started : iprop(Ring.free (semP c r) (slotF c T S W) (Ring.sl 3 first.val)
    ∗ Ring.inflight (flightF c T S r d W) (Ring.sl 3 (first.val + 1)) (Ring.bk 513 (first.val + 1))
    ∗ Ring.inflight (flightF c T S r d W) (Ring.sl 3 (first.val + 2)) (Ring.bk 513 (first.val + 2))) ⊢ ringAt c T S r d W (first.val + 1) := by
  unfold ringAt; rw [if_neg (Nat.succ_ne_zero _), Ring.At3_one' _ _ _ _ first.val rfl (by decide : 3 ≤ 513)]
  iintro ⟨A, B, C⟩
  iapply (Ring.with_homes (Entails.refl _))
  isplitl [B]; · iexact B
  isplitl [C]; · iexact C
  iexact A
end Steps

/-! ### What the buffers hold after each step -/

/-- What a step stores of its activations, from the arrays as the region finds them. -/
abbrev acts (c : Dev nD) (t : Fin cfg0.N) : List (View.Piece (Elt F) S2x512x1024 .fp8e4m3) :=
  actL c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
    (iblk m c 0 t) (iblk m c 1 t) (iblk m c 2 t) (iblk m c 3 t) (iblk m c 4 t) (V m c main_arg2)

/-- Either of the two places of the kept activation lies inside it. -/
theorem slot_in (k : ℕ) : ∀ a, (![k % 2, 0, 0] : Fin 3 → ℕ) a + S1x512x1024.size a ≤ S2x512x1024.size a := by
  have := Nat.mod_lt k (show 0 < 2 by decide)
  exact Fin.forall_fin_succ.2 ⟨by show k % 2 + 1 ≤ 2; omega, Fin.forall_fin_two.2 ⟨by show 0 + 512 ≤ 512; decide, by show 0 + 1024 ≤ 1024; decide⟩⟩

/-- The slot of step `k`'s activations. -/
abbrev slotR (k : ℕ) : Rect S2x512x1024 := Rect.unit (s := S2x512x1024) ![k % 2, 0, 0] S1x512x1024.size (slot_in k)

/-- Step `t`'s activations, as the next step loads them. -/
def actV (c : Dev nD) (t : Fin cfg0.N) : Vec F S1x512x1024 .fp8e4m3 := actB.view.readCov (acts m c t) (slotR t.val).toLoadRect

/-- The four blocks of columns fill the slot. -/
theorem acts_cover (c : Dev nD) (t : Fin cfg0.N) (j : (slotR t.val).toLoadRect.shape.Idx) : ∃ p ∈ acts m c t, (slotR t.val).toLoadRect.idx j ∈ p.1.set := by
  have h0 : (j (0 : Fin 3)).val < 1 := (j (0 : Fin 3)).isLt
  have h1 : (j (1 : Fin 3)).val < 512 := (j (1 : Fin 3)).isLt
  have h2 : (j (2 : Fin 3)).val < 1024 := (j (2 : Fin 3)).isLt
  have e : ∀ (o : Fin 3 → ℕ) (ho) (k : ℕ), o = ![t.val % 2, 0, k] → k ≤ (j (2 : Fin 3)).val → (j (2 : Fin 3)).val < k + 256 →
      (slotR t.val).toLoadRect.idx j ∈ (Rect.unit (s := S2x512x1024) o S1x512x256.size ho).set := by
    intro o ho k h hk hk'
    subst h
    rw [Rect.mem_set_unit]
    refine Fin.forall_fin_succ.2 ⟨?_, Fin.forall_fin_two.2 ⟨?_, ?_⟩⟩
    · show t.val % 2 ≤ t.val % 2 + 1 * (j (0 : Fin 3)).val ∧ t.val % 2 + 1 * (j (0 : Fin 3)).val < t.val % 2 + 1
      omega
    · show 0 ≤ 0 + 1 * (j (1 : Fin 3)).val ∧ 0 + 1 * (j (1 : Fin 3)).val < 0 + 512
      omega
    · show k ≤ 0 + 1 * (j (2 : Fin 3)).val ∧ 0 + 1 * (j (2 : Fin 3)).val < k + 256
      omega
  by_cases a : (j (2 : Fin 3)).val < 256
  · exact ⟨_, .tail _ (.tail _ (.tail _ (.head _))), e _ (k0_off25_inb (grid0.coords t)) 0 (off25_eq t) (by omega) (by omega)⟩
  by_cases a' : (j (2 : Fin 3)).val < 512
  · exact ⟨_, .tail _ (.tail _ (.head _)), e _ (k0_off26_inb (grid0.coords t)) 256 (off26_eq t) (by omega) (by omega)⟩
  by_cases a'' : (j (2 : Fin 3)).val < 768
  · exact ⟨_, .tail _ (.head _), e _ (k0_off27_inb (grid0.coords t)) 512 (off27_eq t) (by omega) (by omega)⟩
  · exact ⟨_, .head _, e _ (k0_off28_inb (grid0.coords t)) 768 (off28_eq t) (by omega) (by omega)⟩

/-- The next step loads them, whatever the buffer held. -/
theorem loadAct_eq (c : Dev nD) (t t' : Fin cfg0.N) (h : t'.val = t.val + 1) (b : Cont (F := F) c actB) :
    loadAct c t' (actB.view.writes (Elt F) b (acts m c t)) = actV m c t := by
  have e : ∀ (o : Fin 3 → ℕ) (ho), o = ![t.val % 2, 0, 0] →
      View.readAt (Elt F) actB.view (Rect.unit (s := S2x512x1024) o S1x512x1024.size ho).toLoadRect (actB.view.writes (Elt F) b (acts m c t)) = actV m c t := by
    intro o ho h
    subst h
    exact View.readAt_writes_of_cover _ _ _ _ (acts_cover m c t)
  refine e _ _ ?_
  rw [off23_eq t']
  have : 1 - t'.val % 2 = t.val % 2 := by omega
  rw [this]

/-- The up tile of step `t`. -/
abbrev upV (c : Dev nD) (t : Fin cfg0.N) : Vec F S1x1024x4096 .fp8e4m3 := loadUp c t (V m c main_arg3)

/-- The running sum after step `n`. -/
def accV (c : Dev nD) : (n : ℕ) → n < cfg0.N → Vec F S512x4096 .f32
  | 0, _ => k0_pay82 k0_pay4 k0_pay3 (upV m c first)
  | n + 1, h => k0_pay82 (if (n + 1) % 16 = 1 then k0_pay4 else accV c n (Nat.lt_of_succ_lt h)) (actV m c ⟨n, Nat.lt_of_succ_lt h⟩) (upV m c ⟨n + 1, h⟩)

/-- What step `t` writes out where it does. -/
def outV (c : Dev nD) (t : Fin cfg0.N) : Vec F S512x4096 .bf16 :=
  k0_pay2 (outScale (st0_0 t) (hstage0_0 ((cfg0.slots t 0).cast nbuf0_0)) (iblk m c 0 t)) (accV m c t.val t.isLt)

/-- Before step `k` the sum and the activations are the step before's; before the first they are anything. -/
def Good (c : Dev nD) (k : ℕ) (a : Cont (F := F) c accB) (b : Cont (F := F) c actB) : Prop :=
  ∀ (n : ℕ) (h : n < cfg0.N), k = n + 1 → accB.view.read (Elt F) a = accV m c n h ∧ ∃ b₀, b = actB.view.writes (Elt F) b₀ (acts m c ⟨n, h⟩)

/-- What holds between the steps. -/
def Inv (c : Dev nD) (k : ℕ) : sProp 𝕄 :=
  iprop((∃ a b, ⌜Good m c k a b⌝ ∗ held c accB a ∗ held c actB b) ∗ (∃ f, held c gateB f) ∗ (∃ f, held c hidB f) ∗ (∃ r, prngReg c r)
    ∗ ringAt c downT downB 0 0 (V m c main_arg2) k ∗ ringAt c upT upB 1 15 (V m c main_arg3) k)

/-- The proof data of the pipeline: the arrays, what each step leaves in the staging buffers, what holds between. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV m c t
  Φ t := Inv m c t.val
  q _ := fullShare
  owed _ := 0

/-- A window's array before the first point is the launch's. -/
theorem A_eq (c : Dev nD) (w : Fin cfg0.W) : (dats m 0 c).A w = V m c (Pipeline.arrRef spec0 w) := by
  dsimp only [dats]

/-- What the result's block holds after a point. -/
theorem after_out (c : Dev nD) (t : Fin cfg0.N) : (dats m 0 c).after 5 t = outV m c t := by dsimp only [dats]

/-- An input's staging buffer holds its block at every step. -/
theorem before_in (c : Dev nD) (w : Fin cfg0.W) (hw : w ≠ 5) (t : Fin cfg0.N) (d) : (dats m 0 c).before w t d = (dats m 0 c).after w t := by
  have key : ∀ (w : Fin 6), w ≠ 5 → (∀ (t : Fin cfg0.N) d, (dats m 0 c).before w t d = (dats m 0 c).after w t) := by
    intro w hw
    match w, hw with
    | ⟨0, _⟩, _ => exact fun t d => ((dats m 0 c).before_in_eq_fetched 0 rfl (fun _ => rfl) (fun _ _ _ => rfl) (fun t => by unfold Dat.blockOf; rw [A_eq]; rfl) t d).trans (by unfold Dat.fetched Dat.blockOf; rw [A_eq]; rfl)
    | ⟨1, _⟩, _ => exact fun t d => ((dats m 0 c).before_in_eq_fetched 1 rfl (fun _ => rfl) (fun _ _ _ => rfl) (fun t => by unfold Dat.blockOf; rw [A_eq]; rfl) t d).trans (by unfold Dat.fetched Dat.blockOf; rw [A_eq]; rfl)
    | ⟨2, _⟩, _ => exact fun t d => ((dats m 0 c).before_in_eq_fetched 2 rfl (fun _ => rfl) (fun _ _ _ => rfl) (fun t => by unfold Dat.blockOf; rw [A_eq]; rfl) t d).trans (by unfold Dat.fetched Dat.blockOf; rw [A_eq]; rfl)
    | ⟨3, _⟩, _ => exact fun t d => ((dats m 0 c).before_in_eq_fetched 3 rfl (fun _ => rfl) (fun _ _ _ => rfl) (fun t => by unfold Dat.blockOf; rw [A_eq]; rfl) t d).trans (by unfold Dat.fetched Dat.blockOf; rw [A_eq]; rfl)
    | ⟨4, _⟩, _ => exact fun t d => ((dats m 0 c).before_in_eq_fetched 4 rfl (fun _ => rfl) (fun _ _ _ => rfl) (fun t => by unfold Dat.blockOf; rw [A_eq]; rfl) t d).trans (by unfold Dat.fetched Dat.blockOf; rw [A_eq]; rfl)
    | ⟨5, _⟩, hw => exact absurd rfl hw
  exact key w hw t d

/-- An input's block is left as it was read. -/
theorem leaves_in (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A point that emits holds the result's block. -/
theorem live_out : ∀ t : Fin grid0.N, emits (grid0.coords t) → cfg0.idle 5 (cfg0.grid.coords t) = false := by decide +kernel

/-- A point that does not emit neither holds nor writes back the result's block. -/
theorem idle_out : ∀ t : Fin grid0.N, ¬emits (grid0.coords t) → cfg0.idle 5 (cfg0.grid.coords t) = true ∧ (cfg0.win 5).flush t = false := by decide +kernel

/-- The output's staging buffer as the step leaves it. -/
theorem leaves_out (c : Dev nD) (t : Fin cfg0.N) (d : _) (X : Vec F S512x4096 .bf16) (hX : X = if emits (grid0.coords t) then outV m c t else (dats m 0 c).before 5 t d) :
    owns (c : Thread nD τ) (st0_5 t) fullShare X ⊢ (dats m 0 c).leavesExact 5 t := by
  by_cases h : emits (grid0.coords t)
  · rw [leaves_in m c 5 t (live_out t h), after_out, hX, if_pos h]
  · rw [Dat.leavesExact_idle (dats m 0 c) 5 t (idle_out t h).1 (idle_out t h).2, hX, if_neg h]
    iintro H
    iexists d; iexact H

end Cert.Experts

end
-- ==== Proof.ExpertsFrame.lean ====
module

public import proofs.«01_k».proof.Proof.ExpertsInv
public import Idealize.ShloMosaic.Lib.Claim

@[expose] public section

set_option maxRecDepth 16384

noncomputable section

namespace Cert.Experts

open Cert.PeerIdeal Cert.PeerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a step is given. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What a step returns. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The sum after a step after the first, from the step before's. -/
theorem accV_step (c : Dev nD) (n : ℕ) (t : Fin cfg0.N) (ht : t.val = n + 1) (hn : n < cfg0.N) :
    accV m c t.val t.isLt = k0_pay82 (if resets (grid0.coords t) then k0_pay4 else accV m c n hn) (actV m c ⟨n, hn⟩) (upV m c t) := by
  obtain ⟨v, hv⟩ := t
  obtain rfl : v = n + 1 := ht
  have e : (resets (grid0.coords ⟨n + 1, hv⟩)) ↔ (n + 1) % 16 = 1 := (resets_iff ⟨n + 1, hv⟩).trans ⟨fun h => h.resolve_left (Nat.succ_ne_zero n), Or.inr⟩
  show k0_pay82 (if (n + 1) % 16 = 1 then k0_pay4 else accV m c n _) _ _ = _
  by_cases h : (n + 1) % 16 = 1
  · rw [if_pos h, if_pos (e.2 h)]
  · rw [if_neg h, if_neg (fun a => h (e.1 a))]

set_option maxHeartbeats 1600000 in
/-- The body at every step. -/
theorem step (c : Dev nD) (t : Fin cfg0.N) :
    given m c t ⊢ wp frame (wpE (defs₀ (F := F)) Variants.none c none) Set.univ (bodyAt0 t) (fun _ => returned m c t) := by
  unfold given returned
  simp only [before_in m c 0 (by decide), before_in m c 1 (by decide), before_in m c 2 (by decide), before_in m c 3 (by decide), before_in m c 4 (by decide)]
  rw [leaves_in m c 0 t rfl, leaves_in m c 1 t rfl, leaves_in m c 2 t rfl, leaves_in m c 3 t rfl, leaves_in m c 4 t rfl]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  have hN : t.val < 513 := lt_of_lt_of_eq t.isLt (show cfg0.N = 513 from N_0)
  by_cases h0 : t.val = 0
  · obtain rfl : t = first := Fin.ext h0
    iintro ⟨⟨⟨%a, %b, -, HA, HB⟩, HG, HH, Hr, Hd, Hu⟩, ⟨%W, -, HW⟩, ⟨%d0, H0⟩, ⟨%d1, H1⟩, ⟨%d2, H2⟩, ⟨%d3, H3⟩, ⟨%d4, H4⟩, ⟨%d5, H5⟩⟩
    ihave Hd' := (ring_start c downT downB 0 0 (V m c main_arg2)) $$ Hd
    icases Hd' with ⟨Hd0, Hd1, Hd2⟩
    ihave Hu' := (ring_start c upT upB 1 15 (V m c main_arg3)) $$ Hu
    icases Hu' with ⟨Hu0, Hu1, Hu2⟩
    iapply (runFirst c (st0_0 first) (hstage0_0 ((cfg0.slots first 0).cast nbuf0_0)) (st0_1 first) (hstage0_1 ((cfg0.slots first 1).cast nbuf0_1)) (st0_2 first) (hstage0_2 ((cfg0.slots first 2).cast nbuf0_2)) (st0_3 first) (hstage0_3 ((cfg0.slots first 3).cast nbuf0_3)) (st0_4 first) (hstage0_4 ((cfg0.slots first 4).cast nbuf0_4)) (st0_5 first) (hstage0_5 ((cfg0.slots first 5).cast nbuf0_5)) (iblk m c 0 first) (iblk m c 1 first) (iblk m c 2 first) (iblk m c 3 first) (iblk m c 4 first) ((dats m 0 c).before 5 first d5) (V m c main_arg2) (V m c main_arg3) a b W _)
    isplitl [H0 H1 H2 H3 H4]
    · isplitl [H0]; · iexact H0
      isplitl [H1]; · iexact H1
      isplitl [H2]; · iexact H2
      isplitl [H3]; · iexact H3
      iexact H4
    isplitl [H5]; · iexact H5
    isplitl [HA]; · iexact HA
    isplitl [HG]; · iexact HG
    isplitl [HH]; · iexact HH
    isplitl [HB]; · iexact HB
    isplitl [Hd0]; · iexact Hd0
    isplitl [Hu0]; · iexact Hu0
    isplitl [Hd1]; · iexact Hd1
    isplitl [Hu1]; · iexact Hu1
    isplitl [Hd2]; · iexact Hd2
    isplitl [Hu2]; · iexact Hu2
    isplitl [HW]; · iexact HW
    iintro ⟨⟨H0, H1, H2, H3, H4⟩, H5, ⟨%a', %ha, HA⟩, HG, HH, ⟨%b', HB⟩, Hd0, Hu0, Hd1, Hu1, Hd2, Hu2, ⟨%W', HW⟩⟩
    isplitl [HA HG HH HB Hr Hd0 Hd1 Hd2 Hu0 Hu1 Hu2]
    · isplitl [HA HB]
      · iexists a', _; isplitr; swap
        · isplitl [HA]; · iexact HA
          iexact HB
        ipureintro
        intro n h e
        obtain rfl : n = 0 := by have : first.val = 0 := rfl; omega
        exact ⟨ha, b', rfl⟩
      isplitl [HG]; · iexact HG
      isplitl [HH]; · iexact HH
      isplitl [Hr]; · iexact Hr
      isplitl [Hd0 Hd1 Hd2]
      · iapply (ring_started c downT downB 0 0 (V m c main_arg2))
        isplitl [Hd0]; · iexact Hd0
        isplitl [Hd1]; · iexact Hd1
        iexact Hd2
      · iapply (ring_started c upT upB 1 15 (V m c main_arg3))
        isplitl [Hu0]; · iexact Hu0
        isplitl [Hu1]; · iexact Hu1
        iexact Hu2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iapply (leaves_out m c first d5 _ ?_)
    · rw [if_pos ((emits_iff first).2 rfl)]
    · iexact H5
  · obtain ⟨n, ht⟩ := Nat.exists_eq_succ_of_ne_zero h0
    have hn : n < cfg0.N := Nat.lt_of_succ_lt (ht ▸ t.isLt)
    iintro ⟨⟨⟨%a, %b, %hg, HA, HB⟩, HG, HH, Hr, Hd, Hu⟩, ⟨%W, -, HW⟩, ⟨%d0, H0⟩, ⟨%d1, H1⟩, ⟨%d2, H2⟩, ⟨%d3, H3⟩, ⟨%d4, H4⟩, ⟨%d5, H5⟩⟩
    obtain ⟨hga, b₀, rfl⟩ := hg n hn ht
    ihave Hd' := (ring_here c downT downB 0 0 (V m c main_arg2) t.val h0 hN) $$ Hd
    icases Hd' with ⟨Hd0, Hd1, Hd2⟩
    ihave Hu' := (ring_here c upT upB 1 15 (V m c main_arg3) t.val h0 hN) $$ Hu
    icases Hu' with ⟨Hu0, Hu1, Hu2⟩
    iapply (run c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (fun h => h0 ((starts_iff t).1 h)) (fun h => h0 ((clears_iff t).1 h))
      (fun h => by have h1 := (resets_iff t).1 h.1; have h2 := (emits_iff t).1 h.2; omega)
      (fun h => by have h1 := (resets_iff t).1 h.2; have h2 : ¬t.val < 511 := fun e => h.1 ((ahead_iff t).2 e); omega)
      (iblk m c 0 t) (iblk m c 1 t) (iblk m c 2 t) (iblk m c 3 t) (iblk m c 4 t) ((dats m 0 c).before 5 t d5) (V m c main_arg2) (V m c main_arg3) a _ W _)
    isplitl [H0 H1 H2 H3 H4]
    · isplitl [H0]; · iexact H0
      isplitl [H1]; · iexact H1
      isplitl [H2]; · iexact H2
      isplitl [H3]; · iexact H3
      iexact H4
    isplitl [H5]; · iexact H5
    isplitl [HA]; · iexact HA
    isplitl [HG]; · iexact HG
    isplitl [HH]; · iexact HH
    isplitl [HB]; · iexact HB
    isplitl [Hd0]; · iexact Hd0
    isplitl [Hu0]; · iexact Hu0
    isplitl [Hd2]; · iexact Hd2
    isplitl [Hu2]; · iexact Hu2
    isplitl [HW]; · iexact HW
    rw [loadAct_eq m c ⟨n, hn⟩ t ht, hga, ← accV_step m c n t ht hn]
    iintro ⟨⟨H0, H1, H2, H3, H4⟩, H5, ⟨%a', %ha, HA⟩, HG, HH, ⟨%b', HB⟩, Hd0, Hu0, Hd2, Hu2, ⟨%W', HW⟩⟩
    isplitl [HA HG HH HB Hr Hd0 Hd1 Hd2 Hu0 Hu1 Hu2]
    · isplitl [HA HB]
      · iexists a', _; isplitr; swap
        · isplitl [HA]; · iexact HA
          iexact HB
        ipureintro
        intro k h e
        obtain rfl : k = t.val := by omega
        exact ⟨ha, b', rfl⟩
      isplitl [HG]; · iexact HG
      isplitl [HH]; · iexact HH
      isplitl [Hr]; · iexact Hr
      isplitl [Hd0 Hd1 Hd2]
      · iapply (ring_next c downT downB 0 0 (V m c main_arg2) t.val hN _ (ahead_iff t))
        isplitl [Hd2]; · iexact Hd2
        isplitl [Hd0]; · iexact Hd0
        iexact Hd1
      · iapply (ring_next c upT upB 1 15 (V m c main_arg3) t.val hN _ (ahead_iff t))
        isplitl [Hu2]; · iexact Hu2
        isplitl [Hu0]; · iexact Hu0
        iexact Hu1
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iapply (leaves_out m c t d5 (if emits (grid0.coords t) then k0_pay2 (outScale (st0_0 t) (hstage0_0 ((cfg0.slots t 0).cast nbuf0_0)) (iblk m c 0 t)) (k0_pay82 (accV m c n hn) (actV m c ⟨n, hn⟩) (upV m c t)) else (dats m 0 c).before 5 t d5) ?_)
    · by_cases h : emits (grid0.coords t)
      · rw [if_pos h, if_pos h]
        have hr : ¬resets (grid0.coords t) := fun h' => by have h1 := (resets_iff t).1 h'; have h2 := (emits_iff t).1 h; omega
        unfold outV
        rw [accV_step m c n t ht hn, if_neg hr]
      · rw [if_neg h, if_neg h]
    · iexact H5

/-- The body table's row at a step is the body. -/
theorem row (t : Fin cfg0.N) : defs₀ (F := F) .tc cfg0.body (cfg0.bodyArgs t (cfg0.slots t)) = bodyAt0 t := by
  unfold defs₀; rw [Defs.onTc_tc]

/-- The body's obligation at every step. -/
theorem obligation (c : Dev nD) : BodyObligation (dats (F := F) m 0 c) (defs₀ (F := F)) Variants.none () Set.univ := fun t => by
  rw [bigSep_W0, bigSep_W0, row]
  exact triple_restated (step m c t) rfl .rfl fun _ => .rfl

/-- The two tables left in the host memory's place. -/
def tables : Finset (Ref sig .tc) := {main_arg2, main_arg3}

/-- The two tables the ring reads are among the arrays that no window holds. -/
theorem tables_sub : tables ⊆ Pipeline.restRefs sig spec0 := by decide

/-- What the launch hands over: the scratch, the register, the semaphores, the two tables. -/
theorem handed (c : Dev nD) : (Pipeline.ΦD ownSem spec0 tables (V m) c : sProp 𝕄)
    = iprop(((∃ d, owns (c : Thread nD τ) downB fullShare d) ∗ (∃ d, owns (c : Thread nD τ) upB fullShare d) ∗ (∃ d, owns (c : Thread nD τ) accB fullShare d) ∗ (∃ d, owns (c : Thread nD τ) gateB fullShare d) ∗ (∃ d, owns (c : Thread nD τ) hidB fullShare d) ∗ (∃ d, owns (c : Thread nD τ) actB fullShare d))
      ∗ (∃ r, prngReg c r) ∗ (semP c 0 0 ∗ semP c 0 1 ∗ semP c 0 2 ∗ semP c 1 0 ∗ semP c 1 1 ∗ semP c 1 2)
      ∗ (held c downT (V m c main_arg2) ∗ held c upT (V m c main_arg3))) := by
  rw [Pipeline.ΦD_eq, scopedRest0_eq, sems_eq, (BI.bigSep_eq_bigSepL_of_eq [main_arg2, main_arg3] (S := tables) (by decide) (by decide))]
  simp only [owns_whole]
  rfl

/-- The launch's holdings are what holds before the first step. -/
theorem hin (c : Dev nD) : Pipeline.ΦD ownSem spec0 tables (V m) c ⊢ (dats m 0 c).Φ 0 := by
  rw [handed, show (dats m 0 c).Φ 0 = Inv m c 0 from rfl]
  unfold Inv
  iintro ⟨⟨HS0, HS1, HA, HG, HH, HB⟩, Hg, ⟨Hq0, Hq1, Hq2, Hq3, Hq4, Hq5⟩, ⟨Hh0, Hh1⟩⟩
  simp only [owns_whole]
  isplitl [HA HB]
  · icases HA with ⟨%a, HA⟩
    icases HB with ⟨%b, HB⟩
    iexists a, b; isplitr
    · ipureintro; exact fun n h e => absurd e (by omega)
    isplitl [HA]; · iexact HA
    iexact HB
  isplitl [HG]; · iexact HG
  isplitl [HH]; · iexact HH
  isplitl [Hg]; · iexact Hg
  isplitl [HS0 Hq0 Hq1 Hq2 Hh0]
  · iapply (ring_in (F := F) c downT downB 0 0 (V m c main_arg2))
    isplitl [HS0]; · iapply (downSlots c).1; simp only [owns_whole]; iexact HS0
    isplitl [Hq0 Hq1 Hq2]
    · isplitl [Hq0]; · iexact Hq0
      isplitl [Hq1]; · iexact Hq1
      iexact Hq2
    iexact Hh0
  iapply (ring_in (F := F) c upT upB 1 15 (V m c main_arg3))
  isplitl [HS1]; · iapply (upSlots c).1; simp only [owns_whole]; iexact HS1
  isplitl [Hq3 Hq4 Hq5]
  · isplitl [Hq3]; · iexact Hq3
    isplitl [Hq4]; · iexact Hq4
    iexact Hq5
  iexact Hh1

/-- What holds after the last step is the launch's holdings again. -/
theorem hout (c : Dev nD) : (dats m 0 c).Φ (Fin.last cfg0.N) ⊢ Pipeline.ΦD ownSem spec0 tables (V m) c := by
  rw [handed, show (dats m 0 c).Φ (Fin.last cfg0.N) = Inv m c grid0.N from rfl]
  unfold Inv
  rw [show grid0.N = 513 by rw [N_0]]
  iintro ⟨⟨%a, %b, -, HA, HB⟩, HG, HH, Hg, HR0, HR1⟩
  ihave HX0 := (ring_out (F := F) c downT downB 0 0 (V m c main_arg2)) $$ HR0
  icases HX0 with ⟨HR0, ⟨Hq0, Hq1, Hq2⟩, Hh0⟩
  ihave HX1 := (ring_out (F := F) c upT upB 1 15 (V m c main_arg3)) $$ HR1
  icases HX1 with ⟨HR1, ⟨Hq3, Hq4, Hq5⟩, Hh1⟩
  isplitl [HR0 HR1 HA HG HH HB]
  · isplitl [HR0]; · iapply (downSlots c).2; iexact HR0
    isplitl [HR1]; · iapply (upSlots c).2; iexact HR1
    simp only [owns_whole]
    isplitl [HA]; · iexists a; iexact HA
    isplitl [HG]; · iexact HG
    isplitl [HH]; · iexact HH
    iexists b; iexact HB
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

/-! ### The run and the frame -/

set_option maxHeartbeats 800000 in
/-- The host part up to the call is the call alone. -/
theorem host (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every run ends with the arrays at what the steps compute and every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownSem defs₀ Variants.none ownSem_facts tables tables_sub m ρ main
    (hbody := fun c => (obligation m c).loose) (hshare := fun c => (dats m 0 c).share_full fun _ => rfl)
    (howed := fun _ _ => rfl) (V := V m) (hmain := host m Variants.none) (hA := A_eq m)
    (hin := hin m) (hout := hout m)

/-- The result array ends at what the steps compute, the argument arrays as they began, every counter at zero. -/
theorem run_blocks : θ_run defs (onTc (τ := τ) (main (F := F))) ⟨m, fun _ => 0, ρ⟩ (fun r => (∀ c : Dev nD,
      r.2.mem ((c.tc : Thread nD τ).loc main_v0) = (dats m 0 c).arrAt 5 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => ⟨fun c =>
    ⟨(hh.1 c).1 5, ((hh.1 c).1 0).trans (((dats m 0 c).arrAt_in 0 rfl _).trans (A_eq m c 0)),
      ((hh.1 c).1 1).trans (((dats m 0 c).arrAt_in 1 rfl _).trans (A_eq m c 1)),
      (hh.1 c).2 main_arg2 (Pipeline.mem_restRefs_of main_arg2 (by decide) (by decide)),
      (hh.1 c).2 main_arg3 (Pipeline.mem_restRefs_of main_arg3 (by decide) (by decide)),
      ((hh.1 c).1 2).trans (((dats m 0 c).arrAt_in 2 rfl _).trans (A_eq m c 2)),
      ((hh.1 c).1 3).trans (((dats m 0 c).arrAt_in 3 rfl _).trans (A_eq m c 3)),
      ((hh.1 c).1 4).trans (((dats m 0 c).arrAt_in 4 rfl _).trans (A_eq m c 4))⟩, hh.2⟩) (run_all m ρ)

/-- The argument arrays end as they began and every counter at zero. -/
theorem experts_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => ⟨fun c => (hh.1 c).2, hh.2⟩) (run_blocks m ρ)

end Cert.Experts

end
-- ==== Proof.ExpertsGate.lean ====
/- The expert call's gates: what a step stores of them, index by index, over the extended reals. -/
module

public import proofs.«01_k».proof.Proof.ExpertsInv
public import Idealize.ShloMosaic.Lib.ValueLayout
public import Idealize.ShloMosaic.Lib.IdealHost
public import Idealize.ShloMosaic.Lib.MatmulPlain
public import Idealize.ShloMosaic.Lib.WholeRead

@[expose] public section

set_option maxRecDepth 16384

noncomputable section

namespace Cert.Experts

open Cert.PeerIdeal Cert.PeerIdeal.Gen
open Idealize.ShloMosaic Idealize.ShloMosaic.TcCoe Idealize.SL.Sem Idealize.ShloMosaic.ValueIdx
open scoped BigOperators

section Text
variable {F : FTy → Type} [FloatOps F]

/-- One head's part of a block of gates: the second factor where it reaches the threshold, times the first factor. -/
def head (th e : Vec F S1x1x512 .f32) (q : Vec F S1x128x512 .f32) : FVec F S128x512 .bf16 :=
  mulf (truncf .bf16 (select (cmpf .oge (shapeCast S128x512 q shapeCasts_S1x128x512_S128x512)
      (broadcastTo S128x512 (shapeCast S1x512 th shapeCasts_S1x1x512_S1x512) broadcasts_S1x512_S128x512))
      (shapeCast S128x512 q shapeCasts_S1x128x512_S128x512) (broadcast S128x512 (Scalar.ofBits .f32 0x00000000#32 : F .f32))) bitsLt_bf16_f32)
    (broadcastTo S128x512 (truncf .bf16 (shapeCast S1x512 e shapeCasts_S1x1x512_S1x512) bitsLt_bf16_f32 : FVec F S1x512 .bf16) broadcasts_S1x512_S128x512)

variable (t : Fin cfg0.N) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole)
  (x2 x3 x4 : Vec F S8x128x512 .f32)

/-- A head's part from the staged blocks: the rows of the thresholds and of the first factor at one offset, the second factor at another. -/
def headAt (o : Fin 3 → ℕ) (ho : ∀ a, o a + S1x1x512.size a ≤ S8x128x512.size a) (q : Fin 3 → ℕ) (hq : ∀ a, q a + S1x128x512.size a ≤ S8x128x512.size a) : FVec F S128x512 .bf16 :=
  head (View.readAt (Elt F) arg6.view (Rect.unit (s := S8x128x512) o S1x1x512.size ho).toLoadRect (harg6.unread x3))
    (View.readAt (Elt F) arg7.view (Rect.unit (s := S8x128x512) o S1x1x512.size ho).toLoadRect (harg7.unread x4))
    (View.readAt (Elt F) arg5.view (Rect.unit (s := S8x128x512) q S1x128x512.size hq).toLoadRect (harg5.unread x2))

/-- The eight bands of the kept gates lie inside them. -/
theorem gate_in (r : Fin 8) : ∀ a, (![128 * r.val, 0] : Fin 2 → ℕ) a + S128x512.size a ≤ S1024x512.size a :=
  Fin.forall_fin_two.2 ⟨by show 128 * r.val + 128 ≤ 1024; omega, by show 0 + 512 ≤ 512; decide⟩

/-- The block of gates of row `r` of the tile's eight. -/
def gateBlk (r : Fin 8) : FVec F S128x512 .f32 :=
  shapeCast S128x512 (extf .f32 (addf (addf (addf (addf (addf (addf (addf
    (headAt arg5 harg5 arg6 harg6 arg7 harg7 x2 x3 x4 (k0_off11 (grid0.coords t) (BitVec.ofNat 32 r.val)) (k0_off11_inb (grid0.coords t) r) ![0, 0, 0] inb_S8x128x512_S1x128x512_0_0_0)
    (headAt arg5 harg5 arg6 harg6 arg7 harg7 x2 x3 x4 (k0_off12 (grid0.coords t) (BitVec.ofNat 32 r.val)) (k0_off12_inb (grid0.coords t) r) ![1, 0, 0] inb_S8x128x512_S1x128x512_1_0_0))
    (headAt arg5 harg5 arg6 harg6 arg7 harg7 x2 x3 x4 (k0_off13 (grid0.coords t) (BitVec.ofNat 32 r.val)) (k0_off13_inb (grid0.coords t) r) ![2, 0, 0] inb_S8x128x512_S1x128x512_2_0_0))
    (headAt arg5 harg5 arg6 harg6 arg7 harg7 x2 x3 x4 (k0_off14 (grid0.coords t) (BitVec.ofNat 32 r.val)) (k0_off14_inb (grid0.coords t) r) ![3, 0, 0] inb_S8x128x512_S1x128x512_3_0_0))
    (headAt arg5 harg5 arg6 harg6 arg7 harg7 x2 x3 x4 (k0_off15 (grid0.coords t) (BitVec.ofNat 32 r.val)) (k0_off15_inb (grid0.coords t) r) ![4, 0, 0] inb_S8x128x512_S1x128x512_4_0_0))
    (headAt arg5 harg5 arg6 harg6 arg7 harg7 x2 x3 x4 (k0_off16 (grid0.coords t) (BitVec.ofNat 32 r.val)) (k0_off16_inb (grid0.coords t) r) ![5, 0, 0] inb_S8x128x512_S1x128x512_5_0_0))
    (headAt arg5 harg5 arg6 harg6 arg7 harg7 x2 x3 x4 (k0_off17 (grid0.coords t) (BitVec.ofNat 32 r.val)) (k0_off17_inb (grid0.coords t) r) ![6, 0, 0] inb_S8x128x512_S1x128x512_6_0_0))
    (headAt arg5 harg5 arg6 harg6 arg7 harg7 x2 x3 x4 (k0_off18 (grid0.coords t) (BitVec.ofNat 32 r.val)) (k0_off18_inb (grid0.coords t) r) ![7, 0, 0] inb_S8x128x512_S1x128x512_7_0_0) : FVec F S128x512 .bf16) bitsLt_bf16_f32) shapeCasts_S128x512_S128x512

/-- The same as a stored piece. -/
def gateP (r : Fin 8) : View.Piece (Elt F) S1024x512 .f32 :=
  ⟨Rect.unit (s := S1024x512) ![128 * r.val, 0] S128x512.size (gate_in r), gateBlk t arg5 harg5 arg6 harg6 arg7 harg7 x2 x3 x4 r⟩

set_option maxHeartbeats 1000000 in
/-- What the step stores of its gates is the eight blocks. -/
theorem gates_eq (c : Dev nD) : mid.sl.HG_8 c t arg5 harg5 arg6 harg6 arg7 harg7 x2 x3 x4
    = [gateP t arg5 harg5 arg6 harg6 arg7 harg7 x2 x3 x4 7, gateP t arg5 harg5 arg6 harg6 arg7 harg7 x2 x3 x4 6,
      gateP t arg5 harg5 arg6 harg6 arg7 harg7 x2 x3 x4 5, gateP t arg5 harg5 arg6 harg6 arg7 harg7 x2 x3 x4 4,
      gateP t arg5 harg5 arg6 harg6 arg7 harg7 x2 x3 x4 3, gateP t arg5 harg5 arg6 harg6 arg7 harg7 x2 x3 x4 2,
      gateP t arg5 harg5 arg6 harg6 arg7 harg7 x2 x3 x4 1, gateP t arg5 harg5 arg6 harg6 arg7 harg7 x2 x3 x4 0] := rfl
end Text

/-- One head's gate: the second factor where it reaches the threshold and nothing elsewhere, times the first factor. -/
def pick (b th a : EReal) : EReal := Scalar.select (FloatOps.cmpf (F := Ideal) (φ := .f32) .oge b th) b 0 * a

/-- One head's term of a gate at an index. -/
theorem head_apply (th e : Vec Ideal S1x1x512 .f32) (q : Vec Ideal S1x128x512 .f32) (r : Fin 128) (s : Fin 512) :
    head (F := Ideal) th e q (ix2 r s) = pick (q (ix3 0 r s)) (th (ix3 0 0 s)) (e (ix3 0 0 s)) := by
  have hq := shapeCast_1ab_ab_apply q shapeCasts_S1x128x512_S128x512 r s
  have ht := (broadcastTo_1b_ab_apply (shapeCast S1x512 th shapeCasts_S1x1x512_S1x512) broadcasts_S1x512_S128x512 r s).trans (shapeCast_1ab_ab_apply th shapeCasts_S1x1x512_S1x512 0 s)
  have he := (broadcastTo_1b_ab_apply (shapeCast S1x512 e shapeCasts_S1x1x512_S1x512) broadcasts_S1x512_S128x512 r s).trans (shapeCast_1ab_ab_apply e shapeCasts_S1x1x512_S1x512 0 s)
  unfold pick
  rw [← hq, ← ht, ← he, ← Ideal.ofBits_zero_f32]
  rfl

section Values
variable (t : Fin cfg0.N) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole)
  (x2 x3 x4 : Vec Ideal S8x128x512 .f32)

/-- A head's part at an index. -/
theorem headAt_apply (h : Fin 8) (k : Fin 128) (o : Fin 3 → ℕ) (ho) (eo : o = ![h.val, k.val, 0]) (q : Fin 3 → ℕ) (hq) (eq : q = ![h.val, 0, 0]) (r : Fin 128) (s : Fin 512) :
    headAt (F := Ideal) arg5 harg5 arg6 harg6 arg7 harg7 x2 x3 x4 o ho q hq (ix2 r s) = pick (x2 (ix3 h r s)) (x3 (ix3 h k s)) (x4 (ix3 h k s)) := by
  subst eo eq
  unfold headAt
  rw [head_apply, harg5.readAt_unread, harg6.readAt_unread, harg7.readAt_unread]
  have e1 : (Rect.unit (s := S8x128x512) ![h.val, 0, 0] S1x128x512.size hq).toLoadRect.idx (ix3 0 r s) = ix3 h r s := by
    funext a; refine Fin.ext ?_
    match a with
    | ⟨0, _⟩ => show h.val + 1 * 0 = h.val; omega
    | ⟨1, _⟩ => show 0 + 1 * r.val = r.val; omega
    | ⟨2, _⟩ => show 0 + 1 * s.val = s.val; omega
  have e2 : (Rect.unit (s := S8x128x512) ![h.val, k.val, 0] S1x1x512.size ho).toLoadRect.idx (ix3 0 0 s) = ix3 h k s := by
    funext a; refine Fin.ext ?_
    match a with
    | ⟨0, _⟩ => show h.val + 1 * 0 = h.val; omega
    | ⟨1, _⟩ => show k.val + 1 * 0 = k.val; omega
    | ⟨2, _⟩ => show 0 + 1 * s.val = s.val; omega
  rw [e1, e2]

/-- The eight heads' gates added up: row `k` of the thresholds and the first factor, row `r` of the second. -/
def gateVal (k r : Fin 128) (s : Fin 512) : EReal := ∑ h : Fin 8, pick (x2 (ix3 h r s)) (x3 (ix3 h k s)) (x4 (ix3 h k s))

/-- Where the step reads the thresholds and the first factor. -/
theorem row_at : ∀ (t : Fin cfg0.N) (r : Fin 8), (k0_off11 (grid0.coords t) (BitVec.ofNat 32 r.val) = ![0, 8 * (t.val % 16) + r.val, 0] ∧ k0_off12 (grid0.coords t) (BitVec.ofNat 32 r.val) = ![1, 8 * (t.val % 16) + r.val, 0]
    ∧ k0_off13 (grid0.coords t) (BitVec.ofNat 32 r.val) = ![2, 8 * (t.val % 16) + r.val, 0] ∧ k0_off14 (grid0.coords t) (BitVec.ofNat 32 r.val) = ![3, 8 * (t.val % 16) + r.val, 0])
    ∧ (k0_off15 (grid0.coords t) (BitVec.ofNat 32 r.val) = ![4, 8 * (t.val % 16) + r.val, 0] ∧ k0_off16 (grid0.coords t) (BitVec.ofNat 32 r.val) = ![5, 8 * (t.val % 16) + r.val, 0]
    ∧ k0_off17 (grid0.coords t) (BitVec.ofNat 32 r.val) = ![6, 8 * (t.val % 16) + r.val, 0] ∧ k0_off18 (grid0.coords t) (BitVec.ofNat 32 r.val) = ![7, 8 * (t.val % 16) + r.val, 0]) :=
  (by decide +kernel : ∀ (t : Fin grid0.N) (r : Fin 8), (k0_off11 (grid0.coords t) (BitVec.ofNat 32 r.val) = ![0, 8 * (t.val % 16) + r.val, 0] ∧ k0_off12 (grid0.coords t) (BitVec.ofNat 32 r.val) = ![1, 8 * (t.val % 16) + r.val, 0]
    ∧ k0_off13 (grid0.coords t) (BitVec.ofNat 32 r.val) = ![2, 8 * (t.val % 16) + r.val, 0] ∧ k0_off14 (grid0.coords t) (BitVec.ofNat 32 r.val) = ![3, 8 * (t.val % 16) + r.val, 0])
    ∧ (k0_off15 (grid0.coords t) (BitVec.ofNat 32 r.val) = ![4, 8 * (t.val % 16) + r.val, 0] ∧ k0_off16 (grid0.coords t) (BitVec.ofNat 32 r.val) = ![5, 8 * (t.val % 16) + r.val, 0]
    ∧ k0_off17 (grid0.coords t) (BitVec.ofNat 32 r.val) = ![6, 8 * (t.val % 16) + r.val, 0] ∧ k0_off18 (grid0.coords t) (BitVec.ofNat 32 r.val) = ![7, 8 * (t.val % 16) + r.val, 0]))

/-- A block of gates at an index. -/
theorem gateBlk_apply (w : Fin 8) (k : Fin 128) (hk : k.val = 8 * (t.val % 16) + w.val) (r : Fin 128) (s : Fin 512) :
    gateBlk (F := Ideal) t arg5 harg5 arg6 harg6 arg7 harg7 x2 x3 x4 w (ix2 r s) = gateVal x2 x3 x4 k r s := by
  obtain ⟨⟨e0, e1, e2, e3⟩, e4, e5, e6, e7⟩ := row_at t w
  rw [← hk] at e0 e1 e2 e3 e4 e5 e6 e7
  unfold gateBlk gateVal
  rw [shapeCast_self, Fin.sum_univ_eight]
  show headAt (F := Ideal) arg5 harg5 arg6 harg6 arg7 harg7 x2 x3 x4 _ _ _ _ (ix2 r s) + headAt (F := Ideal) arg5 harg5 arg6 harg6 arg7 harg7 x2 x3 x4 _ _ _ _ (ix2 r s)
    + headAt (F := Ideal) arg5 harg5 arg6 harg6 arg7 harg7 x2 x3 x4 _ _ _ _ (ix2 r s) + headAt (F := Ideal) arg5 harg5 arg6 harg6 arg7 harg7 x2 x3 x4 _ _ _ _ (ix2 r s)
    + headAt (F := Ideal) arg5 harg5 arg6 harg6 arg7 harg7 x2 x3 x4 _ _ _ _ (ix2 r s) + headAt (F := Ideal) arg5 harg5 arg6 harg6 arg7 harg7 x2 x3 x4 _ _ _ _ (ix2 r s)
    + headAt (F := Ideal) arg5 harg5 arg6 harg6 arg7 harg7 x2 x3 x4 _ _ _ _ (ix2 r s) + headAt (F := Ideal) arg5 harg5 arg6 harg6 arg7 harg7 x2 x3 x4 _ _ _ _ (ix2 r s) = _
  have hd := headAt_apply arg5 harg5 arg6 harg6 arg7 harg7 x2 x3 x4
  exact congrArg₂ (· + ·) (congrArg₂ (· + ·) (congrArg₂ (· + ·) (congrArg₂ (· + ·) (congrArg₂ (· + ·) (congrArg₂ (· + ·) (congrArg₂ (· + ·) (hd 0 k _ _ e0 _ _ rfl r s) (hd 1 k _ _ e1 _ _ rfl r s)) (hd 2 k _ _ e2 _ _ rfl r s)) (hd 3 k _ _ e3 _ _ rfl r s)) (hd 4 k _ _ e4 _ _ rfl r s)) (hd 5 k _ _ e5 _ _ rfl r s)) (hd 6 k _ _ e6 _ _ rfl r s)) (hd 7 k _ _ e7 _ _ rfl r s)

/-- The step's gates at a row and a column of the tile. -/
def gateG (y : S1024x512.Idx) : EReal :=
  gateVal x2 x3 x4 ⟨8 * (t.val % 16) + (y 0).val / 128, by have : (y 0).val < 1024 := (y 0).isLt; omega⟩ ⟨(y 0).val % 128, by omega⟩ ⟨(y 1).val, (y 1).isLt⟩

/-- A quarter of the step's gates as the step loads it back. -/
theorem gates_load (c : Dev nD) (o : ℕ) (ho : ∀ a, (![o, 0] : Fin 2 → ℕ) a + S256x512.size a ≤ S1024x512.size a) (r : Fin 256) (s : Fin 512) (R : Fin 1024) (hR : R.val = o + r.val) :
    gateB.view.readCov (mid.sl.HG_8 (F := Ideal) c t arg5 harg5 arg6 harg6 arg7 harg7 x2 x3 x4) (Rect.unit (s := S1024x512) ![o, 0] S256x512.size ho).toLoadRect (ix2 r s)
      = gateG t x2 x3 x4 (ix2 R s) := by
  rw [gates_eq]
  have e : (Rect.unit (s := S1024x512) ![o, 0] S256x512.size ho).toLoadRect.idx (ix2 r s) = ix2 R s := by
    funext a; refine Fin.ext ?_
    match a with
    | ⟨0, _⟩ => show o + 1 * r.val = R.val; omega
    | ⟨1, _⟩ => show 0 + 1 * s.val = s.val; omega
  have piece : ∀ (w : Fin 8) (x : (gateP (F := Ideal) t arg5 harg5 arg6 harg6 arg7 harg7 x2 x3 x4 w).1.shape.Idx),
      (gateP (F := Ideal) t arg5 harg5 arg6 harg6 arg7 harg7 x2 x3 x4 w).2 x = gateG t x2 x3 x4 ((gateP (F := Ideal) t arg5 harg5 arg6 harg6 arg7 harg7 x2 x3 x4 w).1.emb x) := by
    intro w x
    obtain ⟨a, b, rfl⟩ : ∃ (a : Fin 128) (b : Fin 512), x = ix2 a b := ⟨x 0, x 1, eq_ix2 x⟩
    refine (gateBlk_apply t arg5 harg5 arg6 harg6 arg7 harg7 x2 x3 x4 w ⟨8 * (t.val % 16) + w.val, by omega⟩ rfl a b).trans ?_
    unfold gateG
    have v0 : (((gateP (F := Ideal) t arg5 harg5 arg6 harg6 arg7 harg7 x2 x3 x4 w).1.emb (ix2 a b)) 0).val = 128 * w.val + 1 * a.val := rfl
    have v1 : (((gateP (F := Ideal) t arg5 harg5 arg6 harg6 arg7 harg7 x2 x3 x4 w).1.emb (ix2 a b)) 1).val = 0 + 1 * b.val := rfl
    congr 1
    · refine Fin.ext ?_; show 8 * (t.val % 16) + w.val = 8 * (t.val % 16) + _ / 128; rw [v0]; omega
    · refine Fin.ext ?_; show a.val = _ % 128; rw [v0]; omega
    · refine Fin.ext ?_; show b.val = _; rw [v1]; omega
  have mem : ∀ w : Fin 8, R.val / 128 = w.val → ix2 R s ∈ (gateP (F := Ideal) t arg5 harg5 arg6 harg6 arg7 harg7 x2 x3 x4 w).1.set := by
    intro w hw
    show _ ∈ (Rect.unit (s := S1024x512) ![128 * w.val, 0] S128x512.size (gate_in w)).set
    rw [Rect.mem_set_unit]
    exact Fin.forall_fin_two.2 ⟨by show 128 * w.val ≤ R.val ∧ R.val < 128 * w.val + 128; omega, by show 0 ≤ s.val ∧ s.val < 0 + 512; omega⟩
  show View.read (Elt Ideal) gateB.view (gateB.view.writes (Elt Ideal) gateB.view.junk _) ((Rect.unit (s := S1024x512) ![o, 0] S256x512.size ho).toLoadRect.idx (ix2 r s)) = _
  rw [e]
  refine View.read_writes_apply_of_pieces (Val := Elt Ideal) (e := .f32) _ _ (gateG t x2 x3 x4) _ ?_ _ ?_
  · simp only [List.forall_mem_cons, List.not_mem_nil, false_imp_iff, implies_true, and_true]
    exact ⟨piece 7, piece 6, piece 5, piece 4, piece 3, piece 2, piece 1, piece 0⟩
  · have hw : R.val / 128 < 8 := by omega
    have : ∀ w : Fin 8, R.val / 128 = w.val → ∃ p ∈ [gateP (F := Ideal) t arg5 harg5 arg6 harg6 arg7 harg7 x2 x3 x4 7, gateP t arg5 harg5 arg6 harg6 arg7 harg7 x2 x3 x4 6,
      gateP t arg5 harg5 arg6 harg6 arg7 harg7 x2 x3 x4 5, gateP t arg5 harg5 arg6 harg6 arg7 harg7 x2 x3 x4 4,
      gateP t arg5 harg5 arg6 harg6 arg7 harg7 x2 x3 x4 3, gateP t arg5 harg5 arg6 harg6 arg7 harg7 x2 x3 x4 2,
      gateP t arg5 harg5 arg6 harg6 arg7 harg7 x2 x3 x4 1, gateP t arg5 harg5 arg6 harg6 arg7 harg7 x2 x3 x4 0], ix2 R s ∈ p.1.set := by
      intro w hw
      refine ⟨gateP t arg5 harg5 arg6 harg6 arg7 harg7 x2 x3 x4 w, ?_, mem w hw⟩
      match w with
      | 0 | 1 | 2 | 3 | 4 | 5 | 6 | 7 => simp only [List.mem_cons, true_or, or_true]
    exact this ⟨R.val / 128, hw⟩ rfl
end Values

end Cert.Experts

end
-- ==== Proof.ExpertsAct.lean ====
/- The expert call's step: the hidden units and the activations it stores, index by index, over the extended reals. -/
module

public import proofs.«01_k».proof.Proof.ExpertsGate

@[expose] public section

set_option maxRecDepth 16384

noncomputable section

namespace Cert.Experts

open Cert.PeerIdeal Cert.PeerIdeal.Gen
open Idealize.ShloMosaic Idealize.ShloMosaic.TcCoe Idealize.SL.Sem Idealize.ShloMosaic.ValueIdx
open scoped BigOperators

section Text
variable {F : FTy → Type} [FloatOps F]

/-- A slot holding one tile of a table. -/
def tileIn (S : Memref sig .tc .vmem S3x1024x4096 .fp8e4m3) (T : Memref sig .tc .hbm S16384x4096 .fp8e4m3) (d : ℕ) (s : Fin 3) (b : Fin 513) (W : T.view.ty.Contents (Elt F)) : S.view.ty.Contents (Elt F) :=
  (slotM S s).view.writes (Elt F) (slotM S s).view.junk [⟨Rect.whole S1024x4096, ReadAs.same.apply (View.read (Elt F) (tileM T d b).view W)⟩]

/-- What a slot holding a tile reads. -/
theorem tile_read (S : Memref sig .tc .vmem S3x1024x4096 .fp8e4m3) (T : Memref sig .tc .hbm S16384x4096 .fp8e4m3) (d : ℕ) (s : Fin 3) (b : Fin 513) (W : T.view.ty.Contents (Elt F)) (a : Fin 1024) (k : Fin 4096) (R : Fin 16384) (hR : R.val = 1024 * ((b.val + d) % 16) + a.val) :
    S.view.read (Elt F) (tileIn S T d s b W) (ix3 s a k) = T.view.read (Elt F) W (ix2 R k) := by
  have h1 : (slotM S s).view.read (Elt F) (tileIn S T d s b W) (ix2 a k) = S.view.read (Elt F) (tileIn S T d s b W) ((Rect.unit (s := S3x1024x4096) ![s.val, 0, 0] S1x1024x4096.size (slot_fits s)).toLoadRect.idx (ix3 (0 : Fin 1) a k)) :=
    (congrFun (Memref.read_squeeze_slice S (Rect.unit (s := S3x1024x4096) ![s.val, 0, 0] S1x1024x4096.size (slot_fits s)) (fun _ => rfl) squeezes_S1x1024x4096_S1024x4096 shapeCasts_S1x1024x4096_S1024x4096 (tileIn S T d s b W)) (ix2 a k)).trans
      (shapeCast_1ab_ab_apply _ shapeCasts_S1x1024x4096_S1024x4096 a k)
  have e1 : (Rect.unit (s := S3x1024x4096) ![s.val, 0, 0] S1x1024x4096.size (slot_fits s)).toLoadRect.idx (ix3 (0 : Fin 1) a k) = ix3 s a k := by
    funext i; refine Fin.ext ?_
    match i with
    | ⟨0, _⟩ => show s.val + 1 * 0 = s.val; omega
    | ⟨1, _⟩ => show 0 + 1 * a.val = a.val; omega
    | ⟨2, _⟩ => show 0 + 1 * k.val = k.val; omega
  have h2 : (slotM S s).view.read (Elt F) (tileIn S T d s b W) = View.read (Elt F) (tileM T d b).view W :=
    View.read_writes_whole (slotM S s).view (slotM S s).view.junk (View.read (Elt F) (tileM T d b).view W)
  have h3 : View.read (Elt F) (tileM T d b).view W (ix2 a k) = T.view.read (Elt F) W ((Rect.unit (s := S16384x4096) ![1024 * ((b.val + d) % 16), 0] S1024x4096.size (tile_fits d b)).toLoadRect.idx (ix2 a k)) := rfl
  have e2 : (Rect.unit (s := S16384x4096) ![1024 * ((b.val + d) % 16), 0] S1024x4096.size (tile_fits d b)).toLoadRect.idx (ix2 a k) = ix2 R k := by
    funext i; refine Fin.ext ?_
    match i with
    | ⟨0, _⟩ => show 1024 * ((b.val + d) % 16) + 1 * a.val = R.val; omega
    | ⟨1, _⟩ => show 0 + 1 * k.val = k.val; omega
  rw [← e1, ← h1, h2, h3, e2]

/-- The activation of one hidden unit at its gate: the units' own curve, held within the range of the quantised type. -/
def unitV {s : Shape} (a b : F .f32) (h g : FVec F s .f32) : FVec F s .f32 :=
  minimumf (broadcast s (Scalar.ofBits .f32 0x43E00000#32 : F .f32)) (maximumf (broadcast s (Scalar.ofBits .f32 0xC3E00000#32 : F .f32))
    (addf (mulf h g) (mulf (mulf h g) (tanh (mulf h (addf (broadcast s a) (mulf (broadcast s b) (mulf h h))))))))

/-- The same of single numbers. -/
def unit1 (a b h g : F .f32) : F .f32 := unitV (s := S1) a b (fun _ => h) (fun _ => g) (ix1 0)

/-- The activation of an array at an index is the activation of its entries. -/
theorem unitV_apply {s : Shape} (a b : F .f32) (h g : FVec F s .f32) (i : s.Idx) : unitV a b h g i = unit1 a b (h i) (g i) := rfl

/-- The activations of a quarter of a tile, a token a row. -/
def actBlk (a b : F .f32) (h : Vec F S1x256x512 .f32) (g : Vec F S256x512 .f32) : FVec F S1x512x256 .fp8e4m3 :=
  shapeCast S1x512x256 (truncf .fp8e4m3 (transpose S512x256 [1, 0] (unitV a b (shapeCast S256x512 h shapeCasts_S1x256x512_S256x512) g) transposes_S256x512_p1_0_S512x256) bitsLt_fp8e4m3_f32 : FVec F S512x256 .fp8e4m3) shapeCasts_S512x256_S1x512x256

variable (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole)
  (x0 : Vec F S3 .f32) (x1 : Vec F S4096x512 .fp8e4m3) (x2 x3 x4 : Vec F S8x128x512 .f32)

/-- The four pieces of the kept hidden array lie inside it. -/
theorem hid_in (j : Fin 4) : ∀ a, (![j.val, 0, 0] : Fin 3 → ℕ) a + S1x256x512.size a ≤ S4x256x512.size a :=
  Fin.forall_fin_succ.2 ⟨by show j.val + 1 ≤ 4; omega, Fin.forall_fin_two.2 ⟨by show 0 + 256 ≤ 256; decide, by show 0 + 512 ≤ 512; decide⟩⟩

/-- The hidden units of a quarter of a tile, as a stored piece: the quarter is loaded at `o`. -/
def hidP (c : Dev nD) (Wd : Cont (F := F) c downT) (j : Fin 4) (o : Fin 3 → ℕ) (ho : ∀ a, o a + S1x256x4096.size a ≤ S3x1024x4096.size a) : View.Piece (Elt F) S4x256x512 .f32 :=
  ⟨Rect.unit (s := S4x256x512) ![j.val, 0, 0] S1x256x512.size (hid_in j),
    k0_pay77 (View.readAt (Elt F) downB.view (Rect.unit (s := S3x1024x4096) o S1x256x4096.size ho).toLoadRect (tileIn downB downT 0 (Ring.sl 3 t) (Ring.bk 513 t) Wd))
      (View.readAt (Elt F) arg2.view (Rect.unit (s := S4096x512) ![0, 0] S4096x512.size inb_S4096x512_S4096x512_0_0).toLoadRect (harg2.unread x1))⟩

/-- What the step stores of its hidden units is the four quarters. -/
theorem hids_eq (c : Dev nD) (Wd : Cont (F := F) c downT) : mid.sl.HH_4 c t arg2 harg2 x1 Wd
    = [hidP t arg2 harg2 x1 c Wd 3 (k0_off22 (grid0.coords t)) (k0_off22_inb (grid0.coords t)), hidP t arg2 harg2 x1 c Wd 2 (k0_off21 (grid0.coords t)) (k0_off21_inb (grid0.coords t)),
      hidP t arg2 harg2 x1 c Wd 1 (k0_off20 (grid0.coords t)) (k0_off20_inb (grid0.coords t)), hidP t arg2 harg2 x1 c Wd 0 (k0_off19 (grid0.coords t)) (k0_off19_inb (grid0.coords t))] := rfl

/-- What the step stores of its activations is the four quarters. -/
theorem acts_eq (c : Dev nD) (Wd : Cont (F := F) c downT) : actL c t arg1 harg1 arg2 harg2 arg5 harg5 arg6 harg6 arg7 harg7 x0 x1 x2 x3 x4 Wd
    = [⟨Rect.unit (s := S2x512x1024) (k0_off28 (grid0.coords t)) S1x512x256.size (k0_off28_inb (grid0.coords t)), actBlk (mid.sl.r c arg1 harg1 x0) (mid.sl.r_1 c arg1 harg1 x0) (mid.sl.v1349 c t arg2 harg2 x1 Wd) (mid.sl.v1351 c t arg5 harg5 arg6 harg6 arg7 harg7 x2 x3 x4)⟩,
      ⟨Rect.unit (s := S2x512x1024) (k0_off27 (grid0.coords t)) S1x512x256.size (k0_off27_inb (grid0.coords t)), actBlk (mid.sl.r c arg1 harg1 x0) (mid.sl.r_1 c arg1 harg1 x0) (mid.sl.v1326 c t arg2 harg2 x1 Wd) (mid.sl.v1328 c t arg5 harg5 arg6 harg6 arg7 harg7 x2 x3 x4)⟩,
      ⟨Rect.unit (s := S2x512x1024) (k0_off26 (grid0.coords t)) S1x512x256.size (k0_off26_inb (grid0.coords t)), actBlk (mid.sl.r c arg1 harg1 x0) (mid.sl.r_1 c arg1 harg1 x0) (mid.sl.v1303 c t arg2 harg2 x1 Wd) (mid.sl.v1305 c t arg5 harg5 arg6 harg6 arg7 harg7 x2 x3 x4)⟩,
      ⟨Rect.unit (s := S2x512x1024) (k0_off25 (grid0.coords t)) S1x512x256.size (k0_off25_inb (grid0.coords t)), actBlk (mid.sl.r c arg1 harg1 x0) (mid.sl.r_1 c arg1 harg1 x0) (mid.sl.v1280 c t arg2 harg2 x1 Wd) (mid.sl.v1282 c t arg5 harg5 arg6 harg6 arg7 harg7 x2 x3 x4)⟩] := rfl
end Text

/-- A quarter's activations at an index. -/
theorem actBlk_apply (a b : EReal) (h : Vec Ideal S1x256x512 .f32) (g : Vec Ideal S256x512 .f32) (r : Fin 512) (n : Fin 256) :
    actBlk (F := Ideal) a b h g (ix3 0 r n) = unit1 (F := Ideal) a b (h (ix3 0 n r)) (g (ix2 n r)) := by
  unfold actBlk
  refine (shapeCast_ab_1ab_apply _ shapeCasts_S512x256_S1x512x256 0 r n).trans ?_
  show transpose S512x256 [1, 0] (unitV (F := Ideal) a b (shapeCast S256x512 h shapeCasts_S1x256x512_S256x512) g) transposes_S256x512_p1_0_S512x256 (ix2 r n) = _
  refine (transpose_ix2_apply _ transposes_S256x512_p1_0_S512x256 r n).trans ?_
  rw [unitV_apply, shapeCast_1ab_ab_apply h shapeCasts_S1x256x512_S256x512 n r]

/-- A hidden unit: a row of the down table against a column of the tokens. -/
def hidVal (D : S16384x4096.Idx → EReal) (x : S4096x512.Idx → EReal) (N : Fin 16384) (r : Fin 512) : EReal := ∑ k : Fin 4096, D (ix2 N k) * x (ix2 k r)

/-- A quarter's hidden units at an index. -/
theorem pay77_apply (v : Vec Ideal S1x256x4096 .fp8e4m3) (x : Vec Ideal S4096x512 .fp8e4m3) (n : Fin 256) (r : Fin 512) :
    k0_pay77 (F := Ideal) v x (ix3 0 n r) = ∑ k : Fin 4096, (v (ix3 0 n k) : EReal) * x (ix2 k r) := by
  unfold k0_pay77
  refine (shapeCast_ab_1ab_apply _ shapeCasts_S256x512_S1x256x512 0 n r).trans ?_
  refine (Ideal.matmul_plain_apply (M := 256) (K := 4096) (N := 512) none _ x _ n r).trans ?_
  have hz : (constant (F := Ideal) S256x512 .f32 0x00000000#32 (ix2 n r) : EReal) = 0 := Ideal.ofBits_zero_f32
  rw [hz, zero_add]
  exact Finset.sum_congr rfl fun k _ => congrArg (fun y : EReal => y * x (ix2 k r)) (shapeCast_1ab_ab_apply v shapeCasts_S1x256x4096_S256x4096 n k)

/-- Where the first two pieces of a down tile are read. -/
theorem off_down (t : Fin cfg0.N) : k0_off19 (grid0.coords t) = ![(Ring.sl 3 t).val, 0, 0] ∧ k0_off20 (grid0.coords t) = ![(Ring.sl 3 t).val, 256, 0]
    ∧ k0_off21 (grid0.coords t) = ![(Ring.sl 3 t).val, 512, 0] ∧ k0_off22 (grid0.coords t) = ![(Ring.sl 3 t).val, 768, 0] := ⟨off19_eq t, off20_eq t, off21_eq t, off22_eq t⟩

section Values
variable (t : Fin cfg0.N) (arg1 : Memref sig .tc .smem S3 .f32) (harg1 : arg1.IsWhole) (arg2 : Memref sig .tc .vmem S4096x512 .fp8e4m3) (harg2 : arg2.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole)
  (x0 : Vec Ideal S3 .f32) (x1 : Vec Ideal S4096x512 .fp8e4m3) (x2 x3 x4 : Vec Ideal S8x128x512 .f32)

/-- A stored quarter of hidden units at an index. -/
theorem hidP_apply (c : Dev nD) (Wd : Cont (F := Ideal) c downT) (j : Fin 4) (q : ℕ) (hq : q = 256 * j.val) (o : Fin 3 → ℕ) (ho) (eo : o = ![(Ring.sl 3 t).val, q, 0]) (n : Fin 256) (r : Fin 512) (R : Fin 16384) (hR : R.val = 1024 * (t.val % 16) + (256 * j.val + n.val)) :
    (hidP (F := Ideal) t arg2 harg2 x1 c Wd j o ho).2 (ix3 (0 : Fin 1) n r) = hidVal (downT.view.read (Elt Ideal) Wd) x1 R r := by
  subst hq eo
  have hj := j.isLt
  unfold hidVal
  refine (pay77_apply _ _ n r).trans ?_
  refine Finset.sum_congr rfl fun k _ => ?_
  have hx : View.readAt (Elt Ideal) arg2.view (Rect.unit (s := S4096x512) ![0, 0] S4096x512.size inb_S4096x512_S4096x512_0_0).toLoadRect (harg2.unread x1) (ix2 k r) = x1 (ix2 k r) := by
    rw [harg2.readAt_unread]
    refine congrArg x1 (funext fun i => Fin.ext ?_)
    match i with
    | ⟨0, _⟩ => show 0 + 1 * k.val = k.val; omega
    | ⟨1, _⟩ => show 0 + 1 * r.val = r.val; omega
  have hv : View.readAt (Elt Ideal) downB.view (Rect.unit (s := S3x1024x4096) ![(Ring.sl 3 t).val, 256 * j.val, 0] S1x256x4096.size ho).toLoadRect (tileIn downB downT 0 (Ring.sl 3 t) (Ring.bk 513 t) Wd) (ix3 (0 : Fin 1) n k)
      = downT.view.read (Elt Ideal) Wd (ix2 R k) := by
    have e : (Rect.unit (s := S3x1024x4096) ![(Ring.sl 3 t).val, 256 * j.val, 0] S1x256x4096.size ho).toLoadRect.idx (ix3 (0 : Fin 1) n k) = ix3 (Ring.sl 3 t) (⟨256 * j.val + n.val, by omega⟩ : Fin 1024) k := by
      funext i; refine Fin.ext ?_
      match i with
      | ⟨0, _⟩ => show (Ring.sl 3 t).val + 1 * 0 = (Ring.sl 3 t).val; omega
      | ⟨1, _⟩ => show 256 * j.val + 1 * n.val = 256 * j.val + n.val; omega
      | ⟨2, _⟩ => show 0 + 1 * k.val = k.val; omega
    rw [View.readAt_apply, e]
    have hb : (Ring.bk 513 t).val = t.val := Nat.mod_eq_of_lt t.isLt
    exact tile_read downB downT 0 (Ring.sl 3 t) (Ring.bk 513 t) Wd ⟨256 * j.val + n.val, by omega⟩ k R (by rw [hb]; exact hR)
  rw [hv, hx]

/-- The step's hidden units at a quarter, a row and a column. -/
def hidG (D : S16384x4096.Idx → EReal) (y : S4x256x512.Idx) : EReal :=
  hidVal D x1 ⟨1024 * (t.val % 16) + (256 * (y 0).val + (y 1).val), by have h0 : (y 0).val < 4 := (y 0).isLt; have h1 : (y 1).val < 256 := (y 1).isLt; omega⟩ ⟨(y 2).val, (y 2).isLt⟩

set_option maxHeartbeats 800000 in
/-- A quarter of the step's hidden units as the step loads it back. -/
theorem hids_load (c : Dev nD) (Wd : Cont (F := Ideal) c downT) (j : Fin 4) (u q : ℕ) (hu : u = j.val) (hq : q = 256 * j.val) (ho : ∀ a, (![u, 0, 0] : Fin 3 → ℕ) a + S1x256x512.size a ≤ S4x256x512.size a) (n : Fin 256) (r : Fin 512) (R : Fin 16384) (hR : R.val = 1024 * (t.val % 16) + (q + n.val)) :
    hidB.view.readCov (mid.sl.HH_4 (F := Ideal) c t arg2 harg2 x1 Wd) (Rect.unit (s := S4x256x512) ![u, 0, 0] S1x256x512.size ho).toLoadRect (ix3 (0 : Fin 1) n r)
      = hidVal (downT.view.read (Elt Ideal) Wd) x1 R r := by
  subst hu hq
  rw [hids_eq]
  obtain ⟨e0, e1, e2, e3⟩ := off_down t
  have e : (Rect.unit (s := S4x256x512) ![j.val, 0, 0] S1x256x512.size ho).toLoadRect.idx (ix3 (0 : Fin 1) n r) = ix3 j n r := by
    funext a; refine Fin.ext ?_
    match a with
    | ⟨0, _⟩ => show j.val + 1 * 0 = j.val; omega
    | ⟨1, _⟩ => show 0 + 1 * n.val = n.val; omega
    | ⟨2, _⟩ => show 0 + 1 * r.val = r.val; omega
  have piece : ∀ (w : Fin 4) (q : ℕ) (hq : q = 256 * w.val) (o : Fin 3 → ℕ) (h), o = ![(Ring.sl 3 t).val, q, 0] → ∀ (x : (hidP (F := Ideal) t arg2 harg2 x1 c Wd w o h).1.shape.Idx),
      (hidP (F := Ideal) t arg2 harg2 x1 c Wd w o h).2 x = hidG t x1 (downT.view.read (Elt Ideal) Wd) ((hidP (F := Ideal) t arg2 harg2 x1 c Wd w o h).1.emb x) := by
    intro w q hq o h eo x
    obtain ⟨u, a, b, rfl⟩ : ∃ (u : Fin 1) (a : Fin 256) (b : Fin 512), x = ix3 u a b := ⟨x 0, x 1, x 2, eq_ix3 x⟩
    obtain rfl : u = 0 := Subsingleton.elim _ _
    have v0 : (((hidP (F := Ideal) t arg2 harg2 x1 c Wd w o h).1.emb (ix3 (0 : Fin 1) a b)) 0).val = w.val + 1 * 0 := rfl
    have v1 : (((hidP (F := Ideal) t arg2 harg2 x1 c Wd w o h).1.emb (ix3 (0 : Fin 1) a b)) 1).val = 0 + 1 * a.val := rfl
    have v2 : (((hidP (F := Ideal) t arg2 harg2 x1 c Wd w o h).1.emb (ix3 (0 : Fin 1) a b)) 2).val = 0 + 1 * b.val := rfl
    have hw := w.isLt
    refine (hidP_apply t arg2 harg2 x1 c Wd w q hq o h eo a b ⟨1024 * (t.val % 16) + (256 * w.val + a.val), by omega⟩ rfl).trans ?_
    unfold hidG
    congr 1
    · refine Fin.ext ?_; show 1024 * (t.val % 16) + (256 * w.val + a.val) = 1024 * (t.val % 16) + (256 * _ + _); rw [v0, v1]; omega
    · refine Fin.ext ?_; show b.val = _; rw [v2]; omega
  have mem : ∀ (o : Fin 3 → ℕ) (h), ix3 j n r ∈ (hidP (F := Ideal) t arg2 harg2 x1 c Wd j o h).1.set := by
    intro o h
    show _ ∈ (Rect.unit (s := S4x256x512) ![j.val, 0, 0] S1x256x512.size (hid_in j)).set
    rw [Rect.mem_set_unit]
    exact Fin.forall_fin_succ.2 ⟨by show j.val ≤ j.val ∧ j.val < j.val + 1; omega, Fin.forall_fin_two.2 ⟨by show 0 ≤ n.val ∧ n.val < 0 + 256; omega, by show 0 ≤ r.val ∧ r.val < 0 + 512; omega⟩⟩
  show View.read (Elt Ideal) hidB.view (hidB.view.writes (Elt Ideal) hidB.view.junk _) ((Rect.unit (s := S4x256x512) ![j.val, 0, 0] S1x256x512.size ho).toLoadRect.idx (ix3 (0 : Fin 1) n r)) = _
  rw [e]
  refine (View.read_writes_apply_of_pieces (Val := Elt Ideal) (e := .f32) _ _ (hidG t x1 (downT.view.read (Elt Ideal) Wd)) _ ?_ _ ?_).trans ?_
  · simp only [List.forall_mem_cons, List.not_mem_nil, false_imp_iff, implies_true, and_true]
    exact ⟨piece 3 768 (by decide) _ _ e3, piece 2 512 (by decide) _ _ e2, piece 1 256 (by decide) _ _ e1, piece 0 0 (by decide) _ _ e0⟩
  · have mem' : ∀ w : Fin 4, j = w → ∀ (o : Fin 3 → ℕ) (h), ix3 j n r ∈ (hidP (F := Ideal) t arg2 harg2 x1 c Wd w o h).1.set := by
      intro w hw; subst hw; exact mem
    rcases (by omega : j.val = 0 ∨ j.val = 1 ∨ j.val = 2 ∨ j.val = 3) with h | h | h | h
    · exact ⟨hidP t arg2 harg2 x1 c Wd 0 (k0_off19 (grid0.coords t)) (k0_off19_inb (grid0.coords t)), (.tail _ (.tail _ (.tail _ (.head _)))), mem' 0 (Fin.ext h) _ _⟩
    · exact ⟨hidP t arg2 harg2 x1 c Wd 1 (k0_off20 (grid0.coords t)) (k0_off20_inb (grid0.coords t)), (.tail _ (.tail _ (.head _))), mem' 1 (Fin.ext h) _ _⟩
    · exact ⟨hidP t arg2 harg2 x1 c Wd 2 (k0_off21 (grid0.coords t)) (k0_off21_inb (grid0.coords t)), (.tail _ (.head _)), mem' 2 (Fin.ext h) _ _⟩
    · exact ⟨hidP t arg2 harg2 x1 c Wd 3 (k0_off22 (grid0.coords t)) (k0_off22_inb (grid0.coords t)), (.head _), mem' 3 (Fin.ext h) _ _⟩
  · refine congrArg (fun N => hidVal (downT.view.read (Elt Ideal) Wd) x1 N r) (Fin.ext ?_)
    show 1024 * (t.val % 16) + (256 * j.val + n.val) = R.val
    exact hR.symm

/-- The step's activations at a slot, a token and a unit of the tile. -/
def actG (a b : EReal) (D : S16384x4096.Idx → EReal) (y : S2x512x1024.Idx) : EReal :=
  unit1 (F := Ideal) a b (hidVal D x1 ⟨1024 * (t.val % 16) + (y 2).val, by have h2 : (y 2).val < 1024 := (y 2).isLt; omega⟩ ⟨(y 1).val, (y 1).isLt⟩)
    (gateG t x2 x3 x4 (ix2 (⟨(y 2).val, (y 2).isLt⟩ : Fin 1024) (⟨(y 1).val, (y 1).isLt⟩ : Fin 512)))

/-- A stored quarter of activations at an index. -/
theorem act_piece (c : Dev nD) (Wd : Cont (F := Ideal) c downT) (a b : EReal) (j : Fin 4) (q : ℕ) (eq : q = 256 * j.val) (hq : Vec Ideal S1x256x512 .f32) (gq : Vec Ideal S256x512 .f32)
    (hh : ∀ (n : Fin 256) (r : Fin 512) (R : Fin 16384), R.val = 1024 * (t.val % 16) + (q + n.val) → hq (ix3 (0 : Fin 1) n r) = hidVal (downT.view.read (Elt Ideal) Wd) x1 R r)
    (hg : ∀ (n : Fin 256) (r : Fin 512) (R : Fin 1024), R.val = q + n.val → gq (ix2 n r) = gateG t x2 x3 x4 (ix2 R r))
    (o : Fin 3 → ℕ) (ho : ∀ a, o a + S1x512x256.size a ≤ S2x512x1024.size a) (eo : o = ![t.val % 2, 0, q]) (x : (Rect.unit (s := S2x512x1024) o S1x512x256.size ho).shape.Idx) :
    actBlk (F := Ideal) a b hq gq x = actG t x1 x2 x3 x4 a b (downT.view.read (Elt Ideal) Wd) ((Rect.unit (s := S2x512x1024) o S1x512x256.size ho).emb x) := by
  subst eq eo
  obtain ⟨u, r, n, rfl⟩ : ∃ (u : Fin 1) (r : Fin 512) (n : Fin 256), x = ix3 u r n := ⟨x 0, x 1, x 2, eq_ix3 x⟩
  obtain rfl : u = 0 := Subsingleton.elim _ _
  have v1 : (((Rect.unit (s := S2x512x1024) ![t.val % 2, 0, 256 * j.val] S1x512x256.size ho).emb (ix3 (0 : Fin 1) r n)) 1).val = 0 + 1 * r.val := rfl
  have v2 : (((Rect.unit (s := S2x512x1024) ![t.val % 2, 0, 256 * j.val] S1x512x256.size ho).emb (ix3 (0 : Fin 1) r n)) 2).val = 256 * j.val + 1 * n.val := rfl
  have hj := j.isLt
  refine (actBlk_apply a b hq gq r n).trans ?_
  rw [hh n r ⟨1024 * (t.val % 16) + (256 * j.val + n.val), by omega⟩ rfl, hg n r ⟨256 * j.val + n.val, by omega⟩ rfl]
  unfold actG
  have er : (⟨_, ((((Rect.unit (s := S2x512x1024) ![t.val % 2, 0, 256 * j.val] S1x512x256.size ho).emb (ix3 (0 : Fin 1) r n)) 1)).isLt⟩ : Fin 512) = r := Fin.ext (v1.trans (by omega))
  have en : (⟨_, ((((Rect.unit (s := S2x512x1024) ![t.val % 2, 0, 256 * j.val] S1x512x256.size ho).emb (ix3 (0 : Fin 1) r n)) 2)).isLt⟩ : Fin 1024) = ⟨256 * j.val + n.val, by omega⟩ := Fin.ext (v2.trans (by show 256 * j.val + 1 * n.val = 256 * j.val + n.val; omega))
  refine congrArg₂ (unit1 (F := Ideal) a b) (congrArg₂ (hidVal (downT.view.read (Elt Ideal) Wd) x1) (Fin.ext ?_) er.symm) (congrArg (gateG t x2 x3 x4) (congrArg₂ ix2 en.symm er.symm))
  show 1024 * (t.val % 16) + (256 * j.val + n.val) = 1024 * (t.val % 16) + _
  rw [v2]; omega

set_option maxHeartbeats 800000 in
/-- The step's activations as the next step loads them. -/
theorem acts_load (c : Dev nD) (Wd : Cont (F := Ideal) c downT) (hc : ∀ j, ∃ p ∈ actL (F := Ideal) c t arg1 harg1 arg2 harg2 arg5 harg5 arg6 harg6 arg7 harg7 x0 x1 x2 x3 x4 Wd, (slotR t.val).toLoadRect.idx j ∈ p.1.set) (y) :
    actB.view.readCov (actL (F := Ideal) c t arg1 harg1 arg2 harg2 arg5 harg5 arg6 harg6 arg7 harg7 x0 x1 x2 x3 x4 Wd) (slotR t.val).toLoadRect y
      = actG t x1 x2 x3 x4 (mid.sl.r c arg1 harg1 x0) (mid.sl.r_1 c arg1 harg1 x0) (downT.view.read (Elt Ideal) Wd) ((slotR t.val).toLoadRect.idx y) := by
  show View.read (Elt Ideal) actB.view (actB.view.writes (Elt Ideal) actB.view.junk _) ((slotR t.val).toLoadRect.idx y) = _
  refine View.read_writes_apply_of_pieces (Val := Elt Ideal) (e := .fp8e4m3) _ _ (actG t x1 x2 x3 x4 (mid.sl.r c arg1 harg1 x0) (mid.sl.r_1 c arg1 harg1 x0) (downT.view.read (Elt Ideal) Wd)) _ ?_ _ (hc y)
  rw [acts_eq]
  simp only [List.forall_mem_cons, List.not_mem_nil, false_imp_iff, implies_true, and_true]
  have h0 : ∀ (n : Fin 256) (r : Fin 512) (R : Fin 16384), R.val = 1024 * (t.val % 16) + (0 + n.val) → mid.sl.v1280 (F := Ideal) c t arg2 harg2 x1 Wd (ix3 (0 : Fin 1) n r) = hidVal (downT.view.read (Elt Ideal) Wd) x1 R r :=
    fun n r R h => hids_load t arg2 harg2 x1 c Wd 0 0 0 (by decide) (by decide) _ n r R h
  have g0 : ∀ (n : Fin 256) (r : Fin 512) (R : Fin 1024), R.val = 0 + n.val → mid.sl.v1282 (F := Ideal) c t arg5 harg5 arg6 harg6 arg7 harg7 x2 x3 x4 (ix2 n r) = gateG t x2 x3 x4 (ix2 R r) :=
    fun n r R h => gates_load t arg5 harg5 arg6 harg6 arg7 harg7 x2 x3 x4 c 0 _ n r R h
  have h1 : ∀ (n : Fin 256) (r : Fin 512) (R : Fin 16384), R.val = 1024 * (t.val % 16) + (256 + n.val) → mid.sl.v1303 (F := Ideal) c t arg2 harg2 x1 Wd (ix3 (0 : Fin 1) n r) = hidVal (downT.view.read (Elt Ideal) Wd) x1 R r :=
    fun n r R h => hids_load t arg2 harg2 x1 c Wd 1 1 256 (by decide) (by decide) _ n r R h
  have g1 : ∀ (n : Fin 256) (r : Fin 512) (R : Fin 1024), R.val = 256 + n.val → mid.sl.v1305 (F := Ideal) c t arg5 harg5 arg6 harg6 arg7 harg7 x2 x3 x4 (ix2 n r) = gateG t x2 x3 x4 (ix2 R r) :=
    fun n r R h => gates_load t arg5 harg5 arg6 harg6 arg7 harg7 x2 x3 x4 c 256 _ n r R h
  have h2 : ∀ (n : Fin 256) (r : Fin 512) (R : Fin 16384), R.val = 1024 * (t.val % 16) + (512 + n.val) → mid.sl.v1326 (F := Ideal) c t arg2 harg2 x1 Wd (ix3 (0 : Fin 1) n r) = hidVal (downT.view.read (Elt Ideal) Wd) x1 R r :=
    fun n r R h => hids_load t arg2 harg2 x1 c Wd 2 2 512 (by decide) (by decide) _ n r R h
  have g2 : ∀ (n : Fin 256) (r : Fin 512) (R : Fin 1024), R.val = 512 + n.val → mid.sl.v1328 (F := Ideal) c t arg5 harg5 arg6 harg6 arg7 harg7 x2 x3 x4 (ix2 n r) = gateG t x2 x3 x4 (ix2 R r) :=
    fun n r R h => gates_load t arg5 harg5 arg6 harg6 arg7 harg7 x2 x3 x4 c 512 _ n r R h
  have h3 : ∀ (n : Fin 256) (r : Fin 512) (R : Fin 16384), R.val = 1024 * (t.val % 16) + (768 + n.val) → mid.sl.v1349 (F := Ideal) c t arg2 harg2 x1 Wd (ix3 (0 : Fin 1) n r) = hidVal (downT.view.read (Elt Ideal) Wd) x1 R r :=
    fun n r R h => hids_load t arg2 harg2 x1 c Wd 3 3 768 (by decide) (by decide) _ n r R h
  have g3 : ∀ (n : Fin 256) (r : Fin 512) (R : Fin 1024), R.val = 768 + n.val → mid.sl.v1351 (F := Ideal) c t arg5 harg5 arg6 harg6 arg7 harg7 x2 x3 x4 (ix2 n r) = gateG t x2 x3 x4 (ix2 R r) :=
    fun n r R h => gates_load t arg5 harg5 arg6 harg6 arg7 harg7 x2 x3 x4 c 768 _ n r R h
  exact ⟨act_piece t x1 x2 x3 x4 c Wd _ _ 3 768 (by decide) _ _ h3 g3 _ _ (off28_eq t),
    act_piece t x1 x2 x3 x4 c Wd _ _ 2 512 (by decide) _ _ h2 g2 _ _ (off27_eq t),
    act_piece t x1 x2 x3 x4 c Wd _ _ 1 256 (by decide) _ _ h1 g1 _ _ (off26_eq t),
    act_piece t x1 x2 x3 x4 c Wd _ _ 0 0 (by decide) _ _ h0 g0 _ _ (off25_eq t)⟩
end Values

end Cert.Experts

end
-- ==== Proof.ExpertsTiles.lean ====
/- A sum over the experts, tile by tile. -/
module

public import Mathlib.Data.EReal.Operations
public import Mathlib.Algebra.BigOperators.Fin
import Idealize.ShloMosaic.Lib.Pointwise.Sums

@[expose] public section

namespace Cert.Experts

/-- A sum over the experts is the sum over the tiles of the sums over a tile's experts. -/
theorem sum_tiles (f : Fin 16384 → EReal) : ∑ k : Fin 16384, f k = ∑ i : Fin 16, ∑ n : Fin 1024, f ⟨i.val * 1024 + n.val, by omega⟩ :=
  Idealize.ShloMosaic.Fin.sum_univ_tiles 16 1024 (by norm_num) f

end Cert.Experts
-- ==== Proof.ExpertsSum.lean ====
/- The expert call's result over the extended reals: the activations of all the experts against the up table. -/
module

public import proofs.«01_k».proof.Proof.ExpertsAct
public import proofs.«01_k».proof.Proof.ExpertsTiles

@[expose] public section

set_option maxRecDepth 16384

noncomputable section

namespace Cert.Experts

open Cert.PeerIdeal Cert.PeerIdeal.Gen
open Idealize.ShloMosaic Idealize.ShloMosaic.TcCoe Idealize.SL.Sem Idealize.ShloMosaic.ValueIdx
open scoped BigOperators

/-- A token's gate at an expert: over the heads, the second factor where it reaches the threshold, times the first factor. -/
def gateAt (E2 TH E1 : S8x128x16384.Idx → EReal) (N T : Fin 16384) : EReal :=
  ∑ h : Fin 8, pick (E2 (ix3 h (⟨N.val % 128, by omega⟩ : Fin 128) T)) (TH (ix3 h (⟨N.val / 128, by omega⟩ : Fin 128) T)) (E1 (ix3 h (⟨N.val / 128, by omega⟩ : Fin 128) T))

/-- A token's hidden unit at an expert. -/
def hidAt (D : S16384x4096.Idx → EReal) (X : S4096x16384.Idx → EReal) (N T : Fin 16384) : EReal := ∑ k : Fin 4096, D (ix2 N k) * X (ix2 k T)

/-- A token's activation at an expert. -/
def actAt (S : S3.Idx → EReal) (X : S4096x16384.Idx → EReal) (D : S16384x4096.Idx → EReal) (E2 TH E1 : S8x128x16384.Idx → EReal) (N T : Fin 16384) : EReal :=
  unit1 (F := Ideal) (S (ix1 0)) (S (ix1 1)) (hidAt D X N T) (gateAt E2 TH E1 N T)

/-- The expert layer: every token's activations against the up table, scaled. -/
def experts (S : S3.Idx → EReal) (X : S4096x16384.Idx → EReal) (D U : S16384x4096.Idx → EReal) (E2 TH E1 : S8x128x16384.Idx → EReal) (y : S16384x4096.Idx) : EReal :=
  (∑ N : Fin 16384, actAt S X D E2 TH E1 N ⟨(y 0).val, (y 0).isLt⟩ * U (ix2 N (⟨(y 1).val, (y 1).isLt⟩ : Fin 4096))) * S (ix1 2)

variable (m : (ℓ : Loc nD τ sig) → Buf (Elt Ideal) ℓ)

/-- The scales of the launch. -/
abbrev aS (c : Dev nD) : S3.Idx → EReal := m ((c : Thread nD τ).loc main_arg0)
/-- The tokens of the launch, a token a column. -/
abbrev aX (c : Dev nD) : S4096x16384.Idx → EReal := m ((c : Thread nD τ).loc main_arg1)
/-- The down table of the launch. -/
abbrev aD (c : Dev nD) : S16384x4096.Idx → EReal := m ((c : Thread nD τ).loc main_arg2)
/-- The up table of the launch. -/
abbrev aU (c : Dev nD) : S16384x4096.Idx → EReal := m ((c : Thread nD τ).loc main_arg3)
/-- The second factors of the launch. -/
abbrev aE2 (c : Dev nD) : S8x128x16384.Idx → EReal := m ((c : Thread nD τ).loc main_arg4)
/-- The thresholds of the launch. -/
abbrev aTH (c : Dev nD) : S8x128x16384.Idx → EReal := m ((c : Thread nD τ).loc main_arg5)
/-- The first factors of the launch. -/
abbrev aE1 (c : Dev nD) : S8x128x16384.Idx → EReal := m ((c : Thread nD τ).loc main_arg6)

/-- Where the blocks lie: the tokens of a step are the block of its number over sixteen. -/
theorem blocks_at : ∀ t : Fin cfg0.N, (t.val < 512 → win0_1.index t 1 = t.val / 16 ∧ win0_2.index t 2 = t.val / 16 ∧ win0_3.index t 2 = t.val / 16 ∧ win0_4.index t 2 = t.val / 16)
    ∧ (win0_0.index t 0 = 0 ∧ win0_1.index t 0 = 0) ∧ (win0_2.index t 0 = 0 ∧ win0_2.index t 1 = 0) ∧ (win0_3.index t 0 = 0 ∧ win0_3.index t 1 = 0) ∧ (win0_4.index t 0 = 0 ∧ win0_4.index t 1 = 0) :=
  (by decide +kernel : ∀ t : Fin grid0.N, (t.val < 512 → win0_1.index t 1 = t.val / 16 ∧ win0_2.index t 2 = t.val / 16 ∧ win0_3.index t 2 = t.val / 16 ∧ win0_4.index t 2 = t.val / 16)
    ∧ (win0_0.index t 0 = 0 ∧ win0_1.index t 0 = 0) ∧ (win0_2.index t 0 = 0 ∧ win0_2.index t 1 = 0) ∧ (win0_3.index t 0 = 0 ∧ win0_3.index t 1 = 0) ∧ (win0_4.index t 0 = 0 ∧ win0_4.index t 1 = 0))

/-- The steps that write back: every sixteenth after the first, the block of the sixteen before. -/
theorem writes_at : ∀ t : Fin cfg0.N, (cfg0.win 5).flush t = true → (t.val % 16 = 0 ∧ 0 < t.val) ∧ win0_5.index t 0 = t.val / 16 - 1 ∧ win0_5.index t 1 = 0 :=
  (by decide +kernel : ∀ t : Fin grid0.N, (cfg0.win 5).flush t = true → (t.val % 16 = 0 ∧ 0 < t.val) ∧ win0_5.index t 0 = t.val / 16 - 1 ∧ win0_5.index t 1 = 0)

/-- Every block is written back. -/
theorem block_hit : ∀ a : Fin 32, ∃ t : Fin cfg0.N, (cfg0.win 5).flush t = true ∧ win0_5.index t 0 = a.val ∧ win0_5.index t 1 = 0 :=
  (by decide +kernel : ∀ a : Fin 32, ∃ t : Fin grid0.N, (cfg0.win 5).flush t = true ∧ win0_5.index t 0 = a.val ∧ win0_5.index t 1 = 0)

/-- The scales a point reads. -/
theorem scales_apply (c : Dev nD) (t : Fin cfg0.N) (i : Fin 3) : iblk m c 0 t (ix1 i) = aS m c (ix1 i) := by
  unfold iblk
  rw [View.read_apply]
  show V m c main_arg0 _ = _
  rw [V_main_arg0]
  obtain ⟨-, ⟨h0, -⟩, -⟩ := blocks_at t
  refine congrArg (m ((c : Thread nD τ).loc main_arg0)) (funext fun a => Fin.ext ?_)
  match a with
  | ⟨0, _⟩ => show win0_0.index t 0 * 3 + 1 * i.val = i.val; omega

/-- The tokens a point reads, at an index. -/
theorem tokens_apply (c : Dev nD) (t : Fin cfg0.N) (ht : t.val < 512) (k : Fin 4096) (r : Fin 512) (T : Fin 16384) (hT : T.val = 512 * (t.val / 16) + r.val) : iblk m c 1 t (ix2 k r) = aX m c (ix2 k T) := by
  unfold iblk
  rw [View.read_apply]
  show V m c main_arg1 _ = _
  rw [V_main_arg1]
  obtain ⟨h1, ⟨-, h0⟩, -⟩ := blocks_at t
  obtain ⟨h1, -⟩ := h1 ht
  refine congrArg (m ((c : Thread nD τ).loc main_arg1)) (funext fun a => Fin.ext ?_)
  match a with
  | ⟨0, _⟩ => show win0_1.index t 0 * 4096 + 1 * k.val = k.val; omega
  | ⟨1, _⟩ => show win0_1.index t 1 * 512 + 1 * r.val = T.val; omega

/-- The second scores a point reads, at an index. -/
theorem seconds_apply (c : Dev nD) (t : Fin cfg0.N) (ht : t.val < 512) (h : Fin 8) (k : Fin 128) (r : Fin 512) (T : Fin 16384) (hT : T.val = 512 * (t.val / 16) + r.val) : iblk m c 2 t (ix3 h k r) = aE2 m c (ix3 h k T) := by
  unfold iblk
  rw [View.read_apply]
  show V m c main_arg4 _ = _
  rw [V_main_arg4]
  obtain ⟨h1, -, ⟨h0, h2⟩, -⟩ := blocks_at t
  obtain ⟨-, h1, -⟩ := h1 ht
  refine congrArg (m ((c : Thread nD τ).loc main_arg4)) (funext fun a => Fin.ext ?_)
  match a with
  | ⟨0, _⟩ => show win0_2.index t 0 * 8 + 1 * h.val = h.val; omega
  | ⟨1, _⟩ => show win0_2.index t 1 * 128 + 1 * k.val = k.val; omega
  | ⟨2, _⟩ => show win0_2.index t 2 * 512 + 1 * r.val = T.val; omega

/-- The thresholds a point reads, at an index. -/
theorem thresholds_apply (c : Dev nD) (t : Fin cfg0.N) (ht : t.val < 512) (h : Fin 8) (k : Fin 128) (r : Fin 512) (T : Fin 16384) (hT : T.val = 512 * (t.val / 16) + r.val) : iblk m c 3 t (ix3 h k r) = aTH m c (ix3 h k T) := by
  unfold iblk
  rw [View.read_apply]
  show V m c main_arg5 _ = _
  rw [V_main_arg5]
  obtain ⟨h1, -, -, ⟨h0, h2⟩, -⟩ := blocks_at t
  obtain ⟨-, -, h1, -⟩ := h1 ht
  refine congrArg (m ((c : Thread nD τ).loc main_arg5)) (funext fun a => Fin.ext ?_)
  match a with
  | ⟨0, _⟩ => show win0_3.index t 0 * 8 + 1 * h.val = h.val; omega
  | ⟨1, _⟩ => show win0_3.index t 1 * 128 + 1 * k.val = k.val; omega
  | ⟨2, _⟩ => show win0_3.index t 2 * 512 + 1 * r.val = T.val; omega

/-- The first scores a point reads, at an index. -/
theorem firsts_apply (c : Dev nD) (t : Fin cfg0.N) (ht : t.val < 512) (h : Fin 8) (k : Fin 128) (r : Fin 512) (T : Fin 16384) (hT : T.val = 512 * (t.val / 16) + r.val) : iblk m c 4 t (ix3 h k r) = aE1 m c (ix3 h k T) := by
  unfold iblk
  rw [View.read_apply]
  show V m c main_arg6 _ = _
  rw [V_main_arg6]
  obtain ⟨h1, -, -, -, ⟨h0, h2⟩⟩ := blocks_at t
  obtain ⟨-, -, -, h1⟩ := h1 ht
  refine congrArg (m ((c : Thread nD τ).loc main_arg6)) (funext fun a => Fin.ext ?_)
  match a with
  | ⟨0, _⟩ => show win0_4.index t 0 * 8 + 1 * h.val = h.val; omega
  | ⟨1, _⟩ => show win0_4.index t 1 * 128 + 1 * k.val = k.val; omega
  | ⟨2, _⟩ => show win0_4.index t 2 * 512 + 1 * r.val = T.val; omega

/-- The kernel's hidden value of an expert and a token is the layer's. -/
theorem hidVal_eq (c : Dev nD) (t : Fin cfg0.N) (ht : t.val < 512) (N : Fin 16384) (r : Fin 512) (T : Fin 16384) (hT : T.val = 512 * (t.val / 16) + r.val) :
    hidVal (aD m c) (iblk m c 1 t) N r = hidAt (aD m c) (aX m c) N T :=
  Finset.sum_congr rfl fun k _ => congrArg (fun y : EReal => aD m c (ix2 N k) * y) (tokens_apply m c t ht k r T hT)

/-- The kernel's gate of an expert and a token is the layer's. -/
theorem gateVal_eq (c : Dev nD) (t : Fin cfg0.N) (ht : t.val < 512) (k a : Fin 128) (r : Fin 512) (T N : Fin 16384) (hT : T.val = 512 * (t.val / 16) + r.val) (hN : N.val = 128 * k.val + a.val) :
    gateVal (iblk m c 2 t) (iblk m c 3 t) (iblk m c 4 t) k a r = gateAt (aE2 m c) (aTH m c) (aE1 m c) N T := by
  have ha := a.isLt
  have e1 : (⟨N.val % 128, by omega⟩ : Fin 128) = a := Fin.ext (by show N.val % 128 = a.val; omega)
  have e2 : (⟨N.val / 128, by omega⟩ : Fin 128) = k := Fin.ext (by show N.val / 128 = k.val; omega)
  unfold gateVal gateAt
  rw [e1, e2]
  refine Finset.sum_congr rfl fun h _ => ?_
  rw [seconds_apply m c t ht h a r T hT, thresholds_apply m c t ht h k r T hT, firsts_apply m c t ht h k r T hT]

/-- The first scale. -/
theorem scale0 (c : Dev nD) (t : Fin cfg0.N) : mid.sl.r (F := Ideal) c (st0_0 t) (hstage0_0 ((cfg0.slots t 0).cast nbuf0_0)) (iblk m c 0 t) = aS m c (ix1 0) := by
  refine ((hstage0_0 ((cfg0.slots t 0).cast nbuf0_0)).readAt_unread (iblk m c 0 t) (Rect.unit (s := S3) ![0] S1.size inb_S3_S1_0).toLoadRect _).trans ?_
  refine (congrArg (iblk m c 0 t) (?_ : _ = ix1 0)).trans (scales_apply m c t 0)
  funext a; refine Fin.ext ?_
  match a with
  | ⟨0, _⟩ => rfl

/-- The second scale. -/
theorem scale1 (c : Dev nD) (t : Fin cfg0.N) : mid.sl.r_1 (F := Ideal) c (st0_0 t) (hstage0_0 ((cfg0.slots t 0).cast nbuf0_0)) (iblk m c 0 t) = aS m c (ix1 1) := by
  refine ((hstage0_0 ((cfg0.slots t 0).cast nbuf0_0)).readAt_unread (iblk m c 0 t) (Rect.unit (s := S3) ![1] S1.size inb_S3_S1_1).toLoadRect _).trans ?_
  refine (congrArg (iblk m c 0 t) (?_ : _ = ix1 1)).trans (scales_apply m c t 1)
  funext a; refine Fin.ext ?_
  match a with
  | ⟨0, _⟩ => rfl

/-- The last scale. -/
theorem scale2 (c : Dev nD) (t : Fin cfg0.N) : outScale (F := Ideal) (st0_0 t) (hstage0_0 ((cfg0.slots t 0).cast nbuf0_0)) (iblk m c 0 t) = aS m c (ix1 2) := by
  refine ((hstage0_0 ((cfg0.slots t 0).cast nbuf0_0)).readAt_unread (iblk m c 0 t) (Rect.unit (s := S3) ![2] S1.size inb_S3_S1_2).toLoadRect _).trans ?_
  refine (congrArg (iblk m c 0 t) (?_ : _ = ix1 2)).trans (scales_apply m c t 2)
  funext a; refine Fin.ext ?_
  match a with
  | ⟨0, _⟩ => rfl

/-- A step's activations at an index: those of its token block and its tile of experts. -/
theorem act_apply (c : Dev nD) (t : Fin cfg0.N) (ht : t.val < 512) (r : Fin 512) (n : Fin 1024) (N T : Fin 16384) (hN : N.val = 1024 * (t.val % 16) + n.val) (hT : T.val = 512 * (t.val / 16) + r.val) :
    actV (F := Ideal) m c t (ix3 (0 : Fin 1) r n) = actAt (aS m c) (aX m c) (aD m c) (aE2 m c) (aTH m c) (aE1 m c) N T := by
  unfold actV
  refine (acts_load t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
    (iblk m c 0 t) (iblk m c 1 t) (iblk m c 2 t) (iblk m c 3 t) (iblk m c 4 t) c (V m c main_arg2) (acts_cover m c t) (ix3 (0 : Fin 1) r n)).trans ?_
  have v1 : ((slotR t.val).toLoadRect.idx (ix3 (0 : Fin 1) r n) 1).val = 0 + 1 * r.val := rfl
  have v2 : ((slotR t.val).toLoadRect.idx (ix3 (0 : Fin 1) r n) 2).val = 0 + 1 * n.val := rfl
  have e1 : (⟨_, ((slotR t.val).toLoadRect.idx (ix3 (0 : Fin 1) r n) 1).isLt⟩ : Fin 512) = r := Fin.ext (v1.trans (by omega))
  have e2 : (⟨_, ((slotR t.val).toLoadRect.idx (ix3 (0 : Fin 1) r n) 2).isLt⟩ : Fin 1024) = n := Fin.ext (v2.trans (by omega))
  have hn := n.isLt
  unfold actG actAt
  rw [scale0, scale1]
  refine congrArg₂ (unit1 (F := Ideal) (aS m c (ix1 0)) (aS m c (ix1 1))) ?_ ?_
  · refine Eq.trans (congrArg₂ (hidVal (aD m c) (iblk m c 1 t)) (Fin.ext ?_ : _ = N) e1) (hidVal_eq m c t ht N r T hT)
    show 1024 * (t.val % 16) + _ = N.val
    rw [v2]; omega
  · refine Eq.trans (congrArg (gateG t (iblk m c 2 t) (iblk m c 3 t) (iblk m c 4 t)) (congrArg₂ ix2 e2 e1)) ?_
    unfold gateG
    refine gateVal_eq m c t ht _ _ _ T N hT ?_
    show N.val = 128 * (8 * (t.val % 16) + n.val / 128) + n.val % 128
    omega

/-- The up tile of a step at an index. -/
theorem up_apply (c : Dev nD) (t : Fin cfg0.N) (n : Fin 1024) (d : Fin 4096) (N : Fin 16384) (hN : N.val = 1024 * ((t.val + 15) % 16) + n.val) :
    upV (F := Ideal) m c t (ix3 (0 : Fin 1) n d) = aU m c (ix2 N d) := by
  have key : ∀ (o : Fin 3 → ℕ) (ho : ∀ a, o a + S1x1024x4096.size a ≤ S3x1024x4096.size a), o = ![(Ring.sl 3 t.val).val, 0, 0] →
      View.readAt (Elt Ideal) upB.view (Rect.unit (s := S3x1024x4096) o S1x1024x4096.size ho).toLoadRect (tileIn upB upT 15 (Ring.sl 3 t.val) (Ring.bk 513 t.val) (V m c main_arg3)) (ix3 (0 : Fin 1) n d) = aU m c (ix2 N d) := by
    intro o ho eo
    subst eo
    have e : (Rect.unit (s := S3x1024x4096) ![(Ring.sl 3 t.val).val, 0, 0] S1x1024x4096.size ho).toLoadRect.idx (ix3 (0 : Fin 1) n d) = ix3 (Ring.sl 3 t.val) n d := by
      funext i; refine Fin.ext ?_
      match i with
      | ⟨0, _⟩ => show (Ring.sl 3 t.val).val + 1 * 0 = (Ring.sl 3 t.val).val; omega
      | ⟨1, _⟩ => show 0 + 1 * n.val = n.val; omega
      | ⟨2, _⟩ => show 0 + 1 * d.val = d.val; omega
    have hb : (Ring.bk 513 t.val).val = t.val := Nat.mod_eq_of_lt t.isLt
    rw [View.readAt_apply, e]
    exact tile_read upB upT 15 (Ring.sl 3 t.val) (Ring.bk 513 t.val) (V m c main_arg3) n d N (by rw [hb]; exact hN)
  exact key _ _ (off24_eq t)

/-- A step's sum at an index. -/
theorem pay82_apply (acc : Vec Ideal S512x4096 .f32) (a : Vec Ideal S1x512x1024 .fp8e4m3) (u : Vec Ideal S1x1024x4096 .fp8e4m3) (r : Fin 512) (d : Fin 4096) :
    (k0_pay82 (F := Ideal) acc a u (ix2 r d) : EReal) = acc (ix2 r d) + ∑ n : Fin 1024, (a (ix3 (0 : Fin 1) r n) : EReal) * u (ix3 (0 : Fin 1) n d) := by
  have hm : (matmul dot_S512x1024_S1024x4096_S512x4096_1_0_0_1_n_n none (shapeCast S512x1024 a shapeCasts_S1x512x1024_S512x1024 : FVec Ideal S512x1024 .fp8e4m3) (shapeCast S1024x4096 u shapeCasts_S1x1024x4096_S1024x4096 : FVec Ideal S1024x4096 .fp8e4m3) (constant (F := Ideal) S512x4096 .f32 0x00000000#32) (ix2 r d) : EReal)
      = ∑ n : Fin 1024, (a (ix3 (0 : Fin 1) r n) : EReal) * u (ix3 (0 : Fin 1) n d) := by
    refine (Ideal.matmul_plain_apply (M := 512) (K := 1024) (N := 4096) none _ _ _ r d).trans ?_
    have hz : (constant (F := Ideal) S512x4096 .f32 0x00000000#32 (ix2 r d) : EReal) = 0 := Ideal.ofBits_zero_f32
    rw [hz, zero_add]
    exact Finset.sum_congr rfl fun n _ => congrArg₂ (fun x y : EReal => x * y) (shapeCast_1ab_ab_apply a shapeCasts_S1x512x1024_S512x1024 r n) (shapeCast_1ab_ab_apply u shapeCasts_S1x1024x4096_S1024x4096 n d)
  rw [← hm]
  unfold k0_pay82
  rw [shapeCast_self]
  rfl

/-- What one tile of experts adds to a token's result. -/
def part (c : Dev nD) (T : Fin 16384) (d : Fin 4096) (i : ℕ) : EReal :=
  if h : i < 16 then ∑ n : Fin 1024, actAt (aS m c) (aX m c) (aD m c) (aE2 m c) (aTH m c) (aE1 m c) ⟨i * 1024 + n.val, by omega⟩ T * aU m c (ix2 (⟨i * 1024 + n.val, by omega⟩ : Fin 16384) d) else 0

/-- The running sum from one point to the next. -/
theorem accV_succ (c : Dev nD) (n : ℕ) (h : n + 1 < cfg0.N) :
    accV (F := Ideal) m c (n + 1) h = k0_pay82 (if (n + 1) % 16 = 1 then k0_pay4 else accV m c n (Nat.lt_of_succ_lt h)) (actV m c ⟨n, Nat.lt_of_succ_lt h⟩) (upV m c ⟨n + 1, h⟩) := rfl

/-- A step's own addition: the tile of the step before. -/
theorem step_apply (c : Dev nD) (b j : ℕ) (hj : j < 16) (h : 16 * b + j + 1 < cfg0.N) (acc : Vec Ideal S512x4096 .f32) (r : Fin 512) (d : Fin 4096) (T : Fin 16384) (hT : T.val = 512 * b + r.val) :
    (k0_pay82 (F := Ideal) acc (actV m c ⟨16 * b + j, Nat.lt_of_succ_lt h⟩) (upV m c ⟨16 * b + j + 1, h⟩) (ix2 r d) : EReal) = acc (ix2 r d) + part m c T d j := by
  have hN : 16 * b + j + 1 < 513 := h
  rw [pay82_apply, part, dif_pos hj]
  refine congrArg (fun y : EReal => acc (ix2 r d) + y) (Finset.sum_congr rfl fun n _ => ?_)
  have hn := n.isLt
  rw [act_apply m c ⟨16 * b + j, Nat.lt_of_succ_lt h⟩ (by show 16 * b + j < 512; omega) r n ⟨j * 1024 + n.val, by omega⟩ T
      (by show j * 1024 + n.val = 1024 * ((16 * b + j) % 16) + n.val; omega) (by show T.val = 512 * ((16 * b + j) / 16) + r.val; omega),
    up_apply m c ⟨16 * b + j + 1, h⟩ n d ⟨j * 1024 + n.val, by omega⟩ (by show j * 1024 + n.val = 1024 * ((16 * b + j + 1 + 15) % 16) + n.val; omega)]

/-- The sum starts at zero. -/
theorem pay4_apply (i : S512x4096.Idx) : (k0_pay4 (F := Ideal) i : EReal) = 0 := by
  unfold k0_pay4
  rw [shapeCast_self]
  exact Ideal.ofBits_zero_f32

/-- The running sum of a token block after some of the tiles. -/
theorem acc_apply (c : Dev nD) (b : ℕ) (r : Fin 512) (d : Fin 4096) (T : Fin 16384) (hT : T.val = 512 * b + r.val) (j : ℕ) (hj : j < 16) (h : 16 * b + j + 1 < cfg0.N) :
    (accV (F := Ideal) m c (16 * b + j + 1) h (ix2 r d) : EReal) = ∑ i ∈ Finset.range (j + 1), part m c T d i := by
  induction j with
  | zero =>
    rw [accV_succ, if_pos (by omega : (16 * b + 0 + 1) % 16 = 1)]
    refine (step_apply m c b 0 hj h _ r d T hT).trans ?_
    rw [pay4_apply, zero_add, Finset.sum_range_one]
  | succ j ih =>
    rw [accV_succ, if_neg (by omega : ¬(16 * b + (j + 1) + 1) % 16 = 1), step_apply m c b (j + 1) hj h _ r d T hT, Finset.sum_range_succ]
    exact congrArg (fun y : EReal => y + part m c T d (j + 1)) (ih (by omega) (Nat.lt_of_succ_lt h))

/-- All the tiles' parts are the sum over all the experts. -/
theorem parts_eq (c : Dev nD) (T : Fin 16384) (d : Fin 4096) :
    ∑ i ∈ Finset.range 16, part m c T d i = ∑ N : Fin 16384, actAt (aS m c) (aX m c) (aD m c) (aE2 m c) (aTH m c) (aE1 m c) N T * aU m c (ix2 N d) := by
  rw [sum_tiles, Finset.sum_range]
  refine Finset.sum_congr rfl fun i _ => ?_
  rw [part, dif_pos i.isLt]

/-- What a step writes back at an index of its block is the layer at that index's place in the array. -/
theorem out_apply (c : Dev nD) (t : Fin cfg0.N) (h0 : t.val % 16 = 0) (h1 : 0 < t.val) (r : Fin 512) (d : Fin 4096) (e : S16384x4096.Idx)
    (he0 : (e 0).val = (t.val / 16 - 1) * 512 + r.val) (he1 : (e 1).val = d.val) :
    outV (F := Ideal) m c t (ix2 r d) = experts (aS m c) (aX m c) (aD m c) (aU m c) (aE2 m c) (aTH m c) (aE1 m c) e := by
  have ht : t.val < 513 := t.isLt
  obtain ⟨b, hb⟩ : ∃ b, t.val = 16 * b + 15 + 1 := ⟨t.val / 16 - 1, by omega⟩
  have hlt : 16 * b + 15 + 1 < cfg0.N := by show 16 * b + 15 + 1 < 513; omega
  obtain rfl : t = ⟨16 * b + 15 + 1, hlt⟩ := Fin.ext hb
  have eT : (e 0).val = 512 * b + r.val := by rw [he0]; show ((16 * b + 15 + 1) / 16 - 1) * 512 + r.val = _; omega
  have ed : (⟨(e 1).val, (e 1).isLt⟩ : Fin 4096) = d := Fin.ext he1
  show (accV (F := Ideal) m c (16 * b + 15 + 1) hlt (ix2 r d) : EReal) * outScale (F := Ideal) (st0_0 _) (hstage0_0 ((cfg0.slots _ 0).cast nbuf0_0)) (iblk m c 0 _) = _
  rw [scale2, acc_apply m c b r d ⟨(e 0).val, (e 0).isLt⟩ eT 15 (by decide) hlt, parts_eq]
  unfold experts
  rw [ed]

/-- The result array after the run is the expert layer. -/
theorem final (c : Dev nD) : (dats (F := Ideal) m 0 c).arrAt 5 cfg0.N = experts (aS m c) (aX m c) (aD m c) (aU m c) (aE2 m c) (aTH m c) (aE1 m c) := by
  refine (dats (F := Ideal) m 0 c).arrAt_eq_of_cover 5 _ (fun t hf => ?_) fun i => ?_
  · obtain ⟨⟨w0, w1⟩, wa, wb⟩ := writes_at t hf
    show (cfg0.win 5).cut (grid0.coords t) ((dats (F := Ideal) m 0 c).after 5 t) = _
    rw [after_out]
    funext y
    show outV m c t y = _
    obtain ⟨r, d, rfl⟩ : ∃ (r : Fin 512) (d : Fin 4096), y = ix2 r d := ⟨y 0, y 1, eq_ix2 y⟩
    rw [View.read_apply, cast_eq]
    refine out_apply m c t w0 w1 r d (((cfg0.win 5).blk t).view.emb (ix2 r d)) ?_ ?_
    · show win0_5.index t 0 * 512 + 1 * r.val = _; rw [wa]; omega
    · show win0_5.index t 1 * 4096 + 1 * d.val = _; rw [wb]; omega
  · have h0 : (i 0 : Nat) < 16384 := (i 0).isLt
    have h1 : (i 1 : Nat) < 4096 := (i 1).isLt
    obtain ⟨t, hf, ha, hb⟩ := block_hit ⟨(i 0 : Nat) / 512, by omega⟩
    refine ⟨t, hf, ?_⟩
    show i ∈ ((View.whole main_v0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [ha]; dsimp only; omega
    | ⟨1, _⟩ => show win0_5.index t 1 * 4096 ≤ (i 1 : Nat) ∧ (i 1 : Nat) < win0_5.index t 1 * 4096 + 4096; rw [hb]; dsimp only; omega

end Cert.Experts

end
-- ==== Proof.ExpertsHeads.lean ====
/- A host's sum over the heads, at an index. -/
module

public import Idealize.ShloMosaic.Lib.IdealHost
public import Mathlib.Algebra.BigOperators.Fin
import Idealize.ShloMosaic.Lib.Pointwise.Reduce

@[expose] public section

namespace Cert.Experts

open Idealize.ShloMosaic

/-- The host's sum along the first of four axes, its terms read at the indices that put the head before the result's own index. -/
theorem sum_heads {a b n q : ℕ} (h : (⟨4, ![a, b, n, q]⟩ : Shape).ReducesTo [0] ⟨3, ![b, n, q]⟩) (v : (⟨4, ![a, b, n, q]⟩ : Shape).Idx → EReal) (init : EReal)
    (j : (⟨3, ![b, n, q]⟩ : Shape).Idx) (f : Fin a → (⟨4, ![a, b, n, q]⟩ : Shape).Idx)
    (h0 : ∀ k, (f k 0).val = k.val) (h1 : ∀ k, (f k 1).val = (j 0).val) (h2 : ∀ k, (f k 2).val = (j 1).val) (h3 : ∀ k, (f k 3).val = (j 2).val) :
    Ideal.hostReduceAdd h v init j = init + ∑ k : Fin a, v (f k) := by
  rw [Ideal.hostReduceAdd_r4_a0]
  refine congrArg (init + ·) (Finset.sum_congr rfl fun k _ => congrArg v (funext fun i => Fin.ext ?_))
  match i with
  | ⟨0, _⟩ => exact (h0 k).symm
  | ⟨1, _⟩ => exact (h1 k).symm
  | ⟨2, _⟩ => exact (h2 k).symm
  | ⟨3, _⟩ => exact (h3 k).symm

end Cert.Experts
-- ==== Proof.ExpertsRef.lean ====
/- The expert layer's reference over the extended reals: its result is the same layer. -/
module

public import proofs.«01_k».proof.Proof.Gen.RefPeerIdeal.Value
public import proofs.«01_k».proof.Proof.ExpertsSum
public import proofs.«01_k».proof.Proof.ExpertsHeads

@[expose] public section

set_option maxRecDepth 16384

noncomputable section

namespace Cert.ExpertsPlain

open Cert.RefPeerIdeal Cert.RefPeerIdeal.Gen
open Cert.Experts (pick unit1 unitV unitV_apply gateAt hidAt actAt experts sum_heads)
open Idealize.ShloMosaic Idealize.ShloMosaic.TcCoe Idealize.SL.Sem Idealize.ShloMosaic.ValueIdx
open scoped BigOperators

section Text
variable {F : FTy → Type} [FloatOps F]

/-- The gates as the host writes them: an expert a row, a token a column. -/
def gates (e2 th e1 : FVec F S8x128x16384 .f32) : FVec F S16384x16384 .f32 :=
  shapeCast S16384x16384 (Host.reduceAdd (mulf (select
      (cmpf .oge (broadcastInDim S8x128x128x16384 ![0, 1, 2, 3] bcast_S8x1x128x16384_S8x128x128x16384_0_1_2_3 (broadcastInDim S8x1x128x16384 ![0, 2, 3] bcast_S8x128x16384_S8x1x128x16384_0_2_3 e2))
        (broadcastInDim S8x128x128x16384 ![0, 1, 2, 3] bcast_S8x128x1x16384_S8x128x128x16384_0_1_2_3 (broadcastInDim S8x128x1x16384 ![0, 1, 3] bcast_S8x128x16384_S8x128x1x16384_0_1_3 th)))
      (broadcastInDim S8x128x128x16384 ![0, 1, 2, 3] bcast_S8x1x128x16384_S8x128x128x16384_0_1_2_3 (broadcastInDim S8x1x128x16384 ![0, 2, 3] bcast_S8x128x16384_S8x1x128x16384_0_2_3 e2))
      (broadcastInDim S8x128x128x16384 ![] bcast_S_S8x128x128x16384 (constant S_ .f32 0x00000000#32)))
    (broadcastInDim S8x128x128x16384 ![0, 1, 2, 3] bcast_S8x128x1x16384_S8x128x128x16384_0_1_2_3 (broadcastInDim S8x128x1x16384 ![0, 1, 3] bcast_S8x128x16384_S8x128x1x16384_0_1_3 e1)))
    (constant S_ .f32 0x00000000#32) reducesTo_S8x128x128x16384_S128x128x16384_d0 h_S_) shapeCasts_S128x128x16384_S16384x16384

/-- The gates in the array that the body reads. -/
theorem V_gates (m : (ℓ : Loc nD τ sig) → Buf (Elt F) ℓ) (c : Dev nD) :
    V m c main_v11 = gates (m ((c : Thread nD τ).loc main_arg4)) (m ((c : Thread nD τ).loc main_arg5)) (m ((c : Thread nD τ).loc main_arg6)) := rfl

/-- One of the three scales as the body loads it. -/
def scaleAt (arg0 : Memref sig .tc .smem S3 .f32) (harg0 : arg0.IsWhole) (x0 : Vec F S3 .f32) (k : ℕ) (hk : ∀ a, (![k] : Fin 1 → ℕ) a + S1.size a ≤ S3.size a) : Elt F .f32 :=
  View.readAt (Elt F) arg0.view (Rect.unit (s := S3) ![k] S1.size hk).toLoadRect (harg0.unread x0) (Shape.Idx.first (smemLoad._proof_2 (Rect.unit (s := S3) ![k] S1.size hk) numel1_S1))

/-- What the body stores. -/
theorem pieces_eq (c : Dev nD) (arg0 : Memref sig .tc .smem S3 .f32) (harg0 : arg0.IsWhole) (arg1 : Memref sig .tc .vmem S4096x16384 .fp8e4m3) (harg1 : arg1.IsWhole) (arg2 : Memref sig .tc .vmem S16384x4096 .fp8e4m3) (harg2 : arg2.IsWhole) (arg3 : Memref sig .tc .vmem S16384x4096 .fp8e4m3) (harg3 : arg3.IsWhole) (arg4 : Memref sig .tc .vmem S16384x16384 .f32) (harg4 : arg4.IsWhole) (arg5 : Memref sig .tc .vmem S16384x4096 .bf16) (harg5 : arg5.IsWhole)
    (x0 : Vec F S3 .f32) (x1 : Vec F S4096x16384 .fp8e4m3) (x2 : Vec F S16384x4096 .fp8e4m3) (x3 : Vec F S16384x4096 .fp8e4m3) (x4 : Vec F S16384x16384 .f32) :
    (kernelRun0_A c arg0 harg0 arg1 harg1 arg2 harg2 arg3 harg3 arg4 harg4 arg5 harg5 x0 x1 x2 x3 x4).1
      = [⟨Rect.unit (s := S16384x4096) ![0, 0] S16384x4096.size inb_S16384x4096_S16384x4096_0_0,
          k0_pay1 (View.readAt (Elt F) arg2.view (Rect.unit (s := S16384x4096) ![0, 0] S16384x4096.size inb_S16384x4096_S16384x4096_0_0).toLoadRect (harg2.unread x2))
            (View.readAt (Elt F) arg1.view (Rect.unit (s := S4096x16384) ![0, 0] S4096x16384.size inb_S4096x16384_S4096x16384_0_0).toLoadRect (harg1.unread x1))
            (View.readAt (Elt F) arg4.view (Rect.unit (s := S16384x16384) ![0, 0] S16384x16384.size inb_S16384x16384_S16384x16384_0_0).toLoadRect (harg4.unread x4))
            (scaleAt arg0 harg0 x0 0 inb_S3_S1_0) (scaleAt arg0 harg0 x0 1 inb_S3_S1_1)
            (View.readAt (Elt F) arg3.view (Rect.unit (s := S16384x4096) ![0, 0] S16384x4096.size inb_S16384x4096_S16384x4096_0_0).toLoadRect (harg3.unread x3))
            (scaleAt arg0 harg0 x0 2 inb_S3_S1_2)⟩] := rfl
end Text

/-- A gate at an expert and a token. -/
theorem gates_apply (e2 th e1 : FVec Ideal S8x128x16384 .f32) (N T : Fin 16384) : (gates (F := Ideal) e2 th e1 (ix2 N T) : EReal) = gateAt e2 th e1 N T := by
  have hN := N.isLt
  unfold gates
  refine (shapeCast_apply _ shapeCasts_S128x128x16384_S16384x16384 (ix2 N T) (ix3 (⟨N.val / 128, by omega⟩ : Fin 128) (⟨N.val % 128, by omega⟩ : Fin 128) T) ?_).trans ?_
  · rw [Shape.rowMajor_val_three, Shape.rowMajor_val_two]
    show (N.val / 128 * 128 + N.val % 128) * 16384 + T.val = N.val * 16384 + T.val
    omega
  refine (sum_heads (a := 8) (b := 128) (n := 128) (q := 16384) reducesTo_S8x128x128x16384_S128x128x16384_d0 _ _ _ (fun h => ix4 h (⟨N.val / 128, by omega⟩ : Fin 128) (⟨N.val % 128, by omega⟩ : Fin 128) T)
    (fun _ => rfl) (fun _ => rfl) (fun _ => rfl) (fun _ => rfl)).trans ?_
  have hz : (constant (F := Ideal) S_ .f32 0x00000000#32 (Shape.Idx.first h_S_) : EReal) = 0 := Ideal.ofBits_zero_f32
  rw [hz, zero_add]
  unfold gateAt
  refine Finset.sum_congr rfl fun h _ => ?_
  have f2 : ∀ x : FVec Ideal S8x128x16384 .f32, broadcastInDim S8x128x128x16384 ![0, 1, 2, 3] bcast_S8x1x128x16384_S8x128x128x16384_0_1_2_3 (broadcastInDim S8x1x128x16384 ![0, 2, 3] bcast_S8x128x16384_S8x1x128x16384_0_2_3 x)
      (ix4 h (⟨N.val / 128, by omega⟩ : Fin 128) (⟨N.val % 128, by omega⟩ : Fin 128) T) = x (ix3 h (⟨N.val % 128, by omega⟩ : Fin 128) T) := by
    intro x
    refine (broadcastInDim_apply _ _ _ _ (ix4 h (0 : Fin 1) (⟨N.val % 128, by omega⟩ : Fin 128) T) fun a => ?_).trans (broadcastInDim_apply _ _ _ _ (ix3 h (⟨N.val % 128, by omega⟩ : Fin 128) T) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  have f1 : ∀ x : FVec Ideal S8x128x16384 .f32, broadcastInDim S8x128x128x16384 ![0, 1, 2, 3] bcast_S8x128x1x16384_S8x128x128x16384_0_1_2_3 (broadcastInDim S8x128x1x16384 ![0, 1, 3] bcast_S8x128x16384_S8x128x1x16384_0_1_3 x)
      (ix4 h (⟨N.val / 128, by omega⟩ : Fin 128) (⟨N.val % 128, by omega⟩ : Fin 128) T) = x (ix3 h (⟨N.val / 128, by omega⟩ : Fin 128) T) := by
    intro x
    refine (broadcastInDim_apply _ _ _ _ (ix4 h (⟨N.val / 128, by omega⟩ : Fin 128) (0 : Fin 1) T) fun a => ?_).trans (broadcastInDim_apply _ _ _ _ (ix3 h (⟨N.val / 128, by omega⟩ : Fin 128) T) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  have f0 : (broadcastInDim S8x128x128x16384 ![] bcast_S_S8x128x128x16384 (constant (F := Ideal) S_ .f32 0x00000000#32) (ix4 h (⟨N.val / 128, by omega⟩ : Fin 128) (⟨N.val % 128, by omega⟩ : Fin 128) T) : EReal) = 0 :=
    (broadcastInDim_scalar_apply _ _ _).trans Ideal.ofBits_zero_f32
  unfold pick
  rw [← f2 e2, ← f1 th, ← f1 e1, ← f0]
  rfl

/-- The body's result at an index. -/
theorem pay_apply (v0 : Vec Ideal S16384x4096 .fp8e4m3) (v1 : Vec Ideal S4096x16384 .fp8e4m3) (v3 : Vec Ideal S16384x16384 .f32) (a b : EReal) (v23 : Vec Ideal S16384x4096 .fp8e4m3) (s : EReal) (T : Fin 16384) (d : Fin 4096) :
    (k0_pay1 (F := Ideal) v0 v1 v3 a b v23 s (ix2 T d) : EReal) = (∑ N : Fin 16384, unit1 (F := Ideal) a b (hidAt v0 v1 N T) (v3 (ix2 N T)) * v23 (ix2 N d)) * s := by
  unfold k0_pay1
  refine congrArg (fun y : EReal => y * s) ?_
  refine (Ideal.matmul_plain_apply (M := 16384) (K := 16384) (N := 4096) none _ _ _ T d).trans ?_
  have hz : (constant (F := Ideal) S16384x4096 .f32 0x00000000#32 (ix2 T d) : EReal) = 0 := Ideal.ofBits_zero_f32
  rw [hz, zero_add]
  refine Finset.sum_congr rfl fun N _ => congrArg (fun y : EReal => y * v23 (ix2 N d)) ?_
  have hh : (matmul (F := Ideal) (φ₁ := .fp8e4m3) (φ₂ := .fp8e4m3) dot_S16384x4096_S4096x16384_S16384x16384_1_0_0_1_n_n none v0 v1 (constant (F := Ideal) S16384x16384 .f32 0x00000000#32) (ix2 N T) : EReal) = hidAt v0 v1 N T := by
    refine (Ideal.matmul_plain_apply (M := 16384) (K := 4096) (N := 16384) none _ _ _ N T).trans ?_
    have hz : (constant (F := Ideal) S16384x16384 .f32 0x00000000#32 (ix2 N T) : EReal) = 0 := Ideal.ofBits_zero_f32
    rw [hz, zero_add]
    rfl
  show transpose S16384x16384 [1, 0] (unitV (F := Ideal) a b (matmul (F := Ideal) (φ₁ := .fp8e4m3) (φ₂ := .fp8e4m3) dot_S16384x4096_S4096x16384_S16384x16384_1_0_0_1_n_n none v0 v1 (constant (F := Ideal) S16384x16384 .f32 0x00000000#32)) (shapeCast S16384x16384 v3 shapeCasts_S16384x16384_S16384x16384)) transposes_S16384x16384_p1_0_S16384x16384 (ix2 T N) = _
  refine (transpose_ix2_apply _ transposes_S16384x16384_p1_0_S16384x16384 T N).trans ?_
  rw [unitV_apply, hh, shapeCast_self]

/-- A loaded scale is the scale. -/
theorem scaleAt_apply (arg0 : Memref sig .tc .smem S3 .f32) (harg0 : arg0.IsWhole) (x0 : Vec Ideal S3 .f32) (k : Fin 3) (u : ℕ) (hu : u = k.val) (hk) : scaleAt (F := Ideal) arg0 harg0 x0 u hk = x0 (ix1 k) := by
  subst hu
  unfold scaleAt
  rw [harg0.readAt_unread]
  refine congrArg x0 (funext fun a => Fin.ext ?_)
  match a with
  | ⟨0, _⟩ => show k.val + 1 * 0 = k.val; omega

/-- A whole array as the body loads it. -/
theorem whole_load {a b : ℕ} {e : EltTy} (M : Memref sig .tc .vmem ⟨2, ![a, b]⟩ e) (hM : M.IsWhole) (x : (⟨2, ![a, b]⟩ : Shape).Idx → Elt Ideal e) (h) :
    View.readAt (Elt Ideal) M.view (Rect.unit (s := ⟨2, ![a, b]⟩) ![0, 0] (⟨2, ![a, b]⟩ : Shape).size h).toLoadRect (hM.unread x) = x := by
  funext y
  rw [hM.readAt_unread]
  refine congrArg x (funext fun i => Fin.ext ?_)
  match i with
  | ⟨0, _⟩ => show 0 + 1 * (y 0).val = (y 0).val; omega
  | ⟨1, _⟩ => show 0 + 1 * (y 1).val = (y 1).val; omega

variable (m : (ℓ : Loc nD τ sig) → Buf (Elt Ideal) ℓ)

/-- The one block of every array is the array. -/
theorem block0 : ∀ t : Fin cfg0.N, (win0_0.index t 0 = 0 ∧ win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (cfg0.win 5).flush t = true :=
  (by decide +kernel : ∀ t : Fin grid0.N, (win0_0.index t 0 = 0 ∧ win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (cfg0.win 5).flush t = true)

/-- The scales' block is the scales. -/
theorem in0 (c : Dev nD) (t : Fin cfg0.N) : iblk m c 0 t = m ((c : Thread nD τ).loc main_arg0) := by
  funext y
  unfold iblk
  rw [View.read_apply]
  show V m c main_arg0 _ = _
  rw [V_main_arg0]
  refine congrArg (m ((c : Thread nD τ).loc main_arg0)) (funext fun a => Fin.ext ?_)
  have h := (block0 t).1.1
  match a with
  | ⟨0, _⟩ => show win0_0.index t 0 * 3 + 1 * (y 0).val = (y 0).val; omega

/-- The tokens' block is the tokens. -/
theorem in1 (c : Dev nD) (t : Fin cfg0.N) : iblk m c 1 t = m ((c : Thread nD τ).loc main_arg1) := by
  funext y
  unfold iblk
  rw [View.read_apply]
  show V m c main_arg1 _ = _
  rw [V_main_arg1]
  refine congrArg (m ((c : Thread nD τ).loc main_arg1)) (funext fun a => Fin.ext ?_)
  have h := (block0 t).1.2
  match a with
  | ⟨0, _⟩ => show win0_1.index t 0 * 4096 + 1 * (y 0).val = (y 0).val; omega
  | ⟨1, _⟩ => show win0_1.index t 1 * 16384 + 1 * (y 1).val = (y 1).val; omega

/-- The down table's block is the down table. -/
theorem in2 (c : Dev nD) (t : Fin cfg0.N) : iblk m c 2 t = m ((c : Thread nD τ).loc main_arg2) := by
  funext y
  unfold iblk
  rw [View.read_apply]
  show V m c main_arg2 _ = _
  rw [V_main_arg2]
  refine congrArg (m ((c : Thread nD τ).loc main_arg2)) (funext fun a => Fin.ext ?_)
  have h := (block0 t).2.1
  match a with
  | ⟨0, _⟩ => show win0_2.index t 0 * 16384 + 1 * (y 0).val = (y 0).val; omega
  | ⟨1, _⟩ => show win0_2.index t 1 * 4096 + 1 * (y 1).val = (y 1).val; omega

/-- The up table's block is the up table. -/
theorem in3 (c : Dev nD) (t : Fin cfg0.N) : iblk m c 3 t = m ((c : Thread nD τ).loc main_arg3) := by
  funext y
  unfold iblk
  rw [View.read_apply]
  show V m c main_arg3 _ = _
  rw [V_main_arg3]
  refine congrArg (m ((c : Thread nD τ).loc main_arg3)) (funext fun a => Fin.ext ?_)
  have h := (block0 t).2.2.1
  match a with
  | ⟨0, _⟩ => show win0_3.index t 0 * 16384 + 1 * (y 0).val = (y 0).val; omega
  | ⟨1, _⟩ => show win0_3.index t 1 * 4096 + 1 * (y 1).val = (y 1).val; omega

/-- The gates' block is the gates. -/
theorem in4 (c : Dev nD) (t : Fin cfg0.N) : iblk m c 4 t = gates (F := Ideal) (m ((c : Thread nD τ).loc main_arg4)) (m ((c : Thread nD τ).loc main_arg5)) (m ((c : Thread nD τ).loc main_arg6)) := by
  funext y
  unfold iblk
  rw [View.read_apply]
  show V m c main_v11 _ = _
  rw [V_gates]
  refine congrArg (gates (F := Ideal) (m ((c : Thread nD τ).loc main_arg4)) (m ((c : Thread nD τ).loc main_arg5)) (m ((c : Thread nD τ).loc main_arg6))) (funext fun a => Fin.ext ?_)
  have h := (block0 t).2.2.2.1
  match a with
  | ⟨0, _⟩ => show win0_4.index t 0 * 16384 + 1 * (y 0).val = (y 0).val; omega
  | ⟨1, _⟩ => show win0_4.index t 1 * 16384 + 1 * (y 1).val = (y 1).val; omega

/-- The layer of the reference's arguments. -/
abbrev layer (c : Dev nD) : S16384x4096.Idx → EReal :=
  experts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The layer at a token and a channel. -/
theorem experts_at (S : FVec Ideal S3 .f32) (X : FVec Ideal S4096x16384 .fp8e4m3) (D U : FVec Ideal S16384x4096 .fp8e4m3) (E2 TH E1 : FVec Ideal S8x128x16384 .f32) (T : Fin 16384) (d : Fin 4096) :
    experts S X D U E2 TH E1 (ix2 T d) = (∑ N : Fin 16384, actAt S X D E2 TH E1 N T * U (ix2 N d)) * S (ix1 2) := rfl

/-- What the body leaves in its output is the layer. -/
theorem out_eq (c : Dev nD) (t : Fin cfg0.N) (y : S16384x4096.Idx) :
    out0_A_5 c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) y = layer m c y := by
  unfold out0_A_5
  rw [pieces_eq]
  refine View.read_writes_apply_of_pieces (Val := Elt Ideal) (e := .bf16) _ _ (layer m c) _ ?_ y ?_
  · simp only [List.forall_mem_cons, List.not_mem_nil, false_imp_iff, implies_true, and_true]
    intro x
    obtain ⟨T, d, rfl⟩ : ∃ (T : Fin 16384) (d : Fin 4096), x = ix2 T d := ⟨x 0, x 1, eq_ix2 x⟩
    have e : (Rect.unit (s := S16384x4096) ![0, 0] S16384x4096.size inb_S16384x4096_S16384x4096_0_0).emb (ix2 T d) = ix2 T d := by
      funext i; refine Fin.ext ?_
      match i with
      | ⟨0, _⟩ => show 0 + 1 * T.val = T.val; omega
      | ⟨1, _⟩ => show 0 + 1 * d.val = d.val; omega
    refine Eq.trans ?_ (congrArg (layer m c) e.symm)
    refine (pay_apply _ _ _ _ _ _ _ T d).trans ?_
    rw [scaleAt_apply _ _ _ 0 0 rfl, scaleAt_apply _ _ _ 1 1 rfl, scaleAt_apply _ _ _ 2 2 rfl, in0, in1, in2, in3, in4]
    have l1 := whole_load (ms0_1 t) (hs0_1 t) (m ((c : Thread nD τ).loc main_arg1)) inb_S4096x16384_S4096x16384_0_0
    have l2 := whole_load (ms0_2 t) (hs0_2 t) (m ((c : Thread nD τ).loc main_arg2)) inb_S16384x4096_S16384x4096_0_0
    have l3 := whole_load (ms0_3 t) (hs0_3 t) (m ((c : Thread nD τ).loc main_arg3)) inb_S16384x4096_S16384x4096_0_0
    have l4 := whole_load (ms0_4 t) (hs0_4 t) (gates (F := Ideal) (m ((c : Thread nD τ).loc main_arg4)) (m ((c : Thread nD τ).loc main_arg5)) (m ((c : Thread nD τ).loc main_arg6))) inb_S16384x16384_S16384x16384_0_0
    rw [l1, l2, l3, l4]
    refine Eq.trans ?_ (experts_at _ _ _ _ _ _ _ T d).symm
    refine congrArg (fun y : EReal => y * m ((c : Thread nD τ).loc main_arg0) (ix1 2)) (Finset.sum_congr rfl fun N _ => ?_)
    unfold actAt
    rw [gates_apply]
  · refine ⟨_, .head _, ?_⟩
    rw [Rect.mem_set_unit]
    have h0 : (y 0).val < 16384 := (y 0).isLt
    have h1 : (y 1).val < 4096 := (y 1).isLt
    exact Fin.forall_fin_two.2 ⟨by show 0 ≤ (y 0).val ∧ (y 0).val < 0 + 16384; omega, by show 0 ≤ (y 1).val ∧ (y 1).val < 0 + 4096; omega⟩

/-- The result array after the reference's run is the layer. -/
theorem final (c : Dev nD) : (dats (F := Ideal) m 0 c).arrAt 5 cfg0.N = layer m c := by
  refine (dats (F := Ideal) m 0 c).arrAt_eq_of_cover 5 _ (fun t _ => ?_) fun i => ?_
  · rw [Value.flushed5_A]
    obtain ⟨w0, w1⟩ := (block0 t).2.2.2.2.1
    funext y
    rw [View.read_apply, cast_eq]
    refine (out_eq m c t y).trans (congrArg (layer m c) (funext fun a => Fin.ext ?_))
    match a with
    | ⟨0, _⟩ => show (y 0).val = win0_5.index t 0 * 16384 + 1 * (y 0).val; omega
    | ⟨1, _⟩ => show (y 1).val = win0_5.index t 1 * 4096 + 1 * (y 1).val; omega
  · have h0 : (i 0 : Nat) < 16384 := (i 0).isLt
    have h1 : (i 1 : Nat) < 4096 := (i 1).isLt
    obtain ⟨t⟩ : Nonempty (Fin cfg0.N) := ⟨(⟨0, by decide⟩ : Fin grid0.N)⟩
    obtain ⟨⟨w0, w1⟩, hf⟩ := (block0 t).2.2.2.2
    refine ⟨t, hf, ?_⟩
    show i ∈ ((View.whole main_v12).slice (win0_5.rect t)).set
    rw [View.set_slice_whole, Rect.mem_set_unit]
    intro a
    match a with
    | ⟨0, _⟩ => show win0_5.index t 0 * 16384 ≤ (i 0 : Nat) ∧ (i 0 : Nat) < win0_5.index t 0 * 16384 + 16384; omega
    | ⟨1, _⟩ => show win0_5.index t 1 * 4096 ≤ (i 1 : Nat) ∧ (i 1 : Nat) < win0_5.index t 1 * 4096 + 4096; omega

end Cert.ExpertsPlain

end
-- ==== Proof.ExpertsClaims.lean ====
/- The claims about the expert layer: the hand frame of the kernel, the generated frame of the reference, and the equality of
   the two hand readings. -/
module

public import proofs.«01_k».proof.Defs
public import proofs.«01_k».proof.Proof.ExpertsSame
public import proofs.«01_k».proof.Proof.ExpertsFrame
public import proofs.«01_k».proof.Proof.ExpertsSum
public import proofs.«01_k».proof.Proof.ExpertsRef
public import Idealize.ShloMosaic.Lib.Quiescent

@[expose] public section

noncomputable section

namespace Cert.ExpertsClaims

open Idealize.ShloMosaic Idealize.ShloMosaic.TcCoe Idealize.SL.Sem

/-- The expert kernel as written runs, its arguments unchanged, every counter back at zero. -/
theorem frame_bits : Cert.quiescent_Peer := by
  intro m ρ _
  rw [Cert.Experts.same_main, Cert.Experts.same_defs]
  exact Cert.Experts.experts_frame (F := Bits) m ρ

/-- The expert kernel over the extended reals runs, its arguments unchanged, every counter back at zero. -/
theorem frame_ideal : Cert.quiescent_PeerIdeal := fun m ρ _ => Cert.Experts.experts_frame (F := Ideal) m ρ

/-- The plain expert layer runs, its arguments unchanged, every counter back at zero. -/
theorem frame_plain : Cert.quiescent_RefPeerIdeal := fun m ρ _ => Cert.RefPeerIdeal.Gen.frame m ρ

/-- The expert kernel and the plain expert layer end with equal results over the extended reals. -/
theorem equal_Peer : Cert.algebraic_PeerIdeal_RefPeerIdeal := by
  intro m ρ m' ρ' _ hagree
  refine ⟨fun c => Cert.Experts.experts (Cert.Experts.aS m c) (Cert.Experts.aX m c) (Cert.Experts.aD m c) (Cert.Experts.aU m c) (Cert.Experts.aE2 m c) (Cert.Experts.aTH m c) (Cert.Experts.aE1 m c), ?_, ?_⟩
  · exact (θ_run (Cert.PeerIdeal.defs (F := Ideal)) _ _).mono (fun r h c => ⟨(h.1 c).1.trans (Cert.Experts.final m c), (h.1 c).2⟩) (Cert.Experts.run_blocks (F := Ideal) m ρ)
  · refine (θ_run (Cert.RefPeerIdeal.defs (F := Ideal)) _ _).mono (fun r h c => ⟨(h c).1.trans ((Cert.ExpertsPlain.final m' c).trans ?_), (h c).2⟩)
      (Cert.RefPeerIdeal.Value.run_blocks (F := Ideal) m' ρ')
    obtain ⟨h0, h1, h2, h3, h4, h5, h6⟩ := hagree c
    unfold Cert.ExpertsPlain.layer
    rw [h0, h1, h2, h3, h4, h5, h6]

end Cert.ExpertsClaims

end
-- ==== Proof.InS5.lean ====
/- The first input projection: what its kernel leaves in its result, index by index, over the extended reals, and the
   same of its reference. -/
module

public import proofs.«01_k».proof.Proof.Gen.InS5Ideal.Value
public import proofs.«01_k».proof.Proof.Gen.RefInS5Ideal.Run
public import Idealize.ShloMosaic.Lib.MatmulPlain
public import Idealize.ShloMosaic.Lib.StackMember

@[expose] public section

set_option maxRecDepth 4096

noncomputable section

namespace Cert.InS5Hand

open Cert.InS5Ideal Cert.InS5Ideal.Gen Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Both offsets are zero. -/
theorem off0 : (![0, 0] : Fin 2 → Nat) = fun _ => 0 := funext fun a => by fin_cases a <;> rfl

/-- The projection at a row and a column: the row of `a` times the column of the first 2048 columns of `w`. -/
def proj (a : FVec Ideal S16384x4096 .bf16) (w : FVec Ideal S4096x6144 .f32) : FVec Ideal S16384x2048 .f32 :=
  fun i => ∑ k : Fin 4096, a (ix2 (i 0) k) * w (ix2 k ⟨(i 1).val, Nat.lt_trans (i 1).isLt (by decide)⟩)

/-- The body's result from its two input blocks is their product. -/
theorem out_apply (x : Vec Ideal S1024x4096 .bf16) (y : Vec Ideal S4096x1024 .bf16) (r s : Fin 1024) :
    out0_2 x y (ix2 r s) = ∑ k : Fin 4096, x (ix2 r k) * y (ix2 k s) := by
  unfold out0_2
  rw [View.canon_unit_zero off0, View.ld_unit_zero (S := S1024x4096) off0, View.ld_unit_zero (S := S4096x1024) off0]
  unfold k0_pay1
  rw [shapeCast_self]
  refine (Ideal.matmul_plain_apply (M := 1024) (K := 4096) (N := 1024) none x y _ r s).trans ?_
  rw [show (constant S1024x1024 .f32 0x00000000#32 : FVec Ideal S1024x1024 .f32) (ix2 r s) = 0 from Ideal.ofBits_zero_f32, zero_add]

/-- The blocks' positions: the left block moves down with the result's, the right one across with it. -/
theorem blocks_at : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1)

/-- Every block of the result belongs to a point that writes it back. -/
theorem block_hit : ∀ (a : Fin 16) (b : Fin 2), ∃ t : Fin cfg0.N, (cfg0.win 2).flush t = true ∧ win0_2.index t 0 = a.val
    ∧ win0_2.index t 1 = b.val :=
  (by decide +kernel : ∀ (a : Fin 16) (b : Fin 2), ∃ t : Fin grid0.N, (cfg0.win 2).flush t = true ∧ win0_2.index t 0 = a.val
    ∧ win0_2.index t 1 = b.val)

/-- The left operand's block at a point, at an index. -/
theorem left_apply (c : Dev nD) (t : Fin cfg0.N) (r : Fin 1024) (k : Fin 4096) (R : Fin 16384)
    (hR : R.val = win0_2.index t 0 * 1024 + r.val) :
    iblk m c 0 t (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  obtain ⟨h0, h1, -, -⟩ := blocks_at t
  match a with
  | ⟨0, _⟩ => show win0_0.index t 0 * 1024 + 1 * r.val = R.val; omega
  | ⟨1, _⟩ => show win0_0.index t 1 * 4096 + 1 * k.val = k.val; omega

/-- The right operand's block at a point, at an index: the rounded weights, which over the reals are the weights. -/
theorem right_apply (c : Dev nD) (t : Fin cfg0.N) (k : Fin 4096) (s : Fin 1024) (C : Fin 6144)
    (hC : C.val = win0_2.index t 1 * 1024 + s.val) :
    iblk m c 1 t (ix2 k s) = m ((c : Thread nD τ).loc main_arg1) (ix2 k C) := by
  unfold iblk
  rw [View.read_apply]
  show V m c main_v0 _ = _
  rw [show V m c main_v0 = (truncf .bf16 (m ((c : Thread nD τ).loc main_arg1) : FVec Ideal S4096x6144 .f32) bitsLt_bf16_f32 : FVec Ideal S4096x6144 .bf16) from rfl]
  show m ((c : Thread nD τ).loc main_arg1) _ = _
  refine congrArg (m ((c : Thread nD τ).loc main_arg1)) (funext fun a => Fin.ext ?_)
  obtain ⟨-, -, h0, h1⟩ := blocks_at t
  match a with
  | ⟨0, _⟩ => show win0_1.index t 0 * 4096 + 1 * k.val = k.val; omega
  | ⟨1, _⟩ => show win0_1.index t 1 * 1024 + 1 * s.val = C.val; omega

/-- What a point writes back at an index of its block is the projection at that index's place in the array. -/
theorem point_apply (c : Dev nD) (t : Fin cfg0.N) (r s : Fin 1024) (e : S16384x2048.Idx)
    (h0 : (e 0).val = win0_2.index t 0 * 1024 + r.val) (h1 : (e 1).val = win0_2.index t 1 * 1024 + s.val) :
    out0_2 (iblk m c 0 t) (iblk m c 1 t) (ix2 r s)
      = proj (m ((c : Thread nD τ).loc main_arg0)) (m ((c : Thread nD τ).loc main_arg1)) e := by
  rw [out_apply]
  unfold proj
  refine Finset.sum_congr rfl fun k _ => ?_
  rw [left_apply m c t r k (e 0) h0, right_apply m c t k s ⟨(e 1).val, Nat.lt_trans (e 1).isLt (by decide)⟩ h1]

/-- The result array after the run is the projection. -/
theorem final (c : Dev nD) : (dats m 0 c).arrAt 2 cfg0.N
    = proj (m ((c : Thread nD τ).loc main_arg0)) (m ((c : Thread nD τ).loc main_arg1)) := by
  refine (dats m 0 c).arrAt_eq_of_cover 2 _ (fun t _ => ?_) fun i => ?_
  · rw [Value.flushed2]
    funext y
    show out0_2 (iblk m c 0 t) (iblk m c 1 t) y = _
    obtain ⟨r, s, rfl⟩ : ∃ (r s : Fin 1024), y = ix2 r s := ⟨y 0, y 1, eq_ix2 y⟩
    rw [View.read_apply, cast_eq]
    refine point_apply m c t r s (((cfg0.win 2).blk t).view.emb (ix2 r s)) ?_ ?_
    · show win0_2.index t 0 * 1024 + 1 * r.val = _; omega
    · show win0_2.index t 1 * 1024 + 1 * s.val = _; omega
  · have h0 : (i 0 : Nat) < 16384 := (i 0).isLt
    have h1 : (i 1 : Nat) < 2048 := (i 1).isLt
    obtain ⟨t, hf, ha, hb⟩ := block_hit ⟨(i 0 : Nat) / 1024, by omega⟩ ⟨(i 1 : Nat) / 1024, by omega⟩
    refine ⟨t, hf, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

/-- The reference's term is the projection. -/
theorem reference_eq (a : FVec Ideal S16384x4096 .bf16) (w : FVec Ideal S4096x6144 .f32) :
    (Host.dotGeneral Cert.RefInS5Ideal.dot_S16384x4096_S4096x2048_S16384x2048_1_0_0_1_n_n none (extf .f32 a bitsLt_bf16_f32)
      (extractStridedSlice Cert.RefInS5Ideal.S4096x2048 ![0, 0] w Cert.RefInS5Ideal.Gen.slices_S4096x6144_S4096x2048_0_0) : FVec Ideal S16384x2048 .f32) = proj a w := by
  funext i
  obtain ⟨r, s, rfl⟩ : ∃ (r : Fin 16384) (s : Fin 2048), i = ix2 r s := ⟨i 0, i 1, eq_ix2 i⟩
  refine (StackMember.dotGeneral_plain_apply (m := 16384) (k := 4096) (n := 2048) none _ _ r s).trans ?_
  unfold proj
  refine Finset.sum_congr rfl fun k _ => congrArg (a (ix2 r k) * ·) ?_
  show w _ = w _
  refine congrArg w (funext fun b => Fin.ext ?_)
  match b with
  | ⟨0, _⟩ => show 0 + k.val = k.val; omega
  | ⟨1, _⟩ => show 0 + s.val = s.val; omega

end Cert.InS5Hand

end
-- ==== Proof.InGm.lean ====
/- The second input projection, with its GELU: what its kernel leaves in its result, index by index, over the extended reals, and the
   same of its reference. -/
module

public import proofs.«01_k».proof.Proof.Gen.InGmIdeal.Value
public import proofs.«01_k».proof.Proof.Gen.RefInGmIdeal.Run
public import Idealize.ShloMosaic.Lib.MatmulPlain
public import Idealize.ShloMosaic.Lib.StackMember

@[expose] public section

set_option maxRecDepth 4096

noncomputable section

namespace Cert.InGmHand

open Cert.InGmIdeal Cert.InGmIdeal.Gen Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Both offsets are zero. -/
theorem off0 : (![0, 0] : Fin 2 → Nat) = fun _ => 0 := funext fun a => by fin_cases a <;> rfl

/-- The projection at a row and a column: the row of `a` times the column of columns 2048 on of `w`. -/
def proj (a : FVec Ideal S16384x4096 .bf16) (w : FVec Ideal S4096x6144 .f32) : FVec Ideal S16384x4096 .f32 :=
  fun i => ∑ k : Fin 4096, a (ix2 (i 0) k) * w (ix2 k ⟨2048 + (i 1).val, Nat.add_lt_add_left (i 1).isLt 2048⟩)

/-- The tanh GELU of one number, its four constants the f32 numbers that the kernel and the reference both print. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The GELU of the projection, index by index. -/
def act (a : FVec Ideal S16384x4096 .bf16) (w : FVec Ideal S4096x6144 .f32) : FVec Ideal S16384x4096 .bf16 :=
  fun i => gelu (proj a w i)

/-- The body's result from its two input blocks is the GELU of their product. -/
theorem out_apply (x : Vec Ideal S1024x4096 .bf16) (y : Vec Ideal S4096x1024 .bf16) (r s : Fin 1024) :
    out0_2 x y (ix2 r s) = gelu (∑ k : Fin 4096, x (ix2 r k) * y (ix2 k s)) := by
  unfold out0_2
  rw [View.canon_unit_zero off0, View.ld_unit_zero (S := S1024x4096) off0, View.ld_unit_zero (S := S4096x1024) off0]
  unfold k0_pay1
  rw [shapeCast_self]
  have h : (matmul dot_S1024x4096_S4096x1024_S1024x1024_1_0_0_1_n_n none x y (constant S1024x1024 .f32 0x00000000#32)
      : FVec Ideal S1024x1024 .f32) (ix2 r s) = _ := Ideal.matmul_plain_apply (M := 1024) (K := 4096) (N := 1024) (φ₁ := .bf16) (φ₂ := .bf16) none x y
    (constant S1024x1024 .f32 0x00000000#32) r s
  rw [show (constant S1024x1024 .f32 0x00000000#32 : FVec Ideal S1024x1024 .f32) (ix2 r s) = 0 from Ideal.ofBits_zero_f32, zero_add] at h
  rw [← h]
  generalize (matmul dot_S1024x4096_S4096x1024_S1024x1024_1_0_0_1_n_n none x y (constant S1024x1024 .f32 0x00000000#32)
    : FVec Ideal S1024x1024 .f32) = v
  rfl

/-- The blocks' positions: the left block moves down with the result's, the right one across with it. -/
theorem blocks_at : ∀ t : Fin cfg0.N, win0_0.index t 0 = win0_2.index t 0 ∧ win0_0.index t 1 = 0
    ∧ win0_1.index t 0 = 0 ∧ win0_1.index t 1 = 2 + win0_2.index t 1 :=
  (by decide +kernel : ∀ t : Fin grid0.N, win0_0.index t 0 = win0_2.index t 0 ∧ win0_0.index t 1 = 0
    ∧ win0_1.index t 0 = 0 ∧ win0_1.index t 1 = 2 + win0_2.index t 1)

/-- Every block of the result belongs to a point that writes it back. -/
theorem block_hit : ∀ (a : Fin 16) (b : Fin 4), ∃ t : Fin cfg0.N, (cfg0.win 2).flush t = true ∧ win0_2.index t 0 = a.val
    ∧ win0_2.index t 1 = b.val :=
  (by decide +kernel : ∀ (a : Fin 16) (b : Fin 4), ∃ t : Fin grid0.N, (cfg0.win 2).flush t = true ∧ win0_2.index t 0 = a.val
    ∧ win0_2.index t 1 = b.val)

/-- The left operand's block at a point, at an index. -/
theorem left_apply (c : Dev nD) (t : Fin cfg0.N) (r : Fin 1024) (k : Fin 4096) (R : Fin 16384)
    (hR : R.val = win0_2.index t 0 * 1024 + r.val) :
    iblk m c 0 t (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  obtain ⟨h0, h1, -, -⟩ := blocks_at t
  match a with
  | ⟨0, _⟩ => show win0_0.index t 0 * 1024 + 1 * r.val = R.val; omega
  | ⟨1, _⟩ => show win0_0.index t 1 * 4096 + 1 * k.val = k.val; omega

/-- The right operand's block at a point, at an index: the rounded weights, which over the reals are the weights. -/
theorem right_apply (c : Dev nD) (t : Fin cfg0.N) (k : Fin 4096) (s : Fin 1024) (C : Fin 6144)
    (hC : C.val = 2048 + (win0_2.index t 1 * 1024 + s.val)) :
    iblk m c 1 t (ix2 k s) = m ((c : Thread nD τ).loc main_arg1) (ix2 k C) := by
  unfold iblk
  rw [View.read_apply]
  show V m c main_v0 _ = _
  rw [show V m c main_v0 = (truncf .bf16 (m ((c : Thread nD τ).loc main_arg1) : FVec Ideal S4096x6144 .f32) bitsLt_bf16_f32 : FVec Ideal S4096x6144 .bf16) from rfl]
  show m ((c : Thread nD τ).loc main_arg1) _ = _
  refine congrArg (m ((c : Thread nD τ).loc main_arg1)) (funext fun a => Fin.ext ?_)
  obtain ⟨-, -, h0, h1⟩ := blocks_at t
  match a with
  | ⟨0, _⟩ => show win0_1.index t 0 * 4096 + 1 * k.val = k.val; omega
  | ⟨1, _⟩ => show win0_1.index t 1 * 1024 + 1 * s.val = C.val; omega

/-- What a point writes back at an index of its block is the GELU of the projection at that index's place in the array. -/
theorem point_apply (c : Dev nD) (t : Fin cfg0.N) (r s : Fin 1024) (e : S16384x4096.Idx)
    (h0 : (e 0).val = win0_2.index t 0 * 1024 + r.val) (h1 : (e 1).val = win0_2.index t 1 * 1024 + s.val) :
    out0_2 (iblk m c 0 t) (iblk m c 1 t) (ix2 r s)
      = act (m ((c : Thread nD τ).loc main_arg0)) (m ((c : Thread nD τ).loc main_arg1)) e := by
  rw [out_apply]
  unfold act proj
  refine congrArg gelu (Finset.sum_congr rfl fun k _ => ?_)
  rw [left_apply m c t r k (e 0) h0, right_apply m c t k s ⟨2048 + (e 1).val, Nat.add_lt_add_left (e 1).isLt 2048⟩ (by dsimp only; omega)]

/-- The result array after the run is the GELU of the projection. -/
theorem final (c : Dev nD) : (dats m 0 c).arrAt 2 cfg0.N
    = act (m ((c : Thread nD τ).loc main_arg0)) (m ((c : Thread nD τ).loc main_arg1)) := by
  refine (dats m 0 c).arrAt_eq_of_cover 2 _ (fun t _ => ?_) fun i => ?_
  · rw [Value.flushed2]
    funext y
    show out0_2 (iblk m c 0 t) (iblk m c 1 t) y = _
    obtain ⟨r, s, rfl⟩ : ∃ (r s : Fin 1024), y = ix2 r s := ⟨y 0, y 1, eq_ix2 y⟩
    rw [View.read_apply, cast_eq]
    refine point_apply m c t r s (((cfg0.win 2).blk t).view.emb (ix2 r s)) ?_ ?_
    · show win0_2.index t 0 * 1024 + 1 * r.val = _; omega
    · show win0_2.index t 1 * 1024 + 1 * s.val = _; omega
  · have h0 : (i 0 : Nat) < 16384 := (i 0).isLt
    have h1 : (i 1 : Nat) < 4096 := (i 1).isLt
    obtain ⟨t, hf, ha, hb⟩ := block_hit ⟨(i 0 : Nat) / 1024, by omega⟩ ⟨(i 1 : Nat) / 1024, by omega⟩
    refine ⟨t, hf, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

/-- The reference's product is the projection. -/
theorem product_eq (a : FVec Ideal S16384x4096 .bf16) (w : FVec Ideal S4096x6144 .f32) :
    (Host.dotGeneral Cert.RefInGmIdeal.dot_S16384x4096_S4096x4096_S16384x4096_1_0_0_1_n_n none (extf .f32 a bitsLt_bf16_f32)
      (extractStridedSlice Cert.RefInGmIdeal.S4096x4096 ![0, 2048] w Cert.RefInGmIdeal.Gen.slices_S4096x6144_S4096x4096_0_2048) : FVec Ideal S16384x4096 .f32) = proj a w := by
  funext i
  obtain ⟨r, s, rfl⟩ : ∃ (r : Fin 16384) (s : Fin 4096), i = ix2 r s := ⟨i 0, i 1, eq_ix2 i⟩
  refine (StackMember.dotGeneral_plain_apply (m := 16384) (k := 4096) (n := 4096) none _ _ r s).trans ?_
  unfold proj
  refine Finset.sum_congr rfl fun k _ => congrArg (a (ix2 r k) * ·) ?_
  show w _ = w _
  refine congrArg w (funext fun b => Fin.ext ?_)
  match b with
  | ⟨0, _⟩ => show 0 + k.val = k.val; omega
  | ⟨1, _⟩ => rfl

/-- The reference's operations on its product are the GELU, index by index. -/
theorem gelu_eq (z : FVec Ideal S16384x4096 .f32) :
    (truncf .bf16 (mulf z (mulf (broadcastInDim S16384x4096 ![] Cert.RefInGmIdeal.Gen.bcast_S_S16384x4096 (constant Cert.RefInGmIdeal.S_ .f32 0x3F000000#32)) (addf (broadcastInDim S16384x4096 ![] Cert.RefInGmIdeal.Gen.bcast_S_S16384x4096 (constant Cert.RefInGmIdeal.S_ .f32 0x3F800000#32)) (Host.tanh (mulf (broadcastInDim S16384x4096 ![] Cert.RefInGmIdeal.Gen.bcast_S_S16384x4096 (constant Cert.RefInGmIdeal.S_ .f32 0x3F4C422A#32)) (addf z (mulf (broadcastInDim S16384x4096 ![] Cert.RefInGmIdeal.Gen.bcast_S_S16384x4096 (constant Cert.RefInGmIdeal.S_ .f32 0x3D372713#32)) (mulf (mulf z z) z)))))))) bitsLt_bf16_f32 : FVec Ideal S16384x4096 .bf16)
      = fun i => gelu (z i) := by
  funext i
  show z i * (Ideal.ofBits .f32 0x3F000000#32 * (Ideal.ofBits .f32 0x3F800000#32
    + Ideal.tanh (Ideal.ofBits .f32 0x3F4C422A#32 * (z i + Ideal.ofBits .f32 0x3D372713#32 * ((z i * z i) * z i))))) = gelu (z i)
  unfold gelu
  rw [mul_comm (z i * z i)]

end Cert.InGmHand

end
-- ==== Proof.Out.lean ====
/- The output projection, with its residual: what its kernel leaves in its result, index by index, over the extended reals, and the
   same of its reference. -/
module

public import proofs.«01_k».proof.Proof.Gen.OutIdeal.Value
public import proofs.«01_k».proof.Proof.Gen.RefOutIdeal.Run
public import Idealize.ShloMosaic.Lib.MatmulPlain
public import Idealize.ShloMosaic.Lib.StackMember

@[expose] public section

set_option maxRecDepth 4096

noncomputable section

namespace Cert.OutHand

open Cert.OutIdeal Cert.OutIdeal.Gen Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Both offsets are zero. -/
theorem off0 : (![0, 0] : Fin 2 → Nat) = fun _ => 0 := funext fun a => by fin_cases a <;> rfl

/-- The residual plus the two branches' products, at a row and a column: rows 0 to 2047 of `w` meet the first branch, rows 2048
    to 4095 the second. -/
def mixed (a b : FVec Ideal S16384x2048 .bf16) (w : FVec Ideal S4096x4096 .f32) (x : FVec Ideal S16384x4096 .f32) :
    FVec Ideal S16384x4096 .f32 :=
  fun i => x i + (∑ k : Fin 2048, a (ix2 (i 0) k) * w (ix2 (Fin.castAdd 2048 k : Fin (2048 + 2048)) (i 1))
    + ∑ k : Fin 2048, b (ix2 (i 0) k) * w (ix2 (Fin.natAdd 2048 k : Fin (2048 + 2048)) (i 1)))

/-- A product into the zero splat, at an index, is the sum over the contracted coordinate. -/
theorem product_apply (x : FVec Ideal S1024x2048 .bf16) (y : FVec Ideal S2048x1024 .bf16) (r s : Fin 1024) :
    (matmul dot_S1024x2048_S2048x1024_S1024x1024_1_0_0_1_n_n none x y (constant S1024x1024 .f32 0x00000000#32)
      : FVec Ideal S1024x1024 .f32) (ix2 r s) = ∑ k : Fin 2048, x (ix2 r k) * y (ix2 k s) := by
  refine (Ideal.matmul_plain_apply (M := 1024) (K := 2048) (N := 1024) none x y _ r s).trans ?_
  rw [show (constant S1024x1024 .f32 0x00000000#32 : FVec Ideal S1024x1024 .f32) (ix2 r s) = 0 from Ideal.ofBits_zero_f32, zero_add]

/-- The body's result from its five input blocks: the residual's block plus the sum of the two products. -/
theorem out_apply (x0 x1 : Vec Ideal S1024x2048 .bf16) (x2 x3 : Vec Ideal S2048x1024 .bf16) (x4 : Vec Ideal S1024x1024 .f32)
    (r s : Fin 1024) : out0_5 x0 x1 x2 x3 x4 (ix2 r s)
      = x4 (ix2 r s) + (∑ k : Fin 2048, x0 (ix2 r k) * x2 (ix2 k s) + ∑ k : Fin 2048, x1 (ix2 r k) * x3 (ix2 k s)) := by
  unfold out0_5
  rw [View.canon_unit_zero off0, View.ld_unit_zero (S := S1024x2048) off0, View.ld_unit_zero (S := S1024x2048) off0,
    View.ld_unit_zero (S := S2048x1024) off0, View.ld_unit_zero (S := S2048x1024) off0, View.ld_unit_zero (S := S1024x1024) off0]
  unfold k0_pay1
  rw [shapeCast_self, shapeCast_self, ← product_apply x0 x2 r s, ← product_apply x1 x3 r s]
  rfl

/-- The blocks' positions: the branches' and the residual's move down with the result's, the weights' and the residual's across. -/
def Places (i0 i1 i2 i3 i4 i5 : Fin 2 → Nat) : Prop :=
  i0 0 = i5 0 ∧ i0 1 = 0 ∧ i1 0 = i5 0 ∧ i1 1 = 0 ∧ i2 0 = 0 ∧ i2 1 = i5 1 ∧ i3 0 = 1 ∧ i3 1 = i5 1 ∧ i4 0 = i5 0 ∧ i4 1 = i5 1

instance (i0 i1 i2 i3 i4 i5 : Fin 2 → Nat) : Decidable (Places i0 i1 i2 i3 i4 i5) := by unfold Places; infer_instance

/-- The blocks' positions at every point. -/
theorem blocks_at : ∀ t : Fin cfg0.N, Places (win0_0.index t) (win0_1.index t) (win0_2.index t) (win0_3.index t) (win0_4.index t)
    (win0_5.index t) :=
  (by decide +kernel : ∀ t : Fin grid0.N, Places (win0_0.index t) (win0_1.index t) (win0_2.index t) (win0_3.index t)
    (win0_4.index t) (win0_5.index t))

/-- Every block of the result belongs to a point that writes it back. -/
theorem block_hit : ∀ (a : Fin 16) (b : Fin 4), ∃ t : Fin cfg0.N, (cfg0.win 5).flush t = true ∧ win0_5.index t 0 = a.val
    ∧ win0_5.index t 1 = b.val :=
  (by decide +kernel : ∀ (a : Fin 16) (b : Fin 4), ∃ t : Fin grid0.N, (cfg0.win 5).flush t = true ∧ win0_5.index t 0 = a.val
    ∧ win0_5.index t 1 = b.val)

/-- The first branch's block at a point, at an index. -/
theorem first_apply (c : Dev nD) (t : Fin cfg0.N) (r : Fin 1024) (k : Fin 2048) (R : Fin 16384)
    (hR : R.val = win0_5.index t 0 * 1024 + r.val) :
    iblk m c 0 t (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  obtain ⟨h0, h1, -⟩ := blocks_at t
  match a with
  | ⟨0, _⟩ => show win0_0.index t 0 * 1024 + 1 * r.val = R.val; omega
  | ⟨1, _⟩ => show win0_0.index t 1 * 2048 + 1 * k.val = k.val; omega

/-- The second branch's block at a point, at an index. -/
theorem second_apply (c : Dev nD) (t : Fin cfg0.N) (r : Fin 1024) (k : Fin 2048) (R : Fin 16384)
    (hR : R.val = win0_5.index t 0 * 1024 + r.val) :
    iblk m c 1 t (ix2 r k) = m ((c : Thread nD τ).loc main_arg1) (ix2 R k) := by
  unfold iblk
  rw [View.read_apply]
  show V m c main_arg1 _ = _
  rw [V_main_arg1]
  refine congrArg (m ((c : Thread nD τ).loc main_arg1)) (funext fun a => Fin.ext ?_)
  obtain ⟨-, -, h0, h1, -⟩ := blocks_at t
  match a with
  | ⟨0, _⟩ => show win0_1.index t 0 * 1024 + 1 * r.val = R.val; omega
  | ⟨1, _⟩ => show win0_1.index t 1 * 2048 + 1 * k.val = k.val; omega

/-- The rounded weights are the weights over the reals. -/
theorem weights_eq (c : Dev nD) : V m c main_v0 = m ((c : Thread nD τ).loc main_arg2) := by
  rw [show V m c main_v0 = (truncf .bf16 (m ((c : Thread nD τ).loc main_arg2) : FVec Ideal S4096x4096 .f32) bitsLt_bf16_f32 : FVec Ideal S4096x4096 .bf16) from rfl]
  rfl

/-- The upper half's block of the weights at a point, at an index. -/
theorem upper_apply (c : Dev nD) (t : Fin cfg0.N) (k : Fin 2048) (s : Fin 1024) (C : Fin 4096)
    (hC : C.val = win0_5.index t 1 * 1024 + s.val) :
    iblk m c 2 t (ix2 k s) = m ((c : Thread nD τ).loc main_arg2) (ix2 (Fin.castAdd 2048 k : Fin (2048 + 2048)) C) := by
  unfold iblk
  rw [View.read_apply]
  show V m c main_v0 _ = _
  rw [weights_eq]
  refine congrArg (m ((c : Thread nD τ).loc main_arg2)) (funext fun a => Fin.ext ?_)
  obtain ⟨-, -, -, -, h0, h1, -⟩ := blocks_at t
  match a with
  | ⟨0, _⟩ => show win0_2.index t 0 * 2048 + 1 * k.val = k.val; omega
  | ⟨1, _⟩ => show win0_2.index t 1 * 1024 + 1 * s.val = C.val; omega

/-- The lower half's block of the weights at a point, at an index. -/
theorem lower_apply (c : Dev nD) (t : Fin cfg0.N) (k : Fin 2048) (s : Fin 1024) (C : Fin 4096)
    (hC : C.val = win0_5.index t 1 * 1024 + s.val) :
    iblk m c 3 t (ix2 k s) = m ((c : Thread nD τ).loc main_arg2) (ix2 (Fin.natAdd 2048 k : Fin (2048 + 2048)) C) := by
  unfold iblk
  rw [View.read_apply]
  show V m c main_v0 _ = _
  rw [weights_eq]
  refine congrArg (m ((c : Thread nD τ).loc main_arg2)) (funext fun a => Fin.ext ?_)
  obtain ⟨-, -, -, -, -, -, h0, h1, -⟩ := blocks_at t
  match a with
  | ⟨0, _⟩ => show win0_3.index t 0 * 2048 + 1 * k.val = 2048 + k.val; omega
  | ⟨1, _⟩ => show win0_3.index t 1 * 1024 + 1 * s.val = C.val; omega

/-- The residual's block at a point, at an index. -/
theorem residual_apply (c : Dev nD) (t : Fin cfg0.N) (r s : Fin 1024) (e : S16384x4096.Idx)
    (h0 : (e 0).val = win0_5.index t 0 * 1024 + r.val) (h1 : (e 1).val = win0_5.index t 1 * 1024 + s.val) :
    iblk m c 4 t (ix2 r s) = m ((c : Thread nD τ).loc main_arg3) e := by
  unfold iblk
  rw [View.read_apply]
  show V m c main_arg3 _ = _
  rw [V_main_arg3]
  refine congrArg (m ((c : Thread nD τ).loc main_arg3)) (funext fun a => Fin.ext ?_)
  obtain ⟨-, -, -, -, -, -, -, -, g0, g1⟩ := blocks_at t
  match a with
  | ⟨0, _⟩ => show win0_4.index t 0 * 1024 + 1 * r.val = (e 0).val; omega
  | ⟨1, _⟩ => show win0_4.index t 1 * 1024 + 1 * s.val = (e 1).val; omega

/-- What a point writes back at an index of its block is the mixed sum at that index's place in the array. -/
theorem point_apply (c : Dev nD) (t : Fin cfg0.N) (r s : Fin 1024) (e : S16384x4096.Idx)
    (h0 : (e 0).val = win0_5.index t 0 * 1024 + r.val) (h1 : (e 1).val = win0_5.index t 1 * 1024 + s.val) :
    out0_5 (iblk m c 0 t) (iblk m c 1 t) (iblk m c 2 t) (iblk m c 3 t) (iblk m c 4 t) (ix2 r s)
      = mixed (m ((c : Thread nD τ).loc main_arg0)) (m ((c : Thread nD τ).loc main_arg1)) (m ((c : Thread nD τ).loc main_arg2))
        (m ((c : Thread nD τ).loc main_arg3)) e := by
  rw [out_apply, residual_apply m c t r s e h0 h1]
  unfold mixed
  congr 2
  · refine Finset.sum_congr rfl fun k _ => ?_
    rw [first_apply m c t r k (e 0) h0, upper_apply m c t k s (e 1) h1]
  · refine Finset.sum_congr rfl fun k _ => ?_
    rw [second_apply m c t r k (e 0) h0, lower_apply m c t k s (e 1) h1]

/-- The result array after the run is the mixed sum. -/
theorem final (c : Dev nD) : (dats m 0 c).arrAt 5 cfg0.N
    = mixed (m ((c : Thread nD τ).loc main_arg0)) (m ((c : Thread nD τ).loc main_arg1)) (m ((c : Thread nD τ).loc main_arg2))
        (m ((c : Thread nD τ).loc main_arg3)) := by
  refine (dats m 0 c).arrAt_eq_of_cover 5 _ (fun t _ => ?_) fun i => ?_
  · rw [Value.flushed5]
    funext y
    show out0_5 (iblk m c 0 t) (iblk m c 1 t) (iblk m c 2 t) (iblk m c 3 t) (iblk m c 4 t) y = _
    obtain ⟨r, s, rfl⟩ : ∃ (r s : Fin 1024), y = ix2 r s := ⟨y 0, y 1, eq_ix2 y⟩
    rw [View.read_apply, cast_eq]
    refine point_apply m c t r s (((cfg0.win 5).blk t).view.emb (ix2 r s)) ?_ ?_
    · show win0_5.index t 0 * 1024 + 1 * r.val = _; omega
    · show win0_5.index t 1 * 1024 + 1 * s.val = _; omega
  · have h0 : (i 0 : Nat) < 16384 := (i 0).isLt
    have h1 : (i 1 : Nat) < 4096 := (i 1).isLt
    obtain ⟨t, hf, ha, hb⟩ := block_hit ⟨(i 0 : Nat) / 1024, by omega⟩ ⟨(i 1 : Nat) / 1024, by omega⟩
    refine ⟨t, hf, ?_⟩
    show i ∈ ((View.whole main_v1).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024; rw [ha]; dsimp only; omega
    | ⟨1, _⟩ => show win0_5.index t 1 * 1024 ≤ (i 1 : Nat) ∧ (i 1 : Nat) < win0_5.index t 1 * 1024 + 1024; rw [hb]; dsimp only; omega

/-- The two branches set side by side, read in the first branch's columns. -/
theorem side_left (a b : FVec Ideal S16384x2048 .bf16) (r : Fin 16384) (k : Fin 2048) :
    (concatenate S16384x4096 1 [⟨S16384x2048, (extf .f32 a bitsLt_bf16_f32 : FVec Ideal S16384x2048 .f32)⟩,
      ⟨S16384x2048, (extf .f32 b bitsLt_bf16_f32 : FVec Ideal S16384x2048 .f32)⟩]
      Cert.RefOutIdeal.Gen.concatenates_S16384x2048_S16384x2048_S16384x4096_d1 : FVec Ideal S16384x4096 .f32)
      (ix2 r (Fin.castAdd 2048 k : Fin (2048 + 2048))) = a (ix2 r k) := by
  refine (concatenate_pair_apply_left (t := S16384x4096) (s₁ := S16384x2048) (s₂ := S16384x2048) 1 _ _ _ (ix2 r (Fin.castAdd 2048 k : Fin (2048 + 2048))) rfl (ix2 r k : S16384x2048.Idx) ?_).trans rfl
  intro b
  match b with
  | ⟨0, _⟩ => rfl
  | ⟨1, _⟩ => rfl

/-- The two branches set side by side, read in the second branch's columns. -/
theorem side_right (a b : FVec Ideal S16384x2048 .bf16) (r : Fin 16384) (k : Fin 2048) :
    (concatenate S16384x4096 1 [⟨S16384x2048, (extf .f32 a bitsLt_bf16_f32 : FVec Ideal S16384x2048 .f32)⟩,
      ⟨S16384x2048, (extf .f32 b bitsLt_bf16_f32 : FVec Ideal S16384x2048 .f32)⟩]
      Cert.RefOutIdeal.Gen.concatenates_S16384x2048_S16384x2048_S16384x4096_d1 : FVec Ideal S16384x4096 .f32)
      (ix2 r (Fin.natAdd 2048 k : Fin (2048 + 2048))) = b (ix2 r k) := by
  refine (concatenate_pair_apply_right (t := S16384x4096) (s₁ := S16384x2048) (s₂ := S16384x2048) 1 _ _ _ (ix2 r (Fin.natAdd 2048 k : Fin (2048 + 2048))) rfl rfl (ix2 r k : S16384x2048.Idx) ?_ ?_).trans rfl
  · intro b hb
    match b with
    | ⟨0, _⟩ => rfl
    | ⟨1, _⟩ => exact absurd rfl hb
  · show k.val + 2048 = 2048 + k.val
    omega

/-- The reference's term is the mixed sum. -/
theorem reference_eq (a b : FVec Ideal S16384x2048 .bf16) (w : FVec Ideal S4096x4096 .f32) (x : FVec Ideal S16384x4096 .f32) :
    (addf x (Host.dotGeneral Cert.RefOutIdeal.dot_S16384x4096_S4096x4096_S16384x4096_1_0_0_1_n_n none
      (concatenate S16384x4096 1 [⟨S16384x2048, (extf .f32 a bitsLt_bf16_f32 : FVec Ideal S16384x2048 .f32)⟩,
        ⟨S16384x2048, (extf .f32 b bitsLt_bf16_f32 : FVec Ideal S16384x2048 .f32)⟩]
        Cert.RefOutIdeal.Gen.concatenates_S16384x2048_S16384x2048_S16384x4096_d1) w) : FVec Ideal S16384x4096 .f32) = mixed a b w x := by
  funext i
  obtain ⟨r, s, rfl⟩ : ∃ (r : Fin 16384) (s : Fin 4096), i = ix2 r s := ⟨i 0, i 1, eq_ix2 i⟩
  refine congrArg (x (ix2 r s) + ·) ((StackMember.dotGeneral_plain_apply (m := 16384) (k := 4096) (n := 4096) none _ w r s).trans ?_)
  refine (Fin.sum_univ_add (a := 2048) (b := 2048) _).trans (congrArg₂ (· + ·) (Finset.sum_congr rfl fun k _ => ?_)
    (Finset.sum_congr rfl fun k _ => ?_))
  · rw [side_left]
  · rw [side_right]

end Cert.OutHand

end
-- ==== Proof.Query.lean ====
/- The query projection: what its kernel leaves in its result, index by index, over the extended reals, and the
   same of its reference. -/
module

public import proofs.«01_k».proof.Proof.Gen.QueryIdeal.Value
public import proofs.«01_k».proof.Proof.Gen.RefQueryIdeal.Run
public import Idealize.ShloMosaic.Lib.MatmulPlain
public import Idealize.ShloMosaic.Lib.StackMember

@[expose] public section

set_option maxRecDepth 4096

noncomputable section

namespace Cert.QueryHand

open Cert.QueryIdeal Cert.QueryIdeal.Gen Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Both offsets are zero. -/
theorem off0 : (![0, 0] : Fin 2 → Nat) = fun _ => 0 := funext fun a => by fin_cases a <;> rfl

/-- The projection at a row and a column: the row of `a` times the column of `w`. -/
def proj (a : FVec Ideal S16384x4096 .bf16) (w : FVec Ideal S4096x2048 .f32) : FVec Ideal S16384x2048 .f32 :=
  fun i => ∑ k : Fin 4096, a (ix2 (i 0) k) * w (ix2 k (i 1))

/-- The body's result from its two input blocks is their product. -/
theorem out_apply (x : Vec Ideal S1024x4096 .bf16) (y : Vec Ideal S4096x1024 .bf16) (r s : Fin 1024) :
    out0_2 x y (ix2 r s) = ∑ k : Fin 4096, x (ix2 r k) * y (ix2 k s) := by
  unfold out0_2
  rw [View.canon_unit_zero off0, View.ld_unit_zero (S := S1024x4096) off0, View.ld_unit_zero (S := S4096x1024) off0]
  unfold k0_pay1
  rw [shapeCast_self]
  refine (Ideal.matmul_plain_apply (M := 1024) (K := 4096) (N := 1024) none x y _ r s).trans ?_
  rw [show (constant S1024x1024 .f32 0x00000000#32 : FVec Ideal S1024x1024 .f32) (ix2 r s) = 0 from Ideal.ofBits_zero_f32, zero_add]

/-- The blocks' positions: the left block moves down with the result's, the right one across with it. -/
theorem blocks_at : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, win0_0.index t 0 = win0_2.index t 0 ∧ win0_0.index t 1 = 0
    ∧ win0_1.index t 0 = 0 ∧ win0_1.index t 1 = win0_2.index t 1)

/-- Every block of the result belongs to a point that writes it back. -/
theorem block_hit : ∀ (a : Fin 16) (b : Fin 2), ∃ t : Fin cfg0.N, (cfg0.win 2).flush t = true ∧ win0_2.index t 0 = a.val
    ∧ win0_2.index t 1 = b.val :=
  (by decide +kernel : ∀ (a : Fin 16) (b : Fin 2), ∃ t : Fin grid0.N, (cfg0.win 2).flush t = true ∧ win0_2.index t 0 = a.val
    ∧ win0_2.index t 1 = b.val)

/-- The left operand's block at a point, at an index. -/
theorem left_apply (c : Dev nD) (t : Fin cfg0.N) (r : Fin 1024) (k : Fin 4096) (R : Fin 16384)
    (hR : R.val = win0_2.index t 0 * 1024 + r.val) :
    iblk m c 0 t (ix2 r k) = m ((c : Thread nD τ).loc main_arg0) (ix2 R k) := by
  unfold iblk
  rw [View.read_apply]
  show V m c main_arg0 _ = _
  rw [V_main_arg0]
  refine congrArg (m ((c : Thread nD τ).loc main_arg0)) (funext fun a => Fin.ext ?_)
  obtain ⟨h0, h1, -, -⟩ := blocks_at t
  match a with
  | ⟨0, _⟩ => show win0_0.index t 0 * 1024 + 1 * r.val = R.val; omega
  | ⟨1, _⟩ => show win0_0.index t 1 * 4096 + 1 * k.val = k.val; omega

/-- The right operand's block at a point, at an index: the rounded weights, which over the reals are the weights. -/
theorem right_apply (c : Dev nD) (t : Fin cfg0.N) (k : Fin 4096) (s : Fin 1024) (C : Fin 2048)
    (hC : C.val = win0_2.index t 1 * 1024 + s.val) :
    iblk m c 1 t (ix2 k s) = m ((c : Thread nD τ).loc main_arg1) (ix2 k C) := by
  unfold iblk
  rw [View.read_apply]
  show V m c main_v0 _ = _
  rw [show V m c main_v0 = (truncf .bf16 (m ((c : Thread nD τ).loc main_arg1) : FVec Ideal S4096x2048 .f32) bitsLt_bf16_f32 : FVec Ideal S4096x2048 .bf16) from rfl]
  show m ((c : Thread nD τ).loc main_arg1) _ = _
  refine congrArg (m ((c : Thread nD τ).loc main_arg1)) (funext fun a => Fin.ext ?_)
  obtain ⟨-, -, h0, h1⟩ := blocks_at t
  match a with
  | ⟨0, _⟩ => show win0_1.index t 0 * 4096 + 1 * k.val = k.val; omega
  | ⟨1, _⟩ => show win0_1.index t 1 * 1024 + 1 * s.val = C.val; omega

/-- What a point writes back at an index of its block is the projection at that index's place in the array. -/
theorem point_apply (c : Dev nD) (t : Fin cfg0.N) (r s : Fin 1024) (e : S16384x2048.Idx)
    (h0 : (e 0).val = win0_2.index t 0 * 1024 + r.val) (h1 : (e 1).val = win0_2.index t 1 * 1024 + s.val) :
    out0_2 (iblk m c 0 t) (iblk m c 1 t) (ix2 r s)
      = proj (m ((c : Thread nD τ).loc main_arg0)) (m ((c : Thread nD τ).loc main_arg1)) e := by
  rw [out_apply]
  unfold proj
  refine Finset.sum_congr rfl fun k _ => ?_
  rw [left_apply m c t r k (e 0) h0, right_apply m c t k s (e 1) h1]

/-- The result array after the run is the projection. -/
theorem final (c : Dev nD) : (dats m 0 c).arrAt 2 cfg0.N
    = proj (m ((c : Thread nD τ).loc main_arg0)) (m ((c : Thread nD τ).loc main_arg1)) := by
  refine (dats m 0 c).arrAt_eq_of_cover 2 _ (fun t _ => ?_) fun i => ?_
  · rw [Value.flushed2]
    funext y
    show out0_2 (iblk m c 0 t) (iblk m c 1 t) y = _
    obtain ⟨r, s, rfl⟩ : ∃ (r s : Fin 1024), y = ix2 r s := ⟨y 0, y 1, eq_ix2 y⟩
    rw [View.read_apply, cast_eq]
    refine point_apply m c t r s (((cfg0.win 2).blk t).view.emb (ix2 r s)) ?_ ?_
    · show win0_2.index t 0 * 1024 + 1 * r.val = _; omega
    · show win0_2.index t 1 * 1024 + 1 * s.val = _; omega
  · have h0 : (i 0 : Nat) < 16384 := (i 0).isLt
    have h1 : (i 1 : Nat) < 2048 := (i 1).isLt
    obtain ⟨t, hf, ha, hb⟩ := block_hit ⟨(i 0 : Nat) / 1024, by omega⟩ ⟨(i 1 : Nat) / 1024, by omega⟩
    refine ⟨t, hf, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

/-- The reference's term is the projection. -/
theorem reference_eq (a : FVec Ideal S16384x4096 .bf16) (w : FVec Ideal S4096x2048 .f32) :
    (Host.dotGeneral Cert.RefQueryIdeal.dot_S16384x4096_S4096x2048_S16384x2048_1_0_0_1_n_n none (extf .f32 a bitsLt_bf16_f32)
      w : FVec Ideal S16384x2048 .f32) = proj a w := by
  funext i
  obtain ⟨r, s, rfl⟩ : ∃ (r : Fin 16384) (s : Fin 2048), i = ix2 r s := ⟨i 0, i 1, eq_ix2 i⟩
  refine (StackMember.dotGeneral_plain_apply (m := 16384) (k := 4096) (n := 2048) none _ _ r s).trans ?_
  unfold proj
  rfl

end Cert.QueryHand

end
-- ==== Proof.Glu.lean ====
/- The gate and the norm after it: what its kernel leaves in its result, index by index, over the extended reals, and the
   same of its reference. -/
module

public import proofs.«01_k».proof.Proof.Gen.GluIdeal.Value
public import proofs.«01_k».proof.Proof.Gen.RefGluIdeal.Run
public import Idealize.ShloMosaic.Lib.MatmulPlain
public import Idealize.ShloMosaic.Lib.StackMember
public import Idealize.ShloMosaic.Lib.Pointwise.Reduce
public import Idealize.ShloMosaic.Lib.IdealHost
public import Idealize.ShloMosaic.Lib.ValueLayout

@[expose] public section

set_option maxRecDepth 4096

noncomputable section

namespace Cert.GluHand

open Cert.GluIdeal Cert.GluIdeal.Gen Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- Both offsets are zero. -/
theorem off0 : (![0, 0] : Fin 2 → Nat) = fun _ => 0 := funext fun a => by fin_cases a <;> rfl

/-- One row gated: its entry at `j` times the logistic of the row's product with column `j` of the weights. -/
def gated (y : Fin 2048 → EReal) (w : Fin 2048 → Fin 2048 → EReal) (j : Fin 2048) : EReal :=
  y j * Ideal.logistic (∑ k : Fin 2048, y k * w k j)

/-- One row over the root of its mean square, with the gain: the small number under the root is the f32 number that the kernel and
    the reference both print. -/
def normed (z : Fin 2048 → EReal) (g : Fin 2048 → EReal) (j : Fin 2048) : EReal :=
  z j * Ideal.rsqrt (Ideal.div (∑ k : Fin 2048, z k * z k) (Ideal.ofBits .f32 0x45000000#32) + Ideal.ofBits .f32 0x358637BD#32) * g j

/-- The gated row, normed, at a row and a column. -/
def glu (y : FVec Ideal S16384x2048 .f32) (w : FVec Ideal S2048x2048 .f32) (g : FVec Ideal S2048 .f32) : FVec Ideal S16384x2048 .bf16 :=
  fun i => normed (gated (fun k => y (ValueIdx.ix2 (i 0) k)) fun k j => w (ValueIdx.ix2 k j)) (fun j => g (ValueIdx.ix1 j)) (i 1)

/-- A product into the zero splat, at an index, is the sum over the contracted coordinate. -/
theorem product_apply (x : FVec Ideal S512x2048 .bf16) (y : FVec Ideal S2048x2048 .bf16) (r : Fin 512) (s : Fin 2048) :
    (matmul dot_S512x2048_S2048x2048_S512x2048_1_0_0_1_n_n none x y (constant S512x2048 .f32 0x00000000#32)
      : FVec Ideal S512x2048 .f32) (ValueIdx.ix2 r s) = ∑ k : Fin 2048, x (ValueIdx.ix2 r k) * y (ValueIdx.ix2 k s) := by
  refine (Ideal.matmul_plain_apply (M := 512) (K := 2048) (N := 2048) none x y _ r s).trans ?_
  rw [show (constant S512x2048 .f32 0x00000000#32 : FVec Ideal S512x2048 .f32) (ValueIdx.ix2 r s) = 0 from Ideal.ofBits_zero_f32, zero_add]

/-- A block's sums along its rows, kept as a column and spread over the columns, at an index. -/
theorem rowSum_apply (v : FVec Ideal S512x2048 .f32) (r : Fin 512) (u : Fin 1) :
    (shapeCast S512x1 (multiReduction .add [1] S512 v 0x00000000#32 reduces_S512x2048_S512 (.inl rfl) rfl) shapeCasts_S512_S512x1
      : FVec Ideal S512x1 .f32) (ValueIdx.ix2 r u) = ∑ k : Fin 2048, v (ValueIdx.ix2 r k) := by
  rw [shapeCast_apply _ _ _ (ValueIdx.ix1 r) (by
    rw [Shape.rowMajor_val_two, Shape.rowMajor_val_one]
    show r.val = r.val * 1 + u.val
    omega)]
  exact Ideal.reduceAdd_r2_a1 (n0 := 512) (n1 := 2048) reduces_S512x2048_S512 v (ValueIdx.ix1 r)

/-- A column spread over the columns of a block, at an index. -/
theorem spread_apply (v : FVec Ideal S512x1 .f32) (r : Fin 512) (s : Fin 2048) :
    (broadcastTo S512x2048 v broadcasts_S512x1_S512x2048 : FVec Ideal S512x2048 .f32) (ValueIdx.ix2 r s) = v (ValueIdx.ix2 r (0 : Fin 1)) :=
  broadcastTo_apply _ _ _ _ fun b => by match b with | ⟨0, _⟩ => rfl | ⟨1, _⟩ => rfl

/-- The gain's row spread over the rows of a block, at an index. -/
theorem gain_apply (v : FVec Ideal S1x2048 .f32) (r : Fin 512) (s : Fin 2048) :
    (broadcastTo S512x2048 v broadcasts_S1x2048_S512x2048 : FVec Ideal S512x2048 .f32) (ValueIdx.ix2 r s) = v (ValueIdx.ix2 (0 : Fin 1) s) :=
  broadcastTo_apply _ _ _ _ fun b => by match b with | ⟨0, _⟩ => rfl | ⟨1, _⟩ => rfl

/-- The body's result from its three input blocks: each row gated and normed. -/
theorem out_apply (x : Vec Ideal S512x2048 .f32) (y : Vec Ideal S2048x2048 .bf16) (g : Vec Ideal S1x2048 .f32) (r : Fin 512)
    (s : Fin 2048) : out0_3 x y g (ValueIdx.ix2 r s)
      = normed (gated (fun k => x (ValueIdx.ix2 r k)) fun k j => y (ValueIdx.ix2 k j)) (fun j => g (ValueIdx.ix2 (0 : Fin 1) j)) s := by
  unfold out0_3
  rw [View.canon_unit_zero off0, View.ld_unit_zero (S := S512x2048) off0, View.ld_unit_zero (S := S2048x2048) off0,
    View.ld_unit_zero (S := S1x2048) off0]
  unfold k0_pay1
  rw [shapeCast_self, shapeCast_self]
  have h := product_apply (truncf .bf16 x bitsLt_bf16_f32) y r
  generalize (matmul dot_S512x2048_S2048x2048_S512x2048_1_0_0_1_n_n none (truncf .bf16 x bitsLt_bf16_f32) y
    (constant S512x2048 .f32 0x00000000#32) : FVec Ideal S512x2048 .f32) = v at h ⊢
  have hz : ∀ j, (mulf x (logistic v) : FVec Ideal S512x2048 .f32) (ValueIdx.ix2 r j) = gated (fun k => x (ValueIdx.ix2 r k)) (fun k j => y (ValueIdx.ix2 k j)) j := by
    intro j
    show x (ValueIdx.ix2 r j) * Ideal.logistic (v (ValueIdx.ix2 r j)) = _
    rw [h]
    rfl
  generalize (mulf x (logistic v) : FVec Ideal S512x2048 .f32) = z at hz ⊢
  generalize gated (fun k => x (ValueIdx.ix2 r k)) (fun k j => y (ValueIdx.ix2 k j)) = q at hz ⊢
  show z (ValueIdx.ix2 r s) * (broadcastTo S512x2048 _ broadcasts_S512x1_S512x2048 : FVec Ideal S512x2048 .f32) (ValueIdx.ix2 r s)
    * (broadcastTo S512x2048 g broadcasts_S1x2048_S512x2048 : FVec Ideal S512x2048 .f32) (ValueIdx.ix2 r s) = _
  rw [spread_apply, gain_apply, hz]
  unfold normed
  refine congrArg (fun e => q s * Ideal.rsqrt (Ideal.div e (Ideal.ofBits .f32 0x45000000#32) + Ideal.ofBits .f32 0x358637BD#32)
    * g (ValueIdx.ix2 (0 : Fin 1) s)) ((rowSum_apply (mulf z z) r 0).trans (Finset.sum_congr rfl fun k _ => ?_))
  show z (ValueIdx.ix2 r k) * z (ValueIdx.ix2 r k) = _
  rw [hz]

/-- The blocks' positions: the gated array's block moves down with the result's, the weights and the gain are whole. -/
theorem blocks_at : ∀ t : Fin cfg0.N, win0_0.index t 0 = win0_3.index t 0 ∧ win0_0.index t 1 = 0
    ∧ win0_1.index t 0 = 0 ∧ win0_1.index t 1 = 0 ∧ win0_2.index t 0 = 0 ∧ win0_2.index t 1 = 0 ∧ win0_3.index t 1 = 0 :=
  (by decide +kernel : ∀ t : Fin grid0.N, win0_0.index t 0 = win0_3.index t 0 ∧ win0_0.index t 1 = 0
    ∧ win0_1.index t 0 = 0 ∧ win0_1.index t 1 = 0 ∧ win0_2.index t 0 = 0 ∧ win0_2.index t 1 = 0 ∧ win0_3.index t 1 = 0)

/-- Every block of the result belongs to a point that writes it back. -/
theorem block_hit : ∀ a : Fin 32, ∃ t : Fin cfg0.N, (cfg0.win 3).flush t = true ∧ win0_3.index t 0 = a.val :=
  (by decide +kernel : ∀ a : Fin 32, ∃ t : Fin grid0.N, (cfg0.win 3).flush t = true ∧ win0_3.index t 0 = a.val)

/-- The gated array's block at a point, at an index. -/
theorem rows_apply (c : Dev nD) (t : Fin cfg0.N) (r : Fin 512) (k : Fin 2048) (R : Fin 16384)
    (hR : R.val = win0_3.index t 0 * 512 + r.val) :
    iblk m c 0 t (ValueIdx.ix2 r k) = m ((c : Thread nD τ).loc main_arg0) (ValueIdx.ix2 R k) := by
  unfold iblk
  rw [View.read_apply]
  show V m c main_arg0 _ = _
  rw [V_main_arg0]
  refine congrArg (m ((c : Thread nD τ).loc main_arg0)) (funext fun a => Fin.ext ?_)
  obtain ⟨h0, h1, -⟩ := blocks_at t
  match a with
  | ⟨0, _⟩ => show win0_0.index t 0 * 512 + 1 * r.val = R.val; omega
  | ⟨1, _⟩ => show win0_0.index t 1 * 2048 + 1 * k.val = k.val; omega

/-- The weights' block at a point, at an index: the rounded weights, which over the reals are the weights. -/
theorem weights_apply (c : Dev nD) (t : Fin cfg0.N) (k j : Fin 2048) :
    iblk m c 1 t (ValueIdx.ix2 k j) = m ((c : Thread nD τ).loc main_arg1) (ValueIdx.ix2 k j) := by
  unfold iblk
  rw [View.read_apply]
  show V m c main_v0 _ = _
  rw [show V m c main_v0 = (truncf .bf16 (m ((c : Thread nD τ).loc main_arg1) : FVec Ideal S2048x2048 .f32) bitsLt_bf16_f32 : FVec Ideal S2048x2048 .bf16) from rfl]
  show m ((c : Thread nD τ).loc main_arg1) _ = _
  refine congrArg (m ((c : Thread nD τ).loc main_arg1)) (funext fun a => Fin.ext ?_)
  obtain ⟨-, -, h0, h1, -⟩ := blocks_at t
  match a with
  | ⟨0, _⟩ => show win0_1.index t 0 * 2048 + 1 * k.val = k.val; omega
  | ⟨1, _⟩ => show win0_1.index t 1 * 2048 + 1 * j.val = j.val; omega

/-- The gain's block at a point, at an index: the gain laid out as one row. -/
theorem gains_apply (c : Dev nD) (t : Fin cfg0.N) (j : Fin 2048) :
    iblk m c 2 t (ValueIdx.ix2 (0 : Fin 1) j) = m ((c : Thread nD τ).loc main_arg2) (ValueIdx.ix1 j) := by
  unfold iblk
  rw [View.read_apply]
  show V m c main_v1 _ = _
  rw [show V m c main_v1 = (shapeCast S1x2048 (m ((c : Thread nD τ).loc main_arg2) : FVec Ideal S2048 .f32) shapeCasts_S2048_S1x2048 : FVec Ideal S1x2048 .f32) from rfl]
  refine Eq.trans (congrArg (shapeCast S1x2048 (m ((c : Thread nD τ).loc main_arg2) : FVec Ideal S2048 .f32) shapeCasts_S2048_S1x2048)
    (funext fun a => Fin.ext ?_ : _ = ValueIdx.ix2 (0 : Fin 1) j)) (shapeCast_a_1a_apply _ _ _ _)
  obtain ⟨-, -, -, -, h0, h1, -⟩ := blocks_at t
  match a with
  | ⟨0, _⟩ => show win0_2.index t 0 * 1 + 1 * 0 = 0; omega
  | ⟨1, _⟩ => show win0_2.index t 1 * 2048 + 1 * j.val = j.val; omega

/-- What a point writes back at an index of its block is the gated, normed row at that index's place in the array. -/
theorem point_apply (c : Dev nD) (t : Fin cfg0.N) (r : Fin 512) (s : Fin 2048) (e : S16384x2048.Idx)
    (h0 : (e 0).val = win0_3.index t 0 * 512 + r.val) (h1 : e 1 = s) :
    out0_3 (iblk m c 0 t) (iblk m c 1 t) (iblk m c 2 t) (ValueIdx.ix2 r s)
      = glu (m ((c : Thread nD τ).loc main_arg0)) (m ((c : Thread nD τ).loc main_arg1)) (m ((c : Thread nD τ).loc main_arg2)) e := by
  rw [out_apply]
  unfold glu
  rw [h1]
  simp only [weights_apply, gains_apply]
  rw [show (fun k => iblk m c 0 t (ValueIdx.ix2 r k)) = fun k => m ((c : Thread nD τ).loc main_arg0) (ValueIdx.ix2 (e 0) k) from
    funext fun k => rows_apply m c t r k (e 0) h0]

/-- The result array after the run. -/
theorem final (c : Dev nD) : (dats m 0 c).arrAt 3 cfg0.N
    = glu (m ((c : Thread nD τ).loc main_arg0)) (m ((c : Thread nD τ).loc main_arg1)) (m ((c : Thread nD τ).loc main_arg2)) := by
  refine (dats m 0 c).arrAt_eq_of_cover 3 _ (fun t _ => ?_) fun i => ?_
  · rw [Value.flushed3]
    funext y
    show out0_3 (iblk m c 0 t) (iblk m c 1 t) (iblk m c 2 t) y = _
    obtain ⟨r, s, rfl⟩ : ∃ (r : Fin 512) (s : Fin 2048), y = ValueIdx.ix2 r s := ⟨y 0, y 1, ValueIdx.eq_ix2 y⟩
    rw [View.read_apply, cast_eq]
    obtain ⟨-, -, -, -, -, -, h1⟩ := blocks_at t
    refine point_apply m c t r s (((cfg0.win 3).blk t).view.emb (ValueIdx.ix2 r s)) ?_ (Fin.ext ?_)
    · show win0_3.index t 0 * 512 + 1 * r.val = _; omega
    · show win0_3.index t 1 * 2048 + 1 * s.val = _; omega
  · have h0 : (i 0 : Nat) < 16384 := (i 0).isLt
    have h1 : (i 1 : Nat) < 2048 := (i 1).isLt
    obtain ⟨t, hf, ha⟩ := block_hit ⟨(i 0 : Nat) / 512, by omega⟩
    obtain ⟨-, -, -, -, -, -, hb⟩ := blocks_at t
    refine ⟨t, hf, ?_⟩
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [ha]; dsimp only; omega
    | ⟨1, _⟩ => show win0_3.index t 1 * 2048 ≤ (i 1 : Nat) ∧ (i 1 : Nat) < win0_3.index t 1 * 2048 + 2048; rw [hb]; omega

/-- The reference's gate, from its product. -/
def hostGate (y p : FVec Ideal S16384x2048 .f32) : FVec Ideal S16384x2048 .f32 :=
  mulf y (Host.divf (broadcastInDim S16384x2048 ![] Cert.RefGluIdeal.Gen.bcast_S_S16384x2048 (constant Cert.RefGluIdeal.S_ .f32 0x3F800000#32)) (addf (broadcastInDim S16384x2048 ![] Cert.RefGluIdeal.Gen.bcast_S_S16384x2048 (constant Cert.RefGluIdeal.S_ .f32 0x3F800000#32)) (Host.exp (Host.negf p))))

/-- The reference's norm of a gated array. -/
def hostNorm (z : FVec Ideal S16384x2048 .f32) (g : FVec Ideal S2048 .f32) : FVec Ideal S16384x2048 .bf16 :=
  truncf .bf16 (mulf (mulf z (broadcastInDim S16384x2048 ![0, 1] Cert.RefGluIdeal.Gen.bcast_S16384x1_S16384x2048_0_1 (Host.rsqrt (addf (Host.divf (broadcastInDim Cert.RefGluIdeal.S16384x1 ![0] Cert.RefGluIdeal.Gen.bcast_S16384_S16384x1_0 (Host.reduceAdd (mulf z z) (constant Cert.RefGluIdeal.S_ .f32 0x00000000#32) Cert.RefGluIdeal.Gen.reducesTo_S16384x2048_S16384_d1 Cert.RefGluIdeal.Gen.h_S_)) (broadcastInDim Cert.RefGluIdeal.S16384x1 ![] Cert.RefGluIdeal.Gen.bcast_S_S16384x1 (constant Cert.RefGluIdeal.S_ .f32 0x45000000#32))) (broadcastInDim Cert.RefGluIdeal.S16384x1 ![] Cert.RefGluIdeal.Gen.bcast_S_S16384x1 (constant Cert.RefGluIdeal.S_ .f32 0x358637BD#32)))))) (broadcastInDim S16384x2048 ![0, 1] Cert.RefGluIdeal.Gen.bcast_S1x2048_S16384x2048_0_1 (broadcastInDim S1x2048 ![1] Cert.RefGluIdeal.Gen.bcast_S2048_S1x2048_1 g))) bitsLt_bf16_f32

/-- The reference's gate at an index. -/
theorem hostGate_apply (y : FVec Ideal S16384x2048 .f32) (w : FVec Ideal S2048x2048 .f32) (r : Fin 16384) (j : Fin 2048) :
    hostGate y (Host.dotGeneral Cert.RefGluIdeal.dot_S16384x2048_S2048x2048_S16384x2048_1_0_0_1_n_n none y w) (ValueIdx.ix2 r j)
      = gated (fun k => y (ValueIdx.ix2 r k)) (fun k j => w (ValueIdx.ix2 k j)) j := by
  have h : (Host.dotGeneral Cert.RefGluIdeal.dot_S16384x2048_S2048x2048_S16384x2048_1_0_0_1_n_n none y w : FVec Ideal S16384x2048 .f32) (ValueIdx.ix2 r j)
      = _ := StackMember.dotGeneral_plain_apply (m := 16384) (k := 2048) (n := 2048) none y w r j
  unfold gated
  rw [← h]
  generalize (Host.dotGeneral Cert.RefGluIdeal.dot_S16384x2048_S2048x2048_S16384x2048_1_0_0_1_n_n none y w : FVec Ideal S16384x2048 .f32) = p
  show y (ValueIdx.ix2 r j) * Ideal.div (Ideal.ofBits .f32 0x3F800000#32) (Ideal.ofBits .f32 0x3F800000#32 + Ideal.exp (-p (ValueIdx.ix2 r j))) = _
  rw [Ideal.ofBits_one_f32]
  rfl

/-- The reference's norm at an index. -/
theorem hostNorm_apply (z : FVec Ideal S16384x2048 .f32) (g : FVec Ideal S2048 .f32) (r : Fin 16384) (j : Fin 2048) :
    hostNorm z g (ValueIdx.ix2 r j) = normed (fun k => z (ValueIdx.ix2 r k)) (fun k => g (ValueIdx.ix1 k)) j := by
  have h : (Host.reduceAdd (mulf z z) (constant Cert.RefGluIdeal.S_ .f32 0x00000000#32) Cert.RefGluIdeal.Gen.reducesTo_S16384x2048_S16384_d1
      Cert.RefGluIdeal.Gen.h_S_ : FVec Ideal Cert.RefGluIdeal.S16384 .f32) (ValueIdx.ix1 r) = _ :=
    Ideal.hostReduceAdd_r2_a1 (n0 := 16384) (n1 := 2048) Cert.RefGluIdeal.Gen.reducesTo_S16384x2048_S16384_d1 (mulf z z) _ (ValueIdx.ix1 r)
  rw [show (constant Cert.RefGluIdeal.S_ .f32 0x00000000#32 : FVec Ideal Cert.RefGluIdeal.S_ .f32) (Shape.Idx.first Cert.RefGluIdeal.Gen.h_S_) = 0
    from Ideal.ofBits_zero_f32, zero_add] at h
  unfold hostNorm
  generalize (Host.reduceAdd (mulf z z) (constant Cert.RefGluIdeal.S_ .f32 0x00000000#32) Cert.RefGluIdeal.Gen.reducesTo_S16384x2048_S16384_d1
      Cert.RefGluIdeal.Gen.h_S_ : FVec Ideal Cert.RefGluIdeal.S16384 .f32) = q at h ⊢
  have h' : q (ValueIdx.ix1 r) = ∑ k : Fin 2048, z (ValueIdx.ix2 r k) * z (ValueIdx.ix2 r k) := h
  unfold normed
  rw [← h']
  show z (ValueIdx.ix2 r j) * Ideal.rsqrt (Ideal.div (q _) _ + _) * g _ = _
  refine congrArg₂ (fun a b => z (ValueIdx.ix2 r j) * Ideal.rsqrt (Ideal.div (q a) (Ideal.ofBits .f32 0x45000000#32) + Ideal.ofBits .f32 0x358637BD#32) * g b) ?_ ?_
  · funext a
    match a with
    | ⟨0, _⟩ => rfl
  · funext a
    match a with
    | ⟨0, _⟩ => rfl

/-- The reference's term is the gated, normed array. -/
theorem reference_eq (y : FVec Ideal S16384x2048 .f32) (w : FVec Ideal S2048x2048 .f32) (g : FVec Ideal S2048 .f32) :
    hostNorm (hostGate y (Host.dotGeneral Cert.RefGluIdeal.dot_S16384x2048_S2048x2048_S16384x2048_1_0_0_1_n_n none y w)) g = glu y w g := by
  funext i
  obtain ⟨r, s, rfl⟩ : ∃ (r : Fin 16384) (s : Fin 2048), i = ValueIdx.ix2 r s := ⟨i 0, i 1, ValueIdx.eq_ix2 i⟩
  rw [hostNorm_apply]
  unfold glu
  rw [show (fun k => hostGate y (Host.dotGeneral Cert.RefGluIdeal.dot_S16384x2048_S2048x2048_S16384x2048_1_0_0_1_n_n none y w) (ValueIdx.ix2 r k))
    = gated (fun k => y (ValueIdx.ix2 r k)) (fun k j => w (ValueIdx.ix2 k j)) from funext fun k => hostGate_apply y w r k]

end Cert.GluHand

end
-- ==== Proof.RowNorm.lean ====
/- The norm of a row of 4096 numbers, as a kernel block writes it and as the host writes it, index by index over the extended
   reals. -/
module

public import proofs.«01_k».proof.Proof.Gen.LastIdeal.Value
public import proofs.«01_k».proof.Proof.Gen.RefLastIdeal.Run
public import Idealize.ShloMosaic.Lib.Pointwise.Reduce
public import Idealize.ShloMosaic.Lib.IdealHost
public import Idealize.ShloMosaic.Lib.ValueLayout

@[expose] public section

set_option maxRecDepth 16384

noncomputable section

namespace Cert.RowNorm

open Cert.LastIdeal Cert.LastIdeal.Gen Idealize.ShloMosaic Idealize.ShloMosaic.TcCoe
open scoped BigOperators

/-- One row over the root of its mean square, with the gain: the row's length and the small number under the root are the f32
    numbers that a kernel and its reference both print. -/
def normed (z : Fin 4096 → EReal) (g : Fin 4096 → EReal) (j : Fin 4096) : EReal :=
  z j * Ideal.rsqrt (Ideal.div (∑ k : Fin 4096, z k * z k) (Ideal.ofBits .f32 0x45800000#32) + Ideal.ofBits .f32 0x358637BD#32) * g j

/-- A block's norm as a kernel writes it. -/
def blockNorm (z : FVec Ideal S512x4096 .f32) (g : FVec Ideal S1x4096 .f32) : FVec Ideal S512x4096 .f32 :=
  mulf (mulf z (broadcastTo S512x4096 (rsqrt (addf (divf (shapeCast S512x1 (multiReduction .add [1] S512 (mulf z z) 0x00000000#32 reduces_S512x4096_S512 (.inl rfl) rfl) shapeCasts_S512_S512x1) (broadcast S512x1 (Scalar.ofBits .f32 0x45800000#32))) (broadcast S512x1 (Scalar.ofBits .f32 0x358637BD#32)))) broadcasts_S512x1_S512x4096))
    (broadcastTo S512x4096 (shapeCast S1x4096 g shapeCasts_S1x4096_S1x4096) broadcasts_S1x4096_S512x4096)

/-- The sums along a block's rows, kept as a column. -/
theorem sums_apply (v : FVec Ideal S512x4096 .f32) (r : Fin 512) :
    (shapeCast S512x1 (multiReduction .add [1] S512 v 0x00000000#32 reduces_S512x4096_S512 (.inl rfl) rfl) shapeCasts_S512_S512x1
      : FVec Ideal S512x1 .f32) (ValueIdx.ix2 r (0 : Fin 1)) = ∑ k : Fin 4096, v (ValueIdx.ix2 r k) := by
  rw [shapeCast_apply _ _ _ (ValueIdx.ix1 r) (by
    rw [Shape.rowMajor_val_two, Shape.rowMajor_val_one]
    show r.val = r.val * 1 + 0
    omega)]
  exact Ideal.reduceAdd_r2_a1 (n0 := 512) (n1 := 4096) reduces_S512x4096_S512 v (ValueIdx.ix1 r)

/-- A column spread over a block, at an index. -/
theorem column_apply (v : FVec Ideal S512x1 .f32) (r : Fin 512) (s : Fin 4096) :
    (broadcastTo S512x4096 v broadcasts_S512x1_S512x4096 : FVec Ideal S512x4096 .f32) (ValueIdx.ix2 r s) = v (ValueIdx.ix2 r (0 : Fin 1)) :=
  broadcastTo_apply _ _ _ _ fun b => by match b with | ⟨0, _⟩ => rfl | ⟨1, _⟩ => rfl

/-- A row spread over a block, at an index. -/
theorem line_apply (v : FVec Ideal S1x4096 .f32) (r : Fin 512) (s : Fin 4096) :
    (broadcastTo S512x4096 v broadcasts_S1x4096_S512x4096 : FVec Ideal S512x4096 .f32) (ValueIdx.ix2 r s) = v (ValueIdx.ix2 (0 : Fin 1) s) :=
  broadcastTo_apply _ _ _ _ fun b => by match b with | ⟨0, _⟩ => rfl | ⟨1, _⟩ => rfl

/-- A block's norm at an index is its row normed. -/
theorem blockNorm_apply (z : FVec Ideal S512x4096 .f32) (g : FVec Ideal S1x4096 .f32) (r : Fin 512) (s : Fin 4096) :
    blockNorm z g (ValueIdx.ix2 r s) = normed (fun k => z (ValueIdx.ix2 r k)) (fun k => g (ValueIdx.ix2 (0 : Fin 1) k)) s := by
  unfold blockNorm
  rw [shapeCast_self]
  show z (ValueIdx.ix2 r s) * (broadcastTo S512x4096 _ broadcasts_S512x1_S512x4096 : FVec Ideal S512x4096 .f32) (ValueIdx.ix2 r s)
    * (broadcastTo S512x4096 g broadcasts_S1x4096_S512x4096 : FVec Ideal S512x4096 .f32) (ValueIdx.ix2 r s) = _
  rw [column_apply, line_apply]
  unfold normed
  exact congrArg (fun e => z (ValueIdx.ix2 r s) * Ideal.rsqrt (Ideal.div e (Ideal.ofBits .f32 0x45800000#32) + Ideal.ofBits .f32 0x358637BD#32)
    * g (ValueIdx.ix2 (0 : Fin 1) s)) (sums_apply (mulf z z) r)

/-- An array's norm as the host writes it. -/
def hostNorm (z : FVec Ideal S16384x4096 .f32) (g : FVec Ideal S4096 .f32) : FVec Ideal S16384x4096 .f32 :=
  mulf (mulf z (broadcastInDim S16384x4096 ![0, 1] Cert.RefLastIdeal.Gen.bcast_S16384x1_S16384x4096_0_1 (Host.rsqrt (addf (Host.divf (broadcastInDim Cert.RefLastIdeal.S16384x1 ![0] Cert.RefLastIdeal.Gen.bcast_S16384_S16384x1_0 (Host.reduceAdd (mulf z z) (constant Cert.RefLastIdeal.S_ .f32 0x00000000#32) Cert.RefLastIdeal.Gen.reducesTo_S16384x4096_S16384_d1 Cert.RefLastIdeal.Gen.h_S_)) (broadcastInDim Cert.RefLastIdeal.S16384x1 ![] Cert.RefLastIdeal.Gen.bcast_S_S16384x1 (constant Cert.RefLastIdeal.S_ .f32 0x45800000#32))) (broadcastInDim Cert.RefLastIdeal.S16384x1 ![] Cert.RefLastIdeal.Gen.bcast_S_S16384x1 (constant Cert.RefLastIdeal.S_ .f32 0x358637BD#32))))))
    (broadcastInDim S16384x4096 ![0, 1] Cert.RefLastIdeal.Gen.bcast_S1x4096_S16384x4096_0_1 (broadcastInDim S1x4096 ![1] Cert.RefLastIdeal.Gen.bcast_S4096_S1x4096_1 g))

/-- An array's norm at an index is its row normed. -/
theorem hostNorm_apply (z : FVec Ideal S16384x4096 .f32) (g : FVec Ideal S4096 .f32) (r : Fin 16384) (j : Fin 4096) :
    hostNorm z g (ValueIdx.ix2 r j) = normed (fun k => z (ValueIdx.ix2 r k)) (fun k => g (ValueIdx.ix1 k)) j := by
  have h : (Host.reduceAdd (mulf z z) (constant Cert.RefLastIdeal.S_ .f32 0x00000000#32) Cert.RefLastIdeal.Gen.reducesTo_S16384x4096_S16384_d1
      Cert.RefLastIdeal.Gen.h_S_ : FVec Ideal Cert.RefLastIdeal.S16384 .f32) (ValueIdx.ix1 r) = _ :=
    Ideal.hostReduceAdd_r2_a1 (n0 := 16384) (n1 := 4096) Cert.RefLastIdeal.Gen.reducesTo_S16384x4096_S16384_d1 (mulf z z) _ (ValueIdx.ix1 r)
  rw [show (constant Cert.RefLastIdeal.S_ .f32 0x00000000#32 : FVec Ideal Cert.RefLastIdeal.S_ .f32) (Shape.Idx.first Cert.RefLastIdeal.Gen.h_S_) = 0
    from Ideal.ofBits_zero_f32, zero_add] at h
  unfold hostNorm
  generalize (Host.reduceAdd (mulf z z) (constant Cert.RefLastIdeal.S_ .f32 0x00000000#32) Cert.RefLastIdeal.Gen.reducesTo_S16384x4096_S16384_d1
      Cert.RefLastIdeal.Gen.h_S_ : FVec Ideal Cert.RefLastIdeal.S16384 .f32) = q at h ⊢
  have h' : q (ValueIdx.ix1 r) = ∑ k : Fin 4096, z (ValueIdx.ix2 r k) * z (ValueIdx.ix2 r k) := h
  unfold normed
  rw [← h']
  show z (ValueIdx.ix2 r j) * Ideal.rsqrt (Ideal.div (q _) _ + _) * g _ = _
  refine congrArg₂ (fun a b => z (ValueIdx.ix2 r j) * Ideal.rsqrt (Ideal.div (q a) (Ideal.ofBits .f32 0x45800000#32) + Ideal.ofBits .f32 0x358637BD#32) * g b) ?_ ?_
  · funext a
    match a with
    | ⟨0, _⟩ => rfl
  · funext a
    match a with
    | ⟨0, _⟩ => rfl

end Cert.RowNorm

end
-- ==== Proof.Last.lean ====
/- The final norm: what its kernel leaves in its result, index by index, over the extended reals, and the same of its reference. -/
module

public import proofs.«01_k».proof.Proof.Gen.LastIdeal.Value
public import proofs.«01_k».proof.Proof.Gen.RefLastIdeal.Run
public import proofs.«01_k».proof.Proof.RowNorm

@[expose] public section

set_option maxRecDepth 16384

noncomputable section

namespace Cert.LastHand

open Cert.LastIdeal Cert.LastIdeal.Gen Idealize.ShloMosaic Idealize.ShloMosaic.TcCoe Idealize.SL.Sem
open scoped BigOperators

variable (m : (ℓ : Loc nD τ sig) → Buf (Elt Ideal) ℓ)

/-- Both offsets are zero. -/
theorem off0 : (![0, 0] : Fin 2 → Nat) = fun _ => 0 := funext fun a => by fin_cases a <;> rfl

/-- The sum of the two arrays, each row normed, at a row and a column. -/
def lastNorm (x : FVec Ideal S16384x4096 .f32) (y : FVec Ideal S16384x4096 .bf16) (g : FVec Ideal S4096 .f32) : FVec Ideal S16384x4096 .f32 :=
  fun i => Cert.RowNorm.normed (fun k => x (ValueIdx.ix2 (i 0) k) + y (ValueIdx.ix2 (i 0) k)) (fun j => g (ValueIdx.ix1 j)) (i 1)

/-- The body's result from its input blocks: each row normed. -/
theorem out_apply (x : Vec Ideal S512x4096 .f32) (y : Vec Ideal S512x4096 .bf16) (g : Vec Ideal S1x4096 .f32) (r : Fin 512) (s : Fin 4096) : out0_3 x y g (ValueIdx.ix2 r s)
      = Cert.RowNorm.normed (fun k => x (ValueIdx.ix2 r k) + y (ValueIdx.ix2 r k)) (fun j => g (ValueIdx.ix2 (0 : Fin 1) j)) s := by
  unfold out0_3
  rw [View.canon_unit_zero off0, View.ld_unit_zero (S := S512x4096) off0, View.ld_unit_zero (S := S512x4096) off0, View.ld_unit_zero (S := S1x4096) off0]
  exact Cert.RowNorm.blockNorm_apply (addf x (extf .f32 y bitsLt_bf16_f32)) g r s

/-- The blocks' positions: the rows move down with the result's, the gain is whole. -/
theorem blocks_at : ∀ t : Fin cfg0.N, win0_0.index t 0 = win0_3.index t 0 ∧ win0_0.index t 1 = 0 ∧ win0_1.index t 0 = win0_3.index t 0 ∧ win0_1.index t 1 = 0 ∧ win0_2.index t 0 = 0 ∧ win0_2.index t 1 = 0 ∧ win0_3.index t 1 = 0 :=
  (by decide +kernel : ∀ t : Fin grid0.N, win0_0.index t 0 = win0_3.index t 0 ∧ win0_0.index t 1 = 0 ∧ win0_1.index t 0 = win0_3.index t 0 ∧ win0_1.index t 1 = 0 ∧ win0_2.index t 0 = 0 ∧ win0_2.index t 1 = 0 ∧ win0_3.index t 1 = 0)

/-- Every block of the result belongs to a point that writes it back. -/
theorem block_hit : ∀ a : Fin 32, ∃ t : Fin cfg0.N, (cfg0.win 3).flush t = true ∧ win0_3.index t 0 = a.val :=
  (by decide +kernel : ∀ a : Fin 32, ∃ t : Fin grid0.N, (cfg0.win 3).flush t = true ∧ win0_3.index t 0 = a.val)

/-- The rows of argument 0 that a point reads, at an index. -/
theorem rows0_apply (c : Dev nD) (t : Fin cfg0.N) (r : Fin 512) (k : Fin 4096) (R : Fin 16384)
    (hR : R.val = win0_3.index t 0 * 512 + r.val) :
    iblk m c 0 t (ValueIdx.ix2 r k) = m ((c : Thread nD τ).loc main_arg0) (ValueIdx.ix2 R k) := by
  unfold iblk
  rw [View.read_apply]
  show V m c main_arg0 _ = _
  rw [V_main_arg0]
  refine congrArg (m ((c : Thread nD τ).loc main_arg0)) (funext fun a => Fin.ext ?_)
  obtain ⟨h0, h1, -⟩ := blocks_at t
  match a with
  | ⟨0, _⟩ => show win0_0.index t 0 * 512 + 1 * r.val = R.val; omega
  | ⟨1, _⟩ => show win0_0.index t 1 * 4096 + 1 * k.val = k.val; omega

/-- The rows of argument 1 that a point reads, at an index. -/
theorem rows1_apply (c : Dev nD) (t : Fin cfg0.N) (r : Fin 512) (k : Fin 4096) (R : Fin 16384)
    (hR : R.val = win0_3.index t 0 * 512 + r.val) :
    iblk m c 1 t (ValueIdx.ix2 r k) = m ((c : Thread nD τ).loc main_arg1) (ValueIdx.ix2 R k) := by
  unfold iblk
  rw [View.read_apply]
  show V m c main_arg1 _ = _
  rw [V_main_arg1]
  refine congrArg (m ((c : Thread nD τ).loc main_arg1)) (funext fun a => Fin.ext ?_)
  obtain ⟨-, -, h0, h1, -⟩ := blocks_at t
  match a with
  | ⟨0, _⟩ => show win0_1.index t 0 * 512 + 1 * r.val = R.val; omega
  | ⟨1, _⟩ => show win0_1.index t 1 * 4096 + 1 * k.val = k.val; omega

/-- The gain's block at a point, at an index: the gain laid out as one row. -/
theorem gains_apply (c : Dev nD) (t : Fin cfg0.N) (j : Fin 4096) :
    iblk m c 2 t (ValueIdx.ix2 (0 : Fin 1) j) = m ((c : Thread nD τ).loc main_arg2) (ValueIdx.ix1 j) := by
  unfold iblk
  rw [View.read_apply]
  show V m c main_v0 _ = _
  rw [show V m c main_v0 = (shapeCast S1x4096 (m ((c : Thread nD τ).loc main_arg2) : FVec Ideal S4096 .f32) shapeCasts_S4096_S1x4096 : FVec Ideal S1x4096 .f32) from rfl]
  refine Eq.trans (congrArg (shapeCast S1x4096 (m ((c : Thread nD τ).loc main_arg2) : FVec Ideal S4096 .f32) shapeCasts_S4096_S1x4096)
    (funext fun a => Fin.ext ?_ : _ = ValueIdx.ix2 (0 : Fin 1) j)) (ValueIdx.shapeCast_a_1a_apply _ _ _ _)
  obtain ⟨-, -, -, -, h0, h1, -⟩ := blocks_at t
  match a with
  | ⟨0, _⟩ => show win0_2.index t 0 * 1 + 1 * 0 = 0; omega
  | ⟨1, _⟩ => show win0_2.index t 1 * 4096 + 1 * j.val = j.val; omega

/-- What a point writes back at an index of its block is the normed row at that index's place in the array. -/
theorem point_apply (c : Dev nD) (t : Fin cfg0.N) (r : Fin 512) (s : Fin 4096) (e : S16384x4096.Idx)
    (h0 : (e 0).val = win0_3.index t 0 * 512 + r.val) (h1 : e 1 = s) :
    out0_3 (iblk m c 0 t) (iblk m c 1 t) (iblk m c 2 t) (ValueIdx.ix2 r s) = lastNorm (m ((c : Thread nD τ).loc main_arg0)) (m ((c : Thread nD τ).loc main_arg1)) (m ((c : Thread nD τ).loc main_arg2)) e := by
  rw [out_apply]
  unfold lastNorm
  rw [h1, show (fun j => iblk m c 2 t (ValueIdx.ix2 (0 : Fin 1) j)) = fun j => m ((c : Thread nD τ).loc main_arg2) (ValueIdx.ix1 j) from funext fun j => gains_apply m c t j]
  refine congrArg (fun z => Cert.RowNorm.normed z _ s) (funext fun k => ?_)
  rw [rows0_apply m c t r k (e 0) h0, rows1_apply m c t r k (e 0) h0]

/-- The result array after the run. -/
theorem final (c : Dev nD) : (dats m 0 c).arrAt 3 cfg0.N = lastNorm (m ((c : Thread nD τ).loc main_arg0)) (m ((c : Thread nD τ).loc main_arg1)) (m ((c : Thread nD τ).loc main_arg2)) := by
  refine (dats m 0 c).arrAt_eq_of_cover 3 _ (fun t _ => ?_) fun i => ?_
  · rw [Value.flushed3]
    funext y
    show out0_3 (iblk m c 0 t) (iblk m c 1 t) (iblk m c 2 t) y = _
    obtain ⟨r, s, rfl⟩ : ∃ (r : Fin 512) (s : Fin 4096), y = ValueIdx.ix2 r s := ⟨y 0, y 1, ValueIdx.eq_ix2 y⟩
    rw [View.read_apply, cast_eq]
    obtain ⟨-, -, -, -, -, -, h1⟩ := blocks_at t
    refine point_apply m c t r s (((cfg0.win 3).blk t).view.emb (ValueIdx.ix2 r s)) ?_ (Fin.ext ?_)
    · show win0_3.index t 0 * 512 + 1 * r.val = _; omega
    · show win0_3.index t 1 * 4096 + 1 * s.val = _; omega
  · have h0 : (i 0 : Nat) < 16384 := (i 0).isLt
    have h1 : (i 1 : Nat) < 4096 := (i 1).isLt
    obtain ⟨t, hf, ha⟩ := block_hit ⟨(i 0 : Nat) / 512, by omega⟩
    obtain ⟨-, -, -, -, -, -, hb⟩ := blocks_at t
    refine ⟨t, hf, ?_⟩
    show i ∈ ((View.whole main_v1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [ha]; dsimp only; omega
    | ⟨1, _⟩ => show win0_3.index t 1 * 4096 ≤ (i 1 : Nat) ∧ (i 1 : Nat) < win0_3.index t 1 * 4096 + 4096; rw [hb]; omega

/-- The reference's term is the normed array. -/
theorem reference_eq (x : FVec Ideal S16384x4096 .f32) (y : FVec Ideal S16384x4096 .bf16) (g : FVec Ideal S4096 .f32) :
    Cert.RowNorm.hostNorm (addf x (extf .f32 y bitsLt_bf16_f32)) g = lastNorm x y g := by
  funext i
  obtain ⟨r, s, rfl⟩ : ∃ (r : Fin 16384) (s : Fin 4096), i = ValueIdx.ix2 r s := ⟨i 0, i 1, ValueIdx.eq_ix2 i⟩
  exact Cert.RowNorm.hostNorm_apply (addf x (extf .f32 y bitsLt_bf16_f32)) g r s

end Cert.LastHand

end
-- ==== Proof.Claims.lean ====
/- The claims about the five projections and the final norm: each kernel's frame is the generated one; each equality sets the hand reading of the
   kernel's result beside the hand reading of its reference's. -/
module

public import proofs.«01_k».proof.Defs
public import proofs.«01_k».proof.Proof.Gen.InS5.Frame
public import proofs.«01_k».proof.Proof.InS5
public import proofs.«01_k».proof.Proof.Gen.InGm.Frame
public import proofs.«01_k».proof.Proof.InGm
public import proofs.«01_k».proof.Proof.Gen.Out.Frame
public import proofs.«01_k».proof.Proof.Out
public import proofs.«01_k».proof.Proof.Gen.Query.Frame
public import proofs.«01_k».proof.Proof.Query
public import proofs.«01_k».proof.Proof.Gen.Glu.Frame
public import proofs.«01_k».proof.Proof.Glu
public import proofs.«01_k».proof.Proof.Gen.Last.Frame
public import proofs.«01_k».proof.Proof.Last
public import Idealize.ShloMosaic.Lib.Quiescent

@[expose] public section

noncomputable section

namespace Cert.Projections

open Idealize.ShloMosaic Idealize.ShloMosaic.TcCoe Idealize.SL.Sem

/-- The reference of the first input projection runs, its arguments unchanged, every counter back at zero. -/
theorem ref_frame_InS5 : Cert.quiescent_RefInS5Ideal := fun m ρ _ =>
  (θ_run (Cert.RefInS5Ideal.defs (F := Ideal)) _ _).mono
    (fun r h => ⟨fun c => (h c).2, Idealize.ShloMosaic.sem_eq_zero_of_no_sems (by decide) r.2⟩)
    (Cert.RefInS5Ideal.Value.run (F := Ideal) m ρ)

/-- The kernel of the first input projection and its reference end with equal results over the extended reals. -/
theorem equal_InS5 : Cert.algebraic_InS5Ideal_RefInS5Ideal := by
  intro m ρ m' ρ' _ hagree
  refine ⟨fun c => Cert.InS5Hand.proj (m ((c.tc : Thread Cert.InS5Ideal.nD Cert.InS5Ideal.τ).loc Cert.InS5Ideal.main_arg0)) (m ((c.tc : Thread Cert.InS5Ideal.nD Cert.InS5Ideal.τ).loc Cert.InS5Ideal.main_arg1)), ?_, ?_⟩
  · exact (θ_run (Cert.InS5Ideal.defs (F := Ideal)) _ _).mono
      (fun r h c => ⟨(h c).1.trans (Cert.InS5Hand.final m c), (h c).2⟩) (Cert.InS5Ideal.Value.run_blocks (F := Ideal) m ρ)
  · refine (θ_run (Cert.RefInS5Ideal.defs (F := Ideal)) _ _).mono (fun r h c => ⟨(h c).1.trans ?_, (h c).2⟩)
      (Cert.RefInS5Ideal.Value.run (F := Ideal) m' ρ')
    rw [(hagree c).1, (hagree c).2]
    exact Cert.InS5Hand.reference_eq _ _

/-- The reference of the second input projection with its GELU runs, its arguments unchanged, every counter back at zero. -/
theorem ref_frame_InGm : Cert.quiescent_RefInGmIdeal := fun m ρ _ =>
  (θ_run (Cert.RefInGmIdeal.defs (F := Ideal)) _ _).mono
    (fun r h => ⟨fun c => (h c).2, Idealize.ShloMosaic.sem_eq_zero_of_no_sems (by decide) r.2⟩)
    (Cert.RefInGmIdeal.Value.run (F := Ideal) m ρ)

/-- The kernel of the second input projection with its GELU and its reference end with equal results over the extended reals. -/
theorem equal_InGm : Cert.algebraic_InGmIdeal_RefInGmIdeal := by
  intro m ρ m' ρ' _ hagree
  refine ⟨fun c => Cert.InGmHand.act (m ((c.tc : Thread Cert.InGmIdeal.nD Cert.InGmIdeal.τ).loc Cert.InGmIdeal.main_arg0)) (m ((c.tc : Thread Cert.InGmIdeal.nD Cert.InGmIdeal.τ).loc Cert.InGmIdeal.main_arg1)), ?_, ?_⟩
  · exact (θ_run (Cert.InGmIdeal.defs (F := Ideal)) _ _).mono
      (fun r h c => ⟨(h c).1.trans (Cert.InGmHand.final m c), (h c).2⟩) (Cert.InGmIdeal.Value.run_blocks (F := Ideal) m ρ)
  · refine (θ_run (Cert.RefInGmIdeal.defs (F := Ideal)) _ _).mono (fun r h c => ⟨(h c).1.trans ?_, (h c).2⟩)
      (Cert.RefInGmIdeal.Value.run (F := Ideal) m' ρ')
    rw [(hagree c).1, (hagree c).2]
    refine (Cert.InGmHand.gelu_eq _).trans (funext fun i => ?_)
    rw [Cert.InGmHand.product_eq]
    rfl

/-- The reference of the output projection with its residual runs, its arguments unchanged, every counter back at zero. -/
theorem ref_frame_Out : Cert.quiescent_RefOutIdeal := fun m ρ _ =>
  (θ_run (Cert.RefOutIdeal.defs (F := Ideal)) _ _).mono
    (fun r h => ⟨fun c => (h c).2, Idealize.ShloMosaic.sem_eq_zero_of_no_sems (by decide) r.2⟩)
    (Cert.RefOutIdeal.Value.run (F := Ideal) m ρ)

/-- The kernel of the output projection with its residual and its reference end with equal results over the extended reals. -/
theorem equal_Out : Cert.algebraic_OutIdeal_RefOutIdeal := by
  intro m ρ m' ρ' _ hagree
  refine ⟨fun c => Cert.OutHand.mixed (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact (θ_run (Cert.OutIdeal.defs (F := Ideal)) _ _).mono
      (fun r h c => ⟨(h c).1.trans (Cert.OutHand.final m c), (h c).2⟩) (Cert.OutIdeal.Value.run_blocks (F := Ideal) m ρ)
  · refine (θ_run (Cert.RefOutIdeal.defs (F := Ideal)) _ _).mono (fun r h c => ⟨(h c).1.trans ?_, (h c).2⟩)
      (Cert.RefOutIdeal.Value.run (F := Ideal) m' ρ')
    rw [(hagree c).1, (hagree c).2.1, (hagree c).2.2.1, (hagree c).2.2.2]
    exact Cert.OutHand.reference_eq _ _ _ _

/-- The reference of the query projection runs, its arguments unchanged, every counter back at zero. -/
theorem ref_frame_Query : Cert.quiescent_RefQueryIdeal := fun m ρ _ =>
  (θ_run (Cert.RefQueryIdeal.defs (F := Ideal)) _ _).mono
    (fun r h => ⟨fun c => (h c).2, Idealize.ShloMosaic.sem_eq_zero_of_no_sems (by decide) r.2⟩)
    (Cert.RefQueryIdeal.Value.run (F := Ideal) m ρ)

/-- The kernel of the query projection and its reference end with equal results over the extended reals. -/
theorem equal_Query : Cert.algebraic_QueryIdeal_RefQueryIdeal := by
  intro m ρ m' ρ' _ hagree
  refine ⟨fun c => Cert.QueryHand.proj (m ((c.tc : Thread Cert.QueryIdeal.nD Cert.QueryIdeal.τ).loc Cert.QueryIdeal.main_arg0)) (m ((c.tc : Thread Cert.QueryIdeal.nD Cert.QueryIdeal.τ).loc Cert.QueryIdeal.main_arg1)), ?_, ?_⟩
  · exact (θ_run (Cert.QueryIdeal.defs (F := Ideal)) _ _).mono
      (fun r h c => ⟨(h c).1.trans (Cert.QueryHand.final m c), (h c).2⟩) (Cert.QueryIdeal.Value.run_blocks (F := Ideal) m ρ)
  · refine (θ_run (Cert.RefQueryIdeal.defs (F := Ideal)) _ _).mono (fun r h c => ⟨(h c).1.trans ?_, (h c).2⟩)
      (Cert.RefQueryIdeal.Value.run (F := Ideal) m' ρ')
    rw [(hagree c).1, (hagree c).2]
    exact Cert.QueryHand.reference_eq _ _

/-- The reference of the gate and the norm after it runs, its arguments unchanged, every counter back at zero. -/
theorem ref_frame_Glu : Cert.quiescent_RefGluIdeal := fun m ρ _ =>
  (θ_run (Cert.RefGluIdeal.defs (F := Ideal)) _ _).mono
    (fun r h => ⟨fun c => (h c).2, Idealize.ShloMosaic.sem_eq_zero_of_no_sems (by decide) r.2⟩)
    (Cert.RefGluIdeal.Value.run (F := Ideal) m ρ)

/-- The kernel of the gate and the norm after it and its reference end with equal results over the extended reals. -/
theorem equal_Glu : Cert.algebraic_GluIdeal_RefGluIdeal := by
  intro m ρ m' ρ' _ hagree
  refine ⟨fun c => Cert.GluHand.glu (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)), ?_, ?_⟩
  · exact (θ_run (Cert.GluIdeal.defs (F := Ideal)) _ _).mono
      (fun r h c => ⟨(h c).1.trans (Cert.GluHand.final m c), (h c).2⟩) (Cert.GluIdeal.Value.run_blocks (F := Ideal) m ρ)
  · refine (θ_run (Cert.RefGluIdeal.defs (F := Ideal)) _ _).mono (fun r h c => ⟨(h c).1.trans ?_, (h c).2⟩)
      (Cert.RefGluIdeal.Value.run (F := Ideal) m' ρ')
    rw [(hagree c).1, (hagree c).2.1, (hagree c).2.2]
    exact Cert.GluHand.reference_eq _ _ _

/-- The reference of the final norm runs, its arguments unchanged, every counter back at zero. -/
theorem ref_frame_Last : Cert.quiescent_RefLastIdeal := fun m ρ _ =>
  (θ_run (Cert.RefLastIdeal.defs (F := Ideal)) _ _).mono
    (fun r h => ⟨fun c => (h c).2, Idealize.ShloMosaic.sem_eq_zero_of_no_sems (by decide) r.2⟩)
    (Cert.RefLastIdeal.Value.run (F := Ideal) m ρ)

/-- The kernel of the final norm and its reference end with equal results over the extended reals. -/
theorem equal_Last : Cert.algebraic_LastIdeal_RefLastIdeal := by
  intro m ρ m' ρ' _ hagree
  refine ⟨fun c => Cert.LastHand.lastNorm (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)), ?_, ?_⟩
  · exact (θ_run (Cert.LastIdeal.defs (F := Ideal)) _ _).mono
      (fun r h c => ⟨(h c).1.trans (Cert.LastHand.final m c), (h c).2⟩) (Cert.LastIdeal.Value.run_blocks (F := Ideal) m ρ)
  · refine (θ_run (Cert.RefLastIdeal.defs (F := Ideal)) _ _).mono (fun r h c => ⟨(h c).1.trans ?_, (h c).2⟩)
      (Cert.RefLastIdeal.Value.run (F := Ideal) m' ρ')
    rw [(hagree c).1, (hagree c).2.1, (hagree c).2.2]
    exact Cert.LastHand.reference_eq _ _ _

end Cert.Projections

end
-- ==== Proof.lean ====
module

public import proofs.«01_k».proof.Proof.Gen.InS5Ideal.Value
public import proofs.«01_k».proof.Proof.Gen.RefInS5Ideal.Run
public import proofs.«01_k».proof.Proof.Gen.InGmIdeal.Value
public import proofs.«01_k».proof.Proof.Gen.RefInGmIdeal.Run
public import proofs.«01_k».proof.Proof.Gen.OutIdeal.Value
public import proofs.«01_k».proof.Proof.Gen.RefOutIdeal.Run
public import proofs.«01_k».proof.Proof.Gen.QueryIdeal.Value
public import proofs.«01_k».proof.Proof.Gen.RefQueryIdeal.Run
public import proofs.«01_k».proof.Proof.Gen.GluIdeal.Value
public import proofs.«01_k».proof.Proof.Gen.RefGluIdeal.Run
public import proofs.«01_k».proof.Proof.Gen.RefPeerIdeal.Value
public import proofs.«01_k».proof.Proof.Gen.LastIdeal.Value
public import proofs.«01_k».proof.Proof.Gen.RefLastIdeal.Run
public import proofs.«01_k».proof.Defs
public import proofs.«01_k».proof.Proof.ExpertsClaims
public import proofs.«01_k».proof.Proof.Claims
public import proofs.«01_k».proof.Proof.Gen.InS5
public import proofs.«01_k».proof.Proof.Gen.InS5.Skeleton
public import proofs.«01_k».proof.Proof.Gen.InS5.Launch
public import proofs.«01_k».proof.Proof.Gen.InS5.Points
public import proofs.«01_k».proof.Proof.Gen.InS5.Frame
public import proofs.«01_k».proof.Proof.Gen.InS5Ideal
public import proofs.«01_k».proof.Proof.Gen.InS5Ideal.Skeleton
public import proofs.«01_k».proof.Proof.Gen.InS5Ideal.Launch
public import proofs.«01_k».proof.Proof.Gen.InS5Ideal.Points
public import proofs.«01_k».proof.Proof.Gen.InS5Ideal.Frame
public import proofs.«01_k».proof.Proof.Gen.RefInS5Ideal
public import proofs.«01_k».proof.Proof.Gen.InGm
public import proofs.«01_k».proof.Proof.Gen.InGm.Skeleton
public import proofs.«01_k».proof.Proof.Gen.InGm.Launch
public import proofs.«01_k».proof.Proof.Gen.InGm.Points
public import proofs.«01_k».proof.Proof.Gen.InGm.Frame
public import proofs.«01_k».proof.Proof.Gen.InGmIdeal
public import proofs.«01_k».proof.Proof.Gen.InGmIdeal.Skeleton
public import proofs.«01_k».proof.Proof.Gen.InGmIdeal.Launch
public import proofs.«01_k».proof.Proof.Gen.InGmIdeal.Points
public import proofs.«01_k».proof.Proof.Gen.InGmIdeal.Frame
public import proofs.«01_k».proof.Proof.Gen.RefInGmIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOutIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.RefQueryIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.RefGluIdeal
public import proofs.«01_k».proof.Proof.Gen.Peer
public import proofs.«01_k».proof.Proof.Gen.Peer.Launch
public import proofs.«01_k».proof.Proof.Gen.Peer.Points
public import proofs.«01_k».proof.Proof.Gen.Peer.Frame
public import proofs.«01_k».proof.Proof.Gen.PeerIdeal
public import proofs.«01_k».proof.Proof.Gen.PeerIdeal.Skeleton
public import proofs.«01_k».proof.Proof.Gen.PeerIdeal.Launch
public import proofs.«01_k».proof.Proof.Gen.PeerIdeal.Points
public import proofs.«01_k».proof.Proof.Gen.PeerIdeal.Frame
public import proofs.«01_k».proof.Proof.Gen.RefPeerIdeal
public import proofs.«01_k».proof.Proof.Gen.RefPeerIdeal.Skeleton
public import proofs.«01_k».proof.Proof.Gen.RefPeerIdeal.Launch
public import proofs.«01_k».proof.Proof.Gen.RefPeerIdeal.Points
public import proofs.«01_k».proof.Proof.Gen.RefPeerIdeal.Frame
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.RefLastIdeal
public import Idealize.ShloMosaic.Adequacy
public import Idealize.ShloMosaic.Init

@[expose] public section

noncomputable section

namespace Cert.Proof

open Idealize.ShloMosaic Idealize.SL.Sem Cert.InS5

theorem claim : Cert.Claim := ⟨Cert.InS5.Gen.facts, Cert.InS5Ideal.Gen.facts, Cert.RefInS5Ideal.Gen.facts, Cert.InGm.Gen.facts, Cert.InGmIdeal.Gen.facts, Cert.RefInGmIdeal.Gen.facts, Cert.Out.Gen.facts, Cert.OutIdeal.Gen.facts, Cert.RefOutIdeal.Gen.facts, Cert.Query.Gen.facts, Cert.QueryIdeal.Gen.facts, Cert.RefQueryIdeal.Gen.facts, Cert.Glu.Gen.facts, Cert.GluIdeal.Gen.facts, Cert.RefGluIdeal.Gen.facts, Cert.Peer.Gen.facts, Cert.PeerIdeal.Gen.facts, Cert.RefPeerIdeal.Gen.facts, Cert.Last.Gen.facts, Cert.LastIdeal.Gen.facts, Cert.RefLastIdeal.Gen.facts,
    fun m ρ _ => Cert.InS5.Gen.frame m ρ, fun m ρ _ => Cert.InS5Ideal.Gen.frame m ρ, Cert.Projections.ref_frame_InS5,
    fun m ρ _ => Cert.InGm.Gen.frame m ρ, fun m ρ _ => Cert.InGmIdeal.Gen.frame m ρ, Cert.Projections.ref_frame_InGm,
    fun m ρ _ => Cert.Out.Gen.frame m ρ, fun m ρ _ => Cert.OutIdeal.Gen.frame m ρ, Cert.Projections.ref_frame_Out,
    fun m ρ _ => Cert.Query.Gen.frame m ρ, fun m ρ _ => Cert.QueryIdeal.Gen.frame m ρ, Cert.Projections.ref_frame_Query,
    fun m ρ _ => Cert.Glu.Gen.frame m ρ, fun m ρ _ => Cert.GluIdeal.Gen.frame m ρ, Cert.Projections.ref_frame_Glu,
    Cert.ExpertsClaims.frame_bits, Cert.ExpertsClaims.frame_ideal, Cert.ExpertsClaims.frame_plain,
    fun m ρ _ => Cert.Last.Gen.frame m ρ, fun m ρ _ => Cert.LastIdeal.Gen.frame m ρ, Cert.Projections.ref_frame_Last,
    trivial, Cert.Projections.equal_InS5,
    trivial, Cert.Projections.equal_InGm,
    trivial, Cert.Projections.equal_Out,
    trivial, Cert.Projections.equal_Query,
    trivial, Cert.Projections.equal_Glu,
    trivial, Cert.ExpertsClaims.equal_Peer,
    trivial, Cert.Projections.equal_Last⟩

end Cert.Proof

end
